-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_v12) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def algebraic_Kernel6Ideal_Reference12Ideal [hKernel6Ideal : Cert.Kernel6Ideal.Facts] [hReference12Ideal : Cert.Reference12Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel6Ideal m →
    (∀ c : Dev Cert.Kernel6Ideal.nD,
      m' ((c.tc : Thread Cert.Reference12Ideal.nD Cert.Reference12Ideal.τ).loc Cert.Reference12Ideal.main_arg0) = m ((c.tc : Thread Cert.Kernel6Ideal.nD Cert.Kernel6Ideal.τ).loc Cert.Kernel6Ideal.main_arg0)
      ∧ m' ((c.tc : Thread Cert.Reference12Ideal.nD Cert.Reference12Ideal.τ).loc Cert.Reference12Ideal.main_arg1) = m ((c.tc : Thread Cert.Kernel6Ideal.nD Cert.Kernel6Ideal.τ).loc Cert.Kernel6Ideal.main_arg1)
      ∧ m' ((c.tc : Thread Cert.Reference12Ideal.nD Cert.Reference12Ideal.τ).loc Cert.Reference12Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v35) = v1 c
          ∧ r.2.mem ((c.tc : Thread Cert.Reference16Ideal.nD Cert.Reference16Ideal.τ).loc Cert.Reference16Ideal.main_v17) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v48) = v0 c
          ∧ r.2.mem ((c.tc : Thread Cert.Reference20Ideal.nD Cert.Reference20Ideal.τ).loc Cert.Reference20Ideal.main_v49) = v1 c
          ∧ r.2.mem ((c.tc : Thread Cert.Reference20Ideal.nD Cert.Reference20Ideal.τ).loc Cert.Reference20Ideal.main_v32) = v2 c
          ∧ r.2.mem ((c.tc : Thread Cert.Reference20Ideal.nD Cert.Reference20Ideal.τ).loc Cert.Reference20Ideal.main_v50) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v42) = v0 c
          ∧ r.2.mem ((c.tc : Thread Cert.Reference21Ideal.nD Cert.Reference21Ideal.τ).loc Cert.Reference21Ideal.main_v61) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite14 : Cert.Pre_finite14.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ algebraic_Kernel6Ideal_Reference12Ideal (hKernel6Ideal := hKernel6Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite14.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x2048 .bf16) (main_arg1 : FVec F S5632x2048 .bf16) (main_arg2 : FVec F S2048x5632 .bf16) (main_arg3 : FVec F S2048x5632 .bf16) : IVec S_ 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S5632x2048 .bf16 := Host.absf main_arg1
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S2048x5632 .bf16 := Host.absf main_arg3
  let main_cst_2 : FVec F S_ .bf16 := constant S_ .bf16 0x7F80#16
  let main_v10 : FVec F S2048x5632 .bf16 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  main_v13
-- ==== Kernel.lean ====
abbrev S2048x12800 : Shape := ⟨2, ![2048, 12800]⟩
abbrev S2048x128 : Shape := ⟨2, ![2048, 128]⟩
abbrev S16x1024 : Shape := ⟨2, ![16, 1024]⟩
abbrev S1x1024 : Shape := ⟨2, ![1, 1024]⟩
abbrev S2048x2048 : Shape := ⟨2, ![2048, 2048]⟩
abbrev S_ : Shape := ⟨0, ![]⟩
abbrev S128x1024 : Shape := ⟨2, ![128, 1024]⟩
abbrev S32x4x512x256 : Shape := ⟨4, ![32, 4, 512, 256]⟩
abbrev S64x512 : Shape := ⟨2, ![64, 512]⟩
abbrev S64x128 : Shape := ⟨2, ![64, 128]⟩
abbrev S64x2048 : Shape := ⟨2, ![64, 2048]⟩
abbrev S1x4x512x256 : Shape := ⟨4, ![1, 4, 512, 256]⟩
abbrev S4x512x256 : Shape := ⟨3, ![4, 512, 256]⟩
abbrev S64x1024 : Shape := ⟨2, ![64, 1024]⟩
abbrev S64x64 : Shape := ⟨2, ![64, 64]⟩
abbrev S64x256 : Shape := ⟨2, ![64, 256]⟩
abbrev S1x64x256 : Shape := ⟨3, ![1, 64, 256]⟩
abbrev S4x64x256 : Shape := ⟨3, ![4, 64, 256]⟩
abbrev S4x1x256 : Shape := ⟨3, ![4, 1, 256]⟩
abbrev S1x64x512 : Shape := ⟨3, ![1, 64, 512]⟩
abbrev S4x64x512 : Shape := ⟨3, ![4, 64, 512]⟩
abbrev S1x64x64 : Shape := ⟨3, ![1, 64, 64]⟩
abbrev S4x64x64 : Shape := ⟨3, ![4, 64, 64]⟩
abbrev S4x256 : Shape := ⟨2, ![4, 256]⟩
abbrev S1024 : Shape := ⟨1, ![1024]⟩

abbrev nBuf : Space → Nat
  | .hbm => 16
  | .vmem => 58
  | .smem => 0
  | _ => 0

abbrev bufTy : (tb : Table) → Fin (tcTables nBuf tb) → BufTy
  | .hbm, ⟨0, _⟩ => ⟨S2048x12800, .f32⟩
  | .hbm, ⟨1, _⟩ => ⟨S2048x128, .f32⟩
  | .hbm, ⟨2, _⟩ => ⟨S16x1024, .f32⟩
  | .hbm, ⟨3, _⟩ => ⟨S1x1024, .f32⟩
  | .hbm, ⟨4, _⟩ => ⟨S2048x2048, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S2048x2048, .f32⟩
  | .hbm, ⟨9, _⟩ => ⟨S32x4x512x256, .f32⟩
  | .hbm, ⟨10, _⟩ => ⟨S2048x2048, .bf16⟩
  | .hbm, ⟨11, _⟩ => ⟨S2048x2048, .bf16⟩
  | .hbm, ⟨12, _⟩ => ⟨S2048x128, .bf16⟩
  | .hbm, ⟨13, _⟩ => ⟨S128x1024, .f32⟩
  | .hbm, ⟨14, _⟩ => ⟨S1x1024, .f32⟩
  | .hbm, ⟨15, _⟩ => ⟨S16x1024, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x128, .f32⟩
  | .local _ .vmem, ⟨17, _⟩ => ⟨S64x128, .f32⟩
  | .local _ .vmem, ⟨18, _⟩ => ⟨S128x1024, .f32⟩
  | .local _ .vmem, ⟨19, _⟩ => ⟨S1x1024, .f32⟩
  | .local _ .vmem, ⟨20, _⟩ => ⟨S64x2048, .f32⟩
  | .local _ .vmem, ⟨21, _⟩ => ⟨S64x2048, .f32⟩
  | .local _ .vmem, ⟨22, _⟩ => ⟨S1x4x512x256, .f32⟩
  | .local _ .vmem, ⟨23, _⟩ => ⟨S1x4x512x256, .f32⟩
  | .local _ .vmem, ⟨24, _⟩ => ⟨S4x512x256, .f32⟩
  | .local _ .vmem, ⟨25, _⟩ => ⟨S64x512, .f32⟩
  | .local _ .vmem, ⟨26, _⟩ => ⟨S64x512, .f32⟩
  | .local _ .vmem, ⟨27, _⟩ => ⟨S64x512, .f32⟩
  | .local _ .vmem, ⟨28, _⟩ => ⟨S64x512, .f32⟩
  | .local _ .vmem, ⟨29, _⟩ => ⟨S64x512, .f32⟩
  | .local _ .vmem, ⟨30, _⟩ => ⟨S64x512, .f32⟩
  | .local _ .vmem, ⟨31, _⟩ => ⟨S64x512, .f32⟩
  | .local _ .vmem, ⟨32, _⟩ => ⟨S64x512, .f32⟩
  | .local _ .vmem, ⟨33, _⟩ => ⟨S64x512, .f32⟩
  | .local _ .vmem, ⟨34, _⟩ => ⟨S64x512, .f32⟩
  | .local _ .vmem, ⟨35, _⟩ => ⟨S64x512, .f32⟩
  | .local _ .vmem, ⟨36, _⟩ => ⟨S64x512, .f32⟩
  | .local _ .vmem, ⟨37, _⟩ => ⟨S64x512, .f32⟩
  | .local _ .vmem, ⟨38, _⟩ => ⟨S64x512, .f32⟩
  | .local _ .vmem, ⟨39, _⟩ => ⟨S64x512, .f32⟩
  | .local _ .vmem, ⟨40, _⟩ => ⟨S64x512, .f32⟩
  | .local _ .vmem, ⟨41, _⟩ => ⟨S64x128, .f32⟩
  | .local _ .vmem, ⟨42, _⟩ => ⟨S64x128, .f32⟩
  | .local _ .vmem, ⟨43, _⟩ => ⟨S128x1024, .f32⟩
  | .local _ .vmem, ⟨44, _⟩ => ⟨S1x1024, .f32⟩
  | .local _ .vmem, ⟨45, _⟩ => ⟨S1x4x512x256, .f32⟩
  | .local _ .vmem, ⟨46, _⟩ => ⟨S1x4x512x256, .f32⟩
  | .local _ .vmem, ⟨47, _⟩ => ⟨S64x2048, .f32⟩
  | .local _ .vmem, ⟨48, _⟩ => ⟨S64x2048, .f32⟩
  | .local _ .vmem, ⟨49, _⟩ => ⟨S64x2048, .bf16⟩
  | .local _ .vmem, ⟨50, _⟩ => ⟨S64x2048, .bf16⟩
  | .local _ .vmem, ⟨51, _⟩ => ⟨S64x2048, .bf16⟩
  | .local _ .vmem, ⟨52, _⟩ => ⟨S64x2048, .bf16⟩
  | .local _ .vmem, ⟨53, _⟩ => ⟨S64x128, .bf16⟩
  | .local _ .vmem, ⟨54, _⟩ => ⟨S64x128, .bf16⟩
  | .local _ .vmem, ⟨55, _⟩ => ⟨S128x1024, .f32⟩
  | .local _ .vmem, ⟨56, _⟩ => ⟨S1x1024, .f32⟩
  | .local _ .vmem, ⟨57, _⟩ => ⟨S4x512x256, .f32⟩
  | _, _ => ⟨S2048x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc1_stg6_0 : Ref sig .tc := ⟨.vmem, 37, rfl⟩
abbrev cc1_stg6_1 : Ref sig .tc := ⟨.vmem, 38, rfl⟩
abbrev cc1_stg7_0 : Ref sig .tc := ⟨.vmem, 39, rfl⟩
abbrev cc1_stg7_1 : Ref sig .tc := ⟨.vmem, 40, rfl⟩
abbrev cc1_stg8_0 : Ref sig .tc := ⟨.vmem, 41, rfl⟩
abbrev cc1_stg8_1 : Ref sig .tc := ⟨.vmem, 42, rfl⟩
abbrev cc1_stg9_0 : Ref sig .tc := ⟨.vmem, 43, rfl⟩
abbrev cc1_stg10_0 : Ref sig .tc := ⟨.vmem, 44, rfl⟩
abbrev cc1_stg11_0 : Ref sig .tc := ⟨.vmem, 45, rfl⟩
abbrev cc1_stg11_1 : Ref sig .tc := ⟨.vmem, 46, rfl⟩
abbrev cc1_stg12_0 : Ref sig .tc := ⟨.vmem, 47, rfl⟩
abbrev cc1_stg12_1 : Ref sig .tc := ⟨.vmem, 48, rfl⟩
abbrev cc1_stg13_0 : Ref sig .tc := ⟨.vmem, 49, rfl⟩
abbrev cc1_stg13_1 : Ref sig .tc := ⟨.vmem, 50, rfl⟩
abbrev cc1_stg14_0 : Ref sig .tc := ⟨.vmem, 51, rfl⟩
abbrev cc1_stg14_1 : Ref sig .tc := ⟨.vmem, 52, rfl⟩
abbrev cc1_stg15_0 : Ref sig .tc := ⟨.vmem, 53, rfl⟩
abbrev cc1_stg15_1 : Ref sig .tc := ⟨.vmem, 54, rfl⟩
abbrev cc1_stg16_0 : Ref sig .tc := ⟨.vmem, 55, rfl⟩
abbrev cc1_stg17_0 : Ref sig .tc := ⟨.vmem, 56, rfl⟩
abbrev cc1_scratch0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem8_1 : DmaSem sig := 41
abbrev cc1_sem9_0 : DmaSem sig := 42
abbrev cc1_sem10_0 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem17_0 : DmaSem sig := 55

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c7_i32 : BitVec 32 := 7#32
  let c0_i32 : BitVec 32 := 0#32
  ![v0.toNat, c7_i32.toNat]

def cc1_transform_3 (i : grid1.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let c0_i32 : BitVec 32 := 0#32
  ![v0.toNat, c8_i32.toNat]

def cc1_transform_4 (i : grid1.Coords) : Fin 2 → Nat :=
  let arg0 : BitVec 32 := BitVec.ofNat 32 (i 0).val
  let c31_i32 : BitVec 32 := 31#32
  let v0 : BitVec 32 := Scalar.subi c31_i32 arg0
  let c9_i32 : BitVec 32 := 9#32
  let c0_i32 : BitVec 32 := 0#32
  ![v0.toNat, c9_i32.toNat]

def cc1_transform_5 (i : grid1.Coords) : Fin 2 → Nat :=
  let arg0 : BitVec 32 := BitVec.ofNat 32 (i 0).val
  let c31_i32 : BitVec 32 := 31#32
  let v0 : BitVec 32 := Scalar.subi c31_i32 arg0
  let c10_i32 : BitVec 32 := 10#32
  let c0_i32 : BitVec 32 := 0#32
  ![v0.toNat, c10_i32.toNat]

def cc1_transform_6 (i : grid1.Coords) : Fin 2 → Nat :=
  let arg0 : BitVec 32 := BitVec.ofNat 32 (i 0).val
  let c31_i32 : BitVec 32 := 31#32
  let v0 : BitVec 32 := Scalar.subi c31_i32 arg0
  let c11_i32 : BitVec 32 := 11#32
  let c0_i32 : BitVec 32 := 0#32
  ![v0.toNat, c11_i32.toNat]

def cc1_transform_7 (i : grid1.Coords) : Fin 2 → Nat :=
  let arg0 : BitVec 32 := BitVec.ofNat 32 (i 0).val
  let c31_i32 : BitVec 32 := 31#32
  let v0 : BitVec 32 := Scalar.subi c31_i32 arg0
  let c12_i32 : BitVec 32 := 12#32
  let c0_i32 : BitVec 32 := 0#32
  ![v0.toNat, c12_i32.toNat]

def cc1_transform_8 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_12 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_14 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_15 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S128x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x4x512x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S64x2048 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S64x2048 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S64x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S64x128 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S128x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== ReferenceIdeal.lean ====
abbrev S2048x12800 : Shape := ⟨2, ![2048, 12800]⟩
abbrev S2048x128 : Shape := ⟨2, ![2048, 128]⟩
abbrev S16x1024 : Shape := ⟨2, ![16, 1024]⟩
abbrev S1x1024 : Shape := ⟨2, ![1, 1024]⟩
abbrev S2048x2048 : Shape := ⟨2, ![2048, 2048]⟩
abbrev S2048x1024 : Shape := ⟨2, ![2048, 1024]⟩
abbrev S2048x16 : Shape := ⟨2, ![2048, 16]⟩
abbrev S_ : Shape := ⟨0, ![]⟩
abbrev S1x2048x4x256 : Shape := ⟨4, ![1, 2048, 4, 256]⟩
abbrev S1x2048x4x512 : Shape := ⟨4, ![1, 2048, 4, 512]⟩
abbrev S1x32x64x4x256 : Shape := ⟨5, ![1, 32, 64, 4, 256]⟩
abbrev S1x4x32x64x256 : Shape := ⟨5, ![1, 4, 32, 64, 256]⟩
abbrev S1x32x64x4x512 : Shape := ⟨5, ![1, 32, 64, 4, 512]⟩
abbrev S1x4x32x64x512 : Shape := ⟨5, ![1, 4, 32, 64, 512]⟩
abbrev S1x4x32x1x256 : Shape := ⟨5, ![1, 4, 32, 1, 256]⟩
abbrev S64x64 : Shape := ⟨2, ![64, 64]⟩
abbrev S1x4x32x64x64 : Shape := ⟨5, ![1, 4, 32, 64, 64]⟩
abbrev S1x4x32x256x512 : Shape := ⟨5, ![1, 4, 32, 256, 512]⟩
abbrev S1x4x32x256 : Shape := ⟨4, ![1, 4, 32, 256]⟩
abbrev S1x4x256x512 : Shape := ⟨4, ![1, 4, 256, 512]⟩
abbrev S32x1x4x256 : Shape := ⟨4, ![32, 1, 4, 256]⟩
abbrev S32x1x4x256x512 : Shape := ⟨5, ![32, 1, 4, 256, 512]⟩
abbrev S32x1x4x256x1 : Shape := ⟨5, ![32, 1, 4, 256, 1]⟩
abbrev S1x1x4x256 : Shape := ⟨4, ![1, 1, 4, 256]⟩
abbrev S1x4x256 : Shape := ⟨3, ![1, 4, 256]⟩
abbrev S1x1x4x256x512 : Shape := ⟨5, ![1, 1, 4, 256, 512]⟩
abbrev S1x4x256x1 : Shape := ⟨4, ![1, 4, 256, 1]⟩
abbrev S1x1x4x256x1 : Shape := ⟨5, ![1, 1, 4, 256, 1]⟩
abbrev S1x4x32x512x256 : Shape := ⟨5, ![1, 4, 32, 512, 256]⟩
abbrev S4x256 : Shape := ⟨2, ![4, 256]⟩
abbrev S1x4x32x512x64 : Shape := ⟨5, ![1, 4, 32, 512, 64]⟩
abbrev S1x4x32x256x64 : Shape := ⟨5, ![1, 4, 32, 256, 64]⟩
abbrev S1024 : Shape := ⟨1, ![1024]⟩
abbrev S1024x16 : Shape := ⟨2, ![1024, 16]⟩

abbrev nBuf : Space → Nat
  | .hbm => 312
  | .vmem => 0
  | .smem => 0
  | _ => 0

abbrev hbmTy0_0 (i : Nat) : BufTy := match i % 128 with
  | 0 => ⟨S2048x12800, .f32⟩
  | 1 => ⟨S2048x128, .f32⟩
  | 2 => ⟨S16x1024, .f32⟩
  | 3 => ⟨S1x1024, .f32⟩
  | 4 => ⟨S2048x2048, .f32⟩
  | 5 => ⟨S2048x1024, .f32⟩
  | 6 => ⟨S2048x1024, .f32⟩
  | 7 => ⟨S2048x2048, .f32⟩
  | 8 => ⟨S2048x16, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S2048x1024, .f32⟩
  | 18 => ⟨S2048x1024, .i1⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S_, .f32⟩
  | 28 => ⟨S2048x1024, .f32⟩
  | 29 => ⟨S2048x1024, .i1⟩
  | 30 => ⟨S_, .f32⟩
  | 31 => ⟨S2048x1024, .f32⟩
  | 32 => ⟨S2048x1024, .f32⟩
  | 33 => ⟨S_, .f32⟩
  | 34 => ⟨S2048x1024, .f32⟩
  | 35 => ⟨S2048x1024, .i1⟩
  | 36 => ⟨S_, .f32⟩
  | 37 => ⟨S2048x1024, .f32⟩
  | 38 => ⟨S2048x1024, .f32⟩
  | 39 => ⟨S2048x1024, .f32⟩
  | 40 => ⟨S2048x1024, .f32⟩
  | 41 => ⟨S_, .f32⟩
  | 42 => ⟨S_, .f32⟩
  | 43 => ⟨S_, .i1⟩
  | 44 => ⟨S_, .f32⟩
  | 45 => ⟨S_, .f32⟩
  | 46 => ⟨S_, .f32⟩
  | 47 => ⟨S_, .f32⟩
  | 48 => ⟨S2048x1024, .f32⟩
  | 49 => ⟨S2048x1024, .i1⟩
  | 50 => ⟨S_, .f32⟩
  | 51 => ⟨S2048x1024, .f32⟩
  | 52 => ⟨S2048x1024, .f32⟩
  | 53 => ⟨S2048x1024, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S1x2048x4x256, .f32⟩
  | 64 => ⟨S1x2048x4x256, .f32⟩
  | 65 => ⟨S1x2048x4x512, .f32⟩
  | 66 => ⟨S1x2048x4x256, .f32⟩
  | 67 => ⟨S1x32x64x4x256, .f32⟩
  | 68 => ⟨S1x4x32x64x256, .f32⟩
  | 69 => ⟨S_, .f32⟩
  | 70 => ⟨S1x4x32x64x256, .f32⟩
  | 71 => ⟨S1x4x32x64x256, .f32⟩
  | 72 => ⟨S1x32x64x4x256, .f32⟩
  | 73 => ⟨S1x4x32x64x256, .f32⟩
  | 74 => ⟨S1x32x64x4x512, .f32⟩
  | 75 => ⟨S1x4x32x64x512, .f32⟩
  | 76 => ⟨S1x32x64x4x256, .f32⟩
  | 77 => ⟨S1x4x32x64x256, .f32⟩
  | 78 => ⟨S_, .f32⟩
  | 79 => ⟨S_, .f32⟩
  | 80 => ⟨S1x4x32x64x256, .f32⟩
  | 81 => ⟨S1x4x32x1x256, .f32⟩
  | 82 => ⟨S1x4x32x64x256, .f32⟩
  | 83 => ⟨S1x4x32x64x256, .f32⟩
  | 84 => ⟨S1x4x32x64x256, .f32⟩
  | 85 => ⟨S1x4x32x64x256, .f32⟩
  | 86 => ⟨S1x4x32x64x256, .f32⟩
  | 87 => ⟨S1x4x32x64x256, .f32⟩
  | 88 => ⟨S1x4x32x64x256, .f32⟩
  | 89 => ⟨S1x4x32x64x256, .f32⟩
  | 90 => ⟨S1x4x32x64x256, .f32⟩
  | 91 => ⟨S_, .i1⟩
  | 92 => ⟨S64x64, .i1⟩
  | 93 => ⟨S64x64, .i32⟩
  | 94 => ⟨S_, .i32⟩
  | 95 => ⟨S64x64, .i32⟩
  | 96 => ⟨S64x64, .i32⟩
  | 97 => ⟨S64x64, .i32⟩
  | 98 => ⟨S64x64, .i1⟩
  | 99 => ⟨S_, .i1⟩
  | 100 => ⟨S64x64, .i1⟩
  | 101 => ⟨S64x64, .i1⟩
  | 102 => ⟨S1x4x32x64x64, .f32⟩
  | 103 => ⟨S_, .f32⟩
  | 104 => ⟨S_, .f32⟩
  | 105 => ⟨S1x4x32x64x64, .i1⟩
  | 106 => ⟨S1x4x32x64x64, .f32⟩
  | 107 => ⟨S1x4x32x64x64, .f32⟩
  | 108 => ⟨S_, .f32⟩
  | 109 => ⟨S1x4x32x64x64, .f32⟩
  | 110 => ⟨S1x4x32x64x512, .f32⟩
  | 111 => ⟨S1x4x32x256x512, .f32⟩
  | 112 => ⟨S1x4x32x256, .f32⟩
  | 113 => ⟨S1x4x32x256, .f32⟩
  | 114 => ⟨S_, .f32⟩
  | 115 => ⟨S1x4x256x512, .f32⟩
  | 116 => ⟨S32x1x4x256, .f32⟩
  | 117 => ⟨S32x1x4x256x512, .f32⟩
  | 118 => ⟨S_, .f32⟩
  | 119 => ⟨S32x1x4x256x512, .f32⟩
  | 120 => ⟨S_, .f32⟩
  | 121 => ⟨S32x1x4x256x1, .f32⟩
  | 122 => ⟨S_, .i32⟩
  | 123 => ⟨S32x1x4x256, .f32⟩
  | 124 => ⟨S32x1x4x256x512, .f32⟩
  | 125 => ⟨S_, .i32⟩
  | 126 => ⟨S1x4x256x512, .f32⟩
  | 127 => ⟨S32x1x4x256x512, .f32⟩
  | _ => ⟨S2048x12800, .f32⟩

abbrev hbmTy0_1 (i : Nat) : BufTy := match i % 128 with
  | 0 => ⟨S32x1x4x256x1, .f32⟩
  | 1 => ⟨S_, .i32⟩
  | 2 => ⟨S_, .i1⟩
  | 3 => ⟨S_, .i32⟩
  | 4 => ⟨S_, .i32⟩
  | 5 => ⟨S_, .i32⟩
  | 6 => ⟨S1x1x4x256, .f32⟩
  | 7 => ⟨S1x4x256, .f32⟩
  | 8 => ⟨S_, .i32⟩
  | 9 => ⟨S_, .i32⟩
  | 10 => ⟨S_, .i32⟩
  | 11 => ⟨S_, .i32⟩
  | 12 => ⟨S1x1x4x256x512, .f32⟩
  | 13 => ⟨S1x4x256x512, .f32⟩
  | 14 => ⟨S1x4x256x1, .f32⟩
  | 15 => ⟨S1x4x256x512, .f32⟩
  | 16 => ⟨S1x4x256x512, .f32⟩
  | 17 => ⟨S1x4x256x512, .f32⟩
  | 18 => ⟨S1x1x4x256x512, .f32⟩
  | 19 => ⟨S_, .i32⟩
  | 20 => ⟨S_, .i32⟩
  | 21 => ⟨S_, .i32⟩
  | 22 => ⟨S_, .i32⟩
  | 23 => ⟨S32x1x4x256x512, .f32⟩
  | 24 => ⟨S1x1x4x256x1, .f32⟩
  | 25 => ⟨S_, .i32⟩
  | 26 => ⟨S_, .i32⟩
  | 27 => ⟨S_, .i32⟩
  | 28 => ⟨S_, .i32⟩
  | 29 => ⟨S32x1x4x256x1, .f32⟩
  | 30 => ⟨S_, .i32⟩
  | 31 => ⟨S_, .i32⟩
  | 32 => ⟨S1x4x32x256x512, .f32⟩
  | 33 => ⟨S1x4x32x64x512, .f32⟩
  | 34 => ⟨S1x4x32x64x512, .f32⟩
  | 35 => ⟨S1x32x64x4x512, .f32⟩
  | 36 => ⟨S1x2048x4x512, .f32⟩
  | 37 => ⟨S2048x2048, .f32⟩
  | 38 => ⟨S_, .f32⟩
  | 39 => ⟨S1x4x256x512, .f32⟩
  | 40 => ⟨S1x2048x4x512, .f32⟩
  | 41 => ⟨S1x32x64x4x512, .f32⟩
  | 42 => ⟨S1x4x32x64x512, .f32⟩
  | 43 => ⟨S1x4x32x512x256, .f32⟩
  | 44 => ⟨S1x4x32x256x512, .f32⟩
  | 45 => ⟨S1x4x32x64x256, .f32⟩
  | 46 => ⟨S32x1x4x256x512, .f32⟩
  | 47 => ⟨S_, .f32⟩
  | 48 => ⟨S1x4x256x512, .f32⟩
  | 49 => ⟨S_, .f32⟩
  | 50 => ⟨S32x1x4x256, .f32⟩
  | 51 => ⟨S_, .f32⟩
  | 52 => ⟨S32x1x4x256x512, .f32⟩
  | 53 => ⟨S_, .i32⟩
  | 54 => ⟨S32x1x4x256x512, .f32⟩
  | 55 => ⟨S32x1x4x256x512, .f32⟩
  | 56 => ⟨S32x1x4x256x1, .f32⟩
  | 57 => ⟨S_, .i32⟩
  | 58 => ⟨S1x4x256x512, .f32⟩
  | 59 => ⟨S32x1x4x256, .f32⟩
  | 60 => ⟨S32x1x4x256x512, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S1x1x4x256x512, .f32⟩
  | 72 => ⟨S1x4x256x512, .f32⟩
  | 73 => ⟨S_, .i32⟩
  | 74 => ⟨S_, .i32⟩
  | 75 => ⟨S_, .i32⟩
  | 76 => ⟨S_, .i32⟩
  | 77 => ⟨S1x1x4x256x512, .f32⟩
  | 78 => ⟨S1x4x256x512, .f32⟩
  | 79 => ⟨S_, .i32⟩
  | 80 => ⟨S_, .i32⟩
  | 81 => ⟨S_, .i32⟩
  | 82 => ⟨S_, .i32⟩
  | 83 => ⟨S1x1x4x256x1, .f32⟩
  | 84 => ⟨S1x4x256x1, .f32⟩
  | 85 => ⟨S1x4x256x512, .f32⟩
  | 86 => ⟨S1x4x256x512, .f32⟩
  | 87 => ⟨S1x4x256x512, .f32⟩
  | 88 => ⟨S1x4x256x512, .f32⟩
  | 89 => ⟨S_, .f32⟩
  | 90 => ⟨S1x4x256, .f32⟩
  | 91 => ⟨S1x4x256x1, .f32⟩
  | 92 => ⟨S_, .f32⟩
  | 93 => ⟨S4x256, .f32⟩
  | 94 => ⟨S1x4x256, .f32⟩
  | 95 => ⟨S1x1x4x256, .f32⟩
  | 96 => ⟨S_, .i32⟩
  | 97 => ⟨S_, .i32⟩
  | 98 => ⟨S_, .i32⟩
  | 99 => ⟨S32x1x4x256, .f32⟩
  | 100 => ⟨S1x1x4x256x512, .f32⟩
  | 101 => ⟨S_, .i32⟩
  | 102 => ⟨S_, .i32⟩
  | 103 => ⟨S_, .i32⟩
  | 104 => ⟨S_, .i32⟩
  | 105 => ⟨S32x1x4x256x512, .f32⟩
  | 106 => ⟨S_, .i32⟩
  | 107 => ⟨S_, .i32⟩
  | 108 => ⟨S1x4x32x256x512, .f32⟩
  | 109 => ⟨S1x4x32x256, .f32⟩
  | 110 => ⟨S1x4x32x256, .f32⟩
  | 111 => ⟨S1x4x32x1x256, .f32⟩
  | 112 => ⟨S1x4x32x512x64, .f32⟩
  | 113 => ⟨S1x4x32x64x512, .f32⟩
  | 114 => ⟨S1x4x32x256x64, .f32⟩
  | 115 => ⟨S1x4x32x64x256, .f32⟩
  | 116 => ⟨S1x4x32x512x64, .f32⟩
  | 117 => ⟨S1x4x32x64x512, .f32⟩
  | 118 => ⟨S1x4x32x64x512, .f32⟩
  | 119 => ⟨S1x4x32x64x64, .f32⟩
  | 120 => ⟨S_, .f32⟩
  | 121 => ⟨S1x4x32x64x64, .f32⟩
  | 122 => ⟨S1x4x32x64x64, .f32⟩
  | 123 => ⟨S1x4x32x64x256, .f32⟩
  | 124 => ⟨S1x4x32x64x256, .f32⟩
  | 125 => ⟨S1x4x32x64x256, .f32⟩
  | 126 => ⟨S1x4x32x64x256, .f32⟩
  | 127 => ⟨S1x4x32x64x256, .f32⟩
  | _ => ⟨S2048x12800, .f32⟩

abbrev hbmTy0_2 (i : Nat) : BufTy := match i % 128 with
  | 0 => ⟨S1x4x32x64x256, .f32⟩
  | 1 => ⟨S_, .f32⟩
  | 2 => ⟨S1x4x32x256, .f32⟩
  | 3 => ⟨S1x4x32x1x256, .f32⟩
  | 4 => ⟨S1x4x32x64x256, .f32⟩
  | 5 => ⟨S1x4x32x1x256, .f32⟩
  | 6 => ⟨S1x4x32x64x256, .f32⟩
  | 7 => ⟨S1x4x32x64x256, .f32⟩
  | 8 => ⟨S1x4x32x64x256, .f32⟩
  | 9 => ⟨S1x4x32x64x256, .f32⟩
  | 10 => ⟨S1x4x32x64x256, .f32⟩
  | 11 => ⟨S1x4x32x64x256, .f32⟩
  | 12 => ⟨S1x4x32x64x256, .f32⟩
  | 13 => ⟨S1x4x32x64x256, .f32⟩
  | 14 => ⟨S1x4x32x64x256, .f32⟩
  | 15 => ⟨S1x4x32x64x256, .f32⟩
  | 16 => ⟨S_, .f32⟩
  | 17 => ⟨S1x4x32x64x256, .f32⟩
  | 18 => ⟨S1x4x32x64x256, .f32⟩
  | 19 => ⟨S_, .f32⟩
  | 20 => ⟨S_, .f32⟩
  | 21 => ⟨S1x4x32x64x256, .f32⟩
  | 22 => ⟨S1x32x64x4x256, .f32⟩
  | 23 => ⟨S1x2048x4x256, .f32⟩
  | 24 => ⟨S1x32x64x4x512, .f32⟩
  | 25 => ⟨S1x2048x4x512, .f32⟩
  | 26 => ⟨S1x32x64x4x256, .f32⟩
  | 27 => ⟨S1x2048x4x256, .f32⟩
  | 28 => ⟨S_, .f32⟩
  | 29 => ⟨S1x4x32x64x256, .f32⟩
  | 30 => ⟨S1x4x32x64x256, .f32⟩
  | 31 => ⟨S1x32x64x4x256, .f32⟩
  | 32 => ⟨S1x2048x4x256, .f32⟩
  | 33 => ⟨S2048x1024, .f32⟩
  | 34 => ⟨S2048x2048, .f32⟩
  | 35 => ⟨S2048x1024, .f32⟩
  | 36 => ⟨S2048x1024, .f32⟩
  | 37 => ⟨S_, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S_, .f32⟩
  | 44 => ⟨S1024, .f32⟩
  | 45 => ⟨S1x1024, .f32⟩
  | 46 => ⟨S1024x16, .f32⟩
  | 47 => ⟨S16x1024, .f32⟩
  | 48 => ⟨S2048x16, .f32⟩
  | 49 => ⟨S2048x2048, .f32⟩
  | 50 => ⟨S2048x2048, .bf16⟩
  | 51 => ⟨S_, .i32⟩
  | 52 => ⟨S_, .f32⟩
  | 53 => ⟨S2048x128, .f32⟩
  | 54 => ⟨S2048x128, .bf16⟩
  | 55 => ⟨S2048x2048, .bf16⟩
  | _ => ⟨S2048x12800, .f32⟩

abbrev hbmTy (i : Nat) : BufTy := match i / 128 with
  | 0 => hbmTy0_0 i
  | 1 => hbmTy0_1 i
  | 2 => hbmTy0_2 i
  | _ => ⟨S2048x12800, .f32⟩

abbrev bufTy : (tb : Table) → Fin (tcTables nBuf tb) → BufTy
  | .hbm, ⟨i, _⟩ => hbmTy i
  | _, _ => ⟨S2048x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1_0 : Ref sig .tc := ⟨.hbm, 26, rfl⟩
abbrev main_call0_call0_cst_0 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_call0_cst_1 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_cst_2 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_cst_3 : Ref sig .tc := ⟨.hbm, 36, rfl⟩
abbrev main_call0_call0_v19 : Ref sig .tc := ⟨.hbm, 37, rfl⟩
abbrev main_call0_call0_v20 : Ref sig .tc := ⟨.hbm, 38, rfl⟩
abbrev main_call0_call0_v21 : Ref sig .tc := ⟨.hbm, 39, rfl⟩
abbrev main_v7_1 : Ref sig .tc := ⟨.hbm, 40, rfl⟩
abbrev main_call0_call0_cst_4 : Ref sig .tc := ⟨.hbm, 41, rfl⟩
abbrev main_call0_call0_cst_5 : Ref sig .tc := ⟨.hbm, 42, rfl⟩
abbrev main_call0_call0_v23 : Ref sig .tc := ⟨.hbm, 43, rfl⟩
abbrev main_call0_call0_cst_6 : Ref sig .tc := ⟨.hbm, 44, rfl⟩
abbrev main_call0_call0_cst_7 : Ref sig .tc := ⟨.hbm, 45, rfl⟩
abbrev main_call0_call0_v24 : Ref sig .tc := ⟨.hbm, 46, rfl⟩
abbrev main_call0_call0_cst_8 : Ref sig .tc := ⟨.hbm, 47, rfl⟩
abbrev main_call0_call0_v25 : Ref sig .tc := ⟨.hbm, 48, rfl⟩
abbrev main_call0_call0_v26 : Ref sig .tc := ⟨.hbm, 49, rfl⟩
abbrev main_call0_call0_cst_9 : Ref sig .tc := ⟨.hbm, 50, rfl⟩
abbrev main_call0_call0_v27 : Ref sig .tc := ⟨.hbm, 51, rfl⟩
abbrev main_call0_call0_v28 : Ref sig .tc := ⟨.hbm, 52, rfl⟩
abbrev main_call0_call0_v29 : Ref sig .tc := ⟨.hbm, 53, rfl⟩
abbrev main_call0_call0_v30 : Ref sig .tc := ⟨.hbm, 54, rfl⟩
abbrev main_call0_call0_v31 : Ref sig .tc := ⟨.hbm, 55, rfl⟩
abbrev main_call0_call0_cst_10 : Ref sig .tc := ⟨.hbm, 56, rfl⟩
abbrev main_call0_call0_v32 : Ref sig .tc := ⟨.hbm, 57, rfl⟩
abbrev main_v7_2 : Ref sig .tc := ⟨.hbm, 58, rfl⟩
abbrev main_v7_0 : Ref sig .tc := ⟨.hbm, 59, rfl⟩
abbrev main_cst : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_cst_0 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_call1_call0_cst : Ref sig .tc := ⟨.hbm, 78, rfl⟩
abbrev main_call1_call0_v0 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_c : Ref sig .tc := ⟨.hbm, 91, rfl⟩
abbrev main_v35 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_c_0 : Ref sig .tc := ⟨.hbm, 99, rfl⟩
abbrev main_call2_v5 : Ref sig .tc := ⟨.hbm, 100, rfl⟩
abbrev main_v36 : Ref sig .tc := ⟨.hbm, 101, rfl⟩
abbrev main_v37 : Ref sig .tc := ⟨.hbm, 102, rfl⟩
abbrev main_cst_1 : Ref sig .tc := ⟨.hbm, 103, rfl⟩
abbrev main_call3_v0 : Ref sig .tc := ⟨.hbm, 104, rfl⟩
abbrev main_v38_1 : Ref sig .tc := ⟨.hbm, 105, rfl⟩
abbrev main_call3_v2 : Ref sig .tc := ⟨.hbm, 106, rfl⟩
abbrev main_v38_0 : Ref sig .tc := ⟨.hbm, 107, rfl⟩
abbrev main_call3_cst : Ref sig .tc := ⟨.hbm, 108, rfl⟩
abbrev main_v38_2 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_cst_2 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_cst_3 : Ref sig .tc := ⟨.hbm, 118, rfl⟩
abbrev main_v46 : Ref sig .tc := ⟨.hbm, 119, rfl⟩
abbrev main_cst_4 : Ref sig .tc := ⟨.hbm, 120, rfl⟩
abbrev main_v47 : Ref sig .tc := ⟨.hbm, 121, rfl⟩
abbrev main_c_5 : Ref sig .tc := ⟨.hbm, 122, rfl⟩
abbrev main_v48_0 : Ref sig .tc := ⟨.hbm, 123, rfl⟩
abbrev main_v48_1 : Ref sig .tc := ⟨.hbm, 124, rfl⟩
abbrev main_v48_2 : Ref sig .tc := ⟨.hbm, 125, rfl⟩
abbrev main_v48_3 : Ref sig .tc := ⟨.hbm, 126, rfl⟩
abbrev main_v48_4 : Ref sig .tc := ⟨.hbm, 127, rfl⟩
abbrev main_v48_5 : Ref sig .tc := ⟨.hbm, 128, rfl⟩
abbrev main_while0c_c_22 : Ref sig .tc := ⟨.hbm, 129, rfl⟩
abbrev main_while0c_v130 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_v0 : Ref sig .tc := ⟨.hbm, 134, rfl⟩
abbrev main_while0b_v130 : Ref sig .tc := ⟨.hbm, 135, rfl⟩
abbrev main_while0b_call5_c : Ref sig .tc := ⟨.hbm, 136, rfl⟩
abbrev main_while0b_call5_c_0 : Ref sig .tc := ⟨.hbm, 137, rfl⟩
abbrev main_while0b_call5_c_1 : Ref sig .tc := ⟨.hbm, 138, rfl⟩
abbrev main_while0b_call5_c_2 : Ref sig .tc := ⟨.hbm, 139, rfl⟩
abbrev main_while0b_call5_v0 : Ref sig .tc := ⟨.hbm, 140, rfl⟩
abbrev main_while0b_v131 : Ref sig .tc := ⟨.hbm, 141, rfl⟩
abbrev main_while0b_v132 : Ref sig .tc := ⟨.hbm, 142, rfl⟩
abbrev main_while0b_v133 : Ref sig .tc := ⟨.hbm, 143, rfl⟩
abbrev main_while0b_v134 : Ref sig .tc := ⟨.hbm, 144, rfl⟩
abbrev main_while0b_v135 : Ref sig .tc := ⟨.hbm, 145, rfl⟩
abbrev main_while0b_call6_v0 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_call6_c_1 : Ref sig .tc := ⟨.hbm, 149, rfl⟩
abbrev main_while0b_call6_c_2 : Ref sig .tc := ⟨.hbm, 150, rfl⟩
abbrev main_while0b_v136 : Ref sig .tc := ⟨.hbm, 151, rfl⟩
abbrev main_while0b_call7_v0 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_call7_c_1 : Ref sig .tc := ⟨.hbm, 155, rfl⟩
abbrev main_while0b_call7_c_2 : Ref sig .tc := ⟨.hbm, 156, rfl⟩
abbrev main_while0b_v137 : Ref sig .tc := ⟨.hbm, 157, rfl⟩
abbrev main_while0b_c_22 : Ref sig .tc := ⟨.hbm, 158, rfl⟩
abbrev main_while0b_v138 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_cst_6 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_cst_7 : Ref sig .tc := ⟨.hbm, 175, rfl⟩
abbrev main_v63 : Ref sig .tc := ⟨.hbm, 176, rfl⟩
abbrev main_cst_8 : Ref sig .tc := ⟨.hbm, 177, rfl⟩
abbrev main_v64 : Ref sig .tc := ⟨.hbm, 178, rfl⟩
abbrev main_cst_9 : Ref sig .tc := ⟨.hbm, 179, rfl⟩
abbrev main_v65 : Ref sig .tc := ⟨.hbm, 180, rfl⟩
abbrev main_c_10 : Ref sig .tc := ⟨.hbm, 181, rfl⟩
abbrev main_v66_0 : Ref sig .tc := ⟨.hbm, 182, rfl⟩
abbrev main_v66_1 : Ref sig .tc := ⟨.hbm, 183, rfl⟩
abbrev main_v66_2 : Ref sig .tc := ⟨.hbm, 184, rfl⟩
abbrev main_v66_3 : Ref sig .tc := ⟨.hbm, 185, rfl⟩
abbrev main_v66_4 : Ref sig .tc := ⟨.hbm, 186, rfl⟩
abbrev main_v66_5 : Ref sig .tc := ⟨.hbm, 187, rfl⟩
abbrev main_v66_6 : Ref sig .tc := ⟨.hbm, 188, rfl⟩
abbrev main_while1c_c_23 : Ref sig .tc := ⟨.hbm, 189, rfl⟩
abbrev main_while1c_v130 : Ref sig .tc := ⟨.hbm, 190, rfl⟩
abbrev main_while1b_c_23 : Ref sig .tc := ⟨.hbm, 191, rfl⟩
abbrev main_while1b_v130 : Ref sig .tc := ⟨.hbm, 192, rfl⟩
abbrev main_while1b_c_24 : Ref sig .tc := ⟨.hbm, 193, rfl⟩
abbrev main_while1b_v131 : Ref sig .tc := ⟨.hbm, 194, rfl⟩
abbrev main_while1b_call8_c : Ref sig .tc := ⟨.hbm, 195, rfl⟩
abbrev main_while1b_call8_c_0 : Ref sig .tc := ⟨.hbm, 196, rfl⟩
abbrev main_while1b_call8_c_1 : Ref sig .tc := ⟨.hbm, 197, rfl⟩
abbrev main_while1b_call8_c_2 : Ref sig .tc := ⟨.hbm, 198, rfl⟩
abbrev main_while1b_call8_v0 : Ref sig .tc := ⟨.hbm, 199, rfl⟩
abbrev main_while1b_v132 : Ref sig .tc := ⟨.hbm, 200, rfl⟩
abbrev main_while1b_call9_c : Ref sig .tc := ⟨.hbm, 201, rfl⟩
abbrev main_while1b_call9_c_0 : Ref sig .tc := ⟨.hbm, 202, rfl⟩
abbrev main_while1b_call9_c_1 : Ref sig .tc := ⟨.hbm, 203, rfl⟩
abbrev main_while1b_call9_c_2 : Ref sig .tc := ⟨.hbm, 204, rfl⟩
abbrev main_while1b_call9_v0 : Ref sig .tc := ⟨.hbm, 205, rfl⟩
abbrev main_while1b_v133 : Ref sig .tc := ⟨.hbm, 206, rfl⟩
abbrev main_while1b_call10_c : Ref sig .tc := ⟨.hbm, 207, rfl⟩
abbrev main_while1b_call10_c_0 : Ref sig .tc := ⟨.hbm, 208, rfl⟩
abbrev main_while1b_call10_c_1 : Ref sig .tc := ⟨.hbm, 209, rfl⟩
abbrev main_while1b_call10_c_2 : Ref sig .tc := ⟨.hbm, 210, rfl⟩
abbrev main_while1b_call10_v0 : Ref sig .tc := ⟨.hbm, 211, rfl⟩
abbrev main_while1b_v134 : Ref sig .tc := ⟨.hbm, 212, rfl⟩
abbrev main_while1b_v135 : Ref sig .tc := ⟨.hbm, 213, rfl⟩
abbrev main_while1b_v136 : Ref sig .tc := ⟨.hbm, 214, rfl⟩
abbrev main_while1b_v137 : Ref sig .tc := ⟨.hbm, 215, rfl⟩
abbrev main_while1b_v138 : Ref sig .tc := ⟨.hbm, 216, rfl⟩
abbrev main_while1b_cst_25 : Ref sig .tc := ⟨.hbm, 217, rfl⟩
abbrev main_while1b_v139 : Ref sig .tc := ⟨.hbm, 218, rfl⟩
abbrev main_while1b_v140 : Ref sig .tc := ⟨.hbm, 219, rfl⟩
abbrev main_while1b_cst_26 : Ref sig .tc := ⟨.hbm, 220, rfl⟩
abbrev main_while1b_v141 : Ref sig .tc := ⟨.hbm, 221, rfl⟩
abbrev main_while1b_v142 : Ref sig .tc := ⟨.hbm, 222, rfl⟩
abbrev main_while1b_call11_v0 : Ref sig .tc := ⟨.hbm, 223, rfl⟩
abbrev main_while1b_call11_c : Ref sig .tc := ⟨.hbm, 224, rfl⟩
abbrev main_while1b_call11_c_0 : Ref sig .tc := ⟨.hbm, 225, rfl⟩
abbrev main_while1b_call11_c_1 : Ref sig .tc := ⟨.hbm, 226, rfl⟩
abbrev main_while1b_v143 : Ref sig .tc := ⟨.hbm, 227, rfl⟩
abbrev main_while1b_call12_v0 : Ref sig .tc := ⟨.hbm, 228, rfl⟩
abbrev main_while1b_call12_c : Ref sig .tc := ⟨.hbm, 229, rfl⟩
abbrev main_while1b_call12_c_0 : Ref sig .tc := ⟨.hbm, 230, rfl⟩
abbrev main_while1b_call12_c_1 : Ref sig .tc := ⟨.hbm, 231, rfl⟩
abbrev main_while1b_call12_c_2 : Ref sig .tc := ⟨.hbm, 232, rfl⟩
abbrev main_while1b_v144 : Ref sig .tc := ⟨.hbm, 233, rfl⟩
abbrev main_while1b_c_27 : Ref sig .tc := ⟨.hbm, 234, rfl⟩
abbrev main_while1b_v145 : Ref sig .tc := ⟨.hbm, 235, rfl⟩
abbrev main_v67 : Ref sig .tc := ⟨.hbm, 236, rfl⟩
abbrev main_v68 : Ref sig .tc := ⟨.hbm, 237, rfl⟩
abbrev main_v69 : Ref sig .tc := ⟨.hbm, 238, rfl⟩
abbrev main_v70 : Ref sig .tc := ⟨.hbm, 239, rfl⟩
abbrev main_v71 : Ref sig .tc := ⟨.hbm, 240, rfl⟩
abbrev main_v72 : Ref sig .tc := ⟨.hbm, 241, rfl⟩
abbrev main_v73 : Ref sig .tc := ⟨.hbm, 242, rfl⟩
abbrev main_v74 : Ref sig .tc := ⟨.hbm, 243, rfl⟩
abbrev main_v75 : Ref sig .tc := ⟨.hbm, 244, rfl⟩
abbrev main_v76 : Ref sig .tc := ⟨.hbm, 245, rfl⟩
abbrev main_v77 : Ref sig .tc := ⟨.hbm, 246, rfl⟩
abbrev main_v78 : Ref sig .tc := ⟨.hbm, 247, rfl⟩
abbrev main_call13_cst : Ref sig .tc := ⟨.hbm, 248, rfl⟩
abbrev main_call13_v0 : Ref sig .tc := ⟨.hbm, 249, rfl⟩
abbrev main_v79 : Ref sig .tc := ⟨.hbm, 250, rfl⟩
abbrev main_v80 : Ref sig .tc := ⟨.hbm, 251, rfl⟩
abbrev main_v81 : Ref sig .tc := ⟨.hbm, 252, rfl⟩
abbrev main_v82 : Ref sig .tc := ⟨.hbm, 253, rfl⟩
abbrev main_v83 : Ref sig .tc := ⟨.hbm, 254, rfl⟩
abbrev main_v84 : Ref sig .tc := ⟨.hbm, 255, rfl⟩
abbrev main_v85 : Ref sig .tc := ⟨.hbm, 256, rfl⟩
abbrev main_cst_11 : Ref sig .tc := ⟨.hbm, 257, rfl⟩
abbrev main_v86 : Ref sig .tc := ⟨.hbm, 258, rfl⟩
abbrev main_v87 : Ref sig .tc := ⟨.hbm, 259, rfl⟩
abbrev main_v88 : Ref sig .tc := ⟨.hbm, 260, rfl⟩
abbrev main_v89 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_v95 : Ref sig .tc := ⟨.hbm, 267, rfl⟩
abbrev main_v96 : Ref sig .tc := ⟨.hbm, 268, rfl⟩
abbrev main_v97 : Ref sig .tc := ⟨.hbm, 269, rfl⟩
abbrev main_v98 : Ref sig .tc := ⟨.hbm, 270, rfl⟩
abbrev main_v99 : Ref sig .tc := ⟨.hbm, 271, rfl⟩
abbrev main_cst_12 : Ref sig .tc := ⟨.hbm, 272, rfl⟩
abbrev main_v100 : Ref sig .tc := ⟨.hbm, 273, rfl⟩
abbrev main_v101 : Ref sig .tc := ⟨.hbm, 274, rfl⟩
abbrev main_call14_call0_cst : Ref sig .tc := ⟨.hbm, 275, rfl⟩
abbrev main_call14_call0_v0 : Ref sig .tc := ⟨.hbm, 276, rfl⟩
abbrev main_v102 : Ref sig .tc := ⟨.hbm, 277, rfl⟩
abbrev main_v103 : Ref sig .tc := ⟨.hbm, 278, rfl⟩
abbrev main_v104 : Ref sig .tc := ⟨.hbm, 279, rfl⟩
abbrev main_v105 : Ref sig .tc := ⟨.hbm, 280, rfl⟩
abbrev main_v106 : Ref sig .tc := ⟨.hbm, 281, rfl⟩
abbrev main_v107 : Ref sig .tc := ⟨.hbm, 282, rfl⟩
abbrev main_v108 : Ref sig .tc := ⟨.hbm, 283, rfl⟩
abbrev main_cst_13 : Ref sig .tc := ⟨.hbm, 284, rfl⟩
abbrev main_v109 : Ref sig .tc := ⟨.hbm, 285, rfl⟩
abbrev main_v110 : Ref sig .tc := ⟨.hbm, 286, rfl⟩
abbrev main_v111 : Ref sig .tc := ⟨.hbm, 287, rfl⟩
abbrev main_v112 : Ref sig .tc := ⟨.hbm, 288, rfl⟩
abbrev main_v113 : Ref sig .tc := ⟨.hbm, 289, rfl⟩
abbrev main_v114 : Ref sig .tc := ⟨.hbm, 290, rfl⟩
abbrev main_v115 : Ref sig .tc := ⟨.hbm, 291, rfl⟩
abbrev main_v116 : Ref sig .tc := ⟨.hbm, 292, rfl⟩
abbrev main_cst_14 : Ref sig .tc := ⟨.hbm, 293, rfl⟩
abbrev main_v117 : Ref sig .tc := ⟨.hbm, 294, rfl⟩
abbrev main_v118 : Ref sig .tc := ⟨.hbm, 295, rfl⟩
abbrev main_call15_v0 : Ref sig .tc := ⟨.hbm, 296, rfl⟩
abbrev main_call15_v1 : Ref sig .tc := ⟨.hbm, 297, rfl⟩
abbrev main_v119 : Ref sig .tc := ⟨.hbm, 298, rfl⟩
abbrev main_cst_15 : Ref sig .tc := ⟨.hbm, 299, rfl⟩
abbrev main_v120 : Ref sig .tc := ⟨.hbm, 300, rfl⟩
abbrev main_v121 : Ref sig .tc := ⟨.hbm, 301, rfl⟩
abbrev main_v122 : Ref sig .tc := ⟨.hbm, 302, rfl⟩
abbrev main_v123 : Ref sig .tc := ⟨.hbm, 303, rfl⟩
abbrev main_v124 : Ref sig .tc := ⟨.hbm, 304, rfl⟩
abbrev main_v125 : Ref sig .tc := ⟨.hbm, 305, rfl⟩
abbrev main_v126 : Ref sig .tc := ⟨.hbm, 306, rfl⟩
abbrev main_c_16 : Ref sig .tc := ⟨.hbm, 307, rfl⟩
abbrev main_call16_v0 : Ref sig .tc := ⟨.hbm, 308, rfl⟩
abbrev main_v127 : Ref sig .tc := ⟨.hbm, 309, rfl⟩
abbrev main_v128 : Ref sig .tc := ⟨.hbm, 310, rfl⟩
abbrev main_v129 : Ref sig .tc := ⟨.hbm, 311, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x12800 : Shape := ⟨2, ![2048, 12800]⟩
abbrev S2048x2048 : Shape := ⟨2, ![2048, 2048]⟩
abbrev S12800x2048 : Shape := ⟨2, ![12800, 2048]⟩
abbrev S2048x640 : Shape := ⟨2, ![2048, 640]⟩
abbrev S640x2048 : Shape := ⟨2, ![640, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x12800, .bf16⟩
  | .hbm, ⟨1, _⟩ => ⟨S2048x2048, .bf16⟩
  | .hbm, ⟨2, _⟩ => ⟨S12800x2048, .bf16⟩
  | .local _ .vmem, ⟨0, _⟩ => ⟨S2048x640, .bf16⟩
  | .local _ .vmem, ⟨1, _⟩ => ⟨S2048x640, .bf16⟩
  | .local _ .vmem, ⟨2, _⟩ => ⟨S2048x2048, .bf16⟩
  | .local _ .vmem, ⟨3, _⟩ => ⟨S640x2048, .bf16⟩
  | .local _ .vmem, ⟨4, _⟩ => ⟨S640x2048, .bf16⟩
  | _, _ => ⟨S2048x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![20, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x12800 : Shape := ⟨2, ![2048, 12800]⟩
abbrev S2048x2048 : Shape := ⟨2, ![2048, 2048]⟩
abbrev S_ : Shape := ⟨0, ![]⟩
abbrev S12800x2048 : Shape := ⟨2, ![12800, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x12800, .bf16⟩
  | .hbm, ⟨1, _⟩ => ⟨S2048x2048, .bf16⟩
  | .hbm, ⟨2, _⟩ => ⟨S_, .f32⟩
  | .hbm, ⟨3, _⟩ => ⟨S12800x2048, .f32⟩
  | .hbm, ⟨4, _⟩ => ⟨S2048x2048, .f32⟩
  | .hbm, ⟨5, _⟩ => ⟨S2048x12800, .f32⟩
  | .hbm, ⟨6, _⟩ => ⟨S2048x12800, .f32⟩
  | .hbm, ⟨7, _⟩ => ⟨S2048x12800, .f32⟩
  | .hbm, ⟨8, _⟩ => ⟨S12800x2048, .f32⟩
  | .hbm, ⟨9, _⟩ => ⟨S2048x12800, .f32⟩
  | .hbm, ⟨10, _⟩ => ⟨S12800x2048, .f32⟩
  | .hbm, ⟨11, _⟩ => ⟨S12800x2048, .bf16⟩
  | _, _ => ⟨S2048x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x12800 : Shape := ⟨2, ![2048, 12800]⟩
abbrev S12800x2048 : Shape := ⟨2, ![12800, 2048]⟩
abbrev S2048x2048 : Shape := ⟨2, ![2048, 2048]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x12800, .bf16⟩
  | .hbm, ⟨1, _⟩ => ⟨S12800x2048, .bf16⟩
  | .hbm, ⟨2, _⟩ => ⟨S2048x2048, .f32⟩
  | .hbm, ⟨3, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x12800 : Shape := ⟨2, ![2048, 12800]⟩
abbrev S12800x2048 : Shape := ⟨2, ![12800, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x12800, .bf16⟩
  | .hbm, ⟨1, _⟩ => ⟨S12800x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S12800x2048, .f32⟩
  | .hbm, ⟨6, _⟩ => ⟨S2048x12800, .f32⟩
  | .hbm, ⟨7, _⟩ => ⟨S2048x12800, .f32⟩
  | .hbm, ⟨8, _⟩ => ⟨S2048x12800, .f32⟩
  | .hbm, ⟨9, _⟩ => ⟨S2048x2048, .f32⟩
  | .hbm, ⟨10, _⟩ => ⟨S2048x2048, .f32⟩
  | _, _ => ⟨S2048x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S5632x2048 : Shape := ⟨2, ![5632, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S_, .f32⟩
  | .hbm, ⟨3, _⟩ => ⟨S2048x2048, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S5632x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S5632x2048, .f32⟩
  | .hbm, ⟨17, _⟩ => ⟨S2048x2048, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x2048 : Shape := ⟨2, ![2048, 2048]⟩
abbrev S12800x2048 : Shape := ⟨2, ![12800, 2048]⟩
abbrev S2048x12800 : Shape := ⟨2, ![2048, 12800]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S12800x2048, .bf16⟩
  | .hbm, ⟨2, _⟩ => ⟨S2048x12800, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S12800x2048 : Shape := ⟨2, ![12800, 2048]⟩
abbrev S2048x12800 : Shape := ⟨2, ![2048, 12800]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S12800x2048, .bf16⟩
  | .hbm, ⟨2, _⟩ => ⟨S2048x2048, .f32⟩
  | .hbm, ⟨3, _⟩ => ⟨S12800x2048, .f32⟩
  | .hbm, ⟨4, _⟩ => ⟨S2048x12800, .f32⟩
  | .hbm, ⟨5, _⟩ => ⟨S2048x12800, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .bf16⟩
  | .hbm, ⟨3, _⟩ => ⟨S2048x2048, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S2048x2048, .f32⟩
  | .hbm, ⟨8, _⟩ => ⟨S5632x2048, .f32⟩
  | .hbm, ⟨9, _⟩ => ⟨S2048x5632, .f32⟩
  | .hbm, ⟨10, _⟩ => ⟨S2048x5632, .f32⟩
  | .hbm, ⟨11, _⟩ => ⟨S2048x5632, .bf16⟩
  | .hbm, ⟨12, _⟩ => ⟨S2048x5632, .bf16⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Reference12Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S5632x2048, .f32⟩
  | .hbm, ⟨21, _⟩ => ⟨S2048x2048, .f32⟩
  | .hbm, ⟨22, _⟩ => ⟨S2048x2048, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel15.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_16 : BitVec 32 := 0#32
  let v38 : BitVec 1 := Scalar.cmpi .ne v37 c0_i32_16
  v38

def k0_cond2 (i : grid0.Coords) : BitVec 1 :=
  let arg0 : BitVec 32 := BitVec.ofNat 32 (i 0).val
  let c0_i32_17 : BitVec 32 := 0#32
  let v39 : BitVec 1 := Scalar.cmpi .sgt arg0 c0_i32_17
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel17.lean ====
abbrev S2048x2048 : Shape := ⟨2, ![2048, 2048]⟩
abbrev S128x2048 : Shape := ⟨2, ![128, 2048]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S128x2048, .bf16⟩
  | .hbm, ⟨2, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S128x2048 : Shape := ⟨2, ![128, 2048]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S128x2048, .bf16⟩
  | .hbm, ⟨2, _⟩ => ⟨S2048x2048, .f32⟩
  | .hbm, ⟨3, _⟩ => ⟨S128x2048, .f32⟩
  | .hbm, ⟨4, _⟩ => ⟨S2048x128, .f32⟩
  | .hbm, ⟨5, _⟩ => ⟨S2048x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S2048x128 : Shape := ⟨2, ![2048, 128]⟩
abbrev S2048x2048 : Shape := ⟨2, ![2048, 2048]⟩
abbrev S128x2048 : Shape := ⟨2, ![128, 2048]⟩
abbrev S2048x1024 : Shape := ⟨2, ![2048, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .bf16⟩
  | .hbm, ⟨1, _⟩ => ⟨S2048x2048, .bf16⟩
  | .hbm, ⟨2, _⟩ => ⟨S128x2048, .bf16⟩
  | .local _ .vmem, ⟨0, _⟩ => ⟨S2048x128, .bf16⟩
  | .local _ .vmem, ⟨1, _⟩ => ⟨S2048x1024, .bf16⟩
  | .local _ .vmem, ⟨2, _⟩ => ⟨S2048x1024, .bf16⟩
  | .local _ .vmem, ⟨3, _⟩ => ⟨S128x1024, .bf16⟩
  | .local _ .vmem, ⟨4, _⟩ => ⟨S128x1024, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x128 : Shape := ⟨2, ![2048, 128]⟩
abbrev S2048x2048 : Shape := ⟨2, ![2048, 2048]⟩
abbrev S_ : Shape := ⟨0, ![]⟩
abbrev S128x2048 : Shape := ⟨2, ![128, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S2048x2048, .bf16⟩
  | .hbm, ⟨2, _⟩ => ⟨S_, .f32⟩
  | .hbm, ⟨3, _⟩ => ⟨S128x2048, .f32⟩
  | .hbm, ⟨4, _⟩ => ⟨S2048x2048, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S128x2048, .f32⟩
  | .hbm, ⟨9, _⟩ => ⟨S2048x128, .f32⟩
  | .hbm, ⟨10, _⟩ => ⟨S128x2048, .f32⟩
  | .hbm, ⟨11, _⟩ => ⟨S128x2048, .bf16⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel19.lean ====
abbrev S2048x128 : Shape := ⟨2, ![2048, 128]⟩
abbrev S128x2048 : Shape := ⟨2, ![128, 2048]⟩
abbrev S2048x2048 : Shape := ⟨2, ![2048, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S2048x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x128 : Shape := ⟨2, ![2048, 128]⟩
abbrev S128x2048 : Shape := ⟨2, ![128, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S_, .f32⟩
  | .hbm, ⟨3, _⟩ => ⟨S2048x2048, .f32⟩
  | .hbm, ⟨4, _⟩ => ⟨S128x2048, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x2048, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_18 : BitVec 32 := 0#32
  let v48 : BitVec 1 := Scalar.cmpi .ne v47 c0_i32_18
  v48

def k0_cond2 (i : grid0.Coords) : BitVec 1 :=
  let arg0 : BitVec 32 := BitVec.ofNat 32 (i 0).val
  let c0_i32_19 : BitVec 32 := 0#32
  let v49 : BitVec 1 := Scalar.cmpi .sgt arg0 c0_i32_19
  let v50 : BitVec 32 := Scalar.extui v49
  let c0_i32_20 : BitVec 32 := 0#32
  let v51 : BitVec 1 := Scalar.cmpi .ne v50 c0_i32_20
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .bf16⟩
  | .hbm, ⟨69, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel21.lean ====
abbrev S2048x2048 : Shape := ⟨2, ![2048, 2048]⟩
abbrev S2048x12800 : Shape := ⟨2, ![2048, 12800]⟩
abbrev S1x512 : Shape := ⟨2, ![1, 512]⟩
abbrev S2048x6144 : Shape := ⟨2, ![2048, 6144]⟩
abbrev S256x2048 : Shape := ⟨2, ![256, 2048]⟩
abbrev S256x512 : Shape := ⟨2, ![256, 512]⟩
abbrev S256x6144 : Shape := ⟨2, ![256, 6144]⟩
abbrev S256 : Shape := ⟨1, ![256]⟩
abbrev S256x1 : Shape := ⟨2, ![256, 1]⟩
abbrev S512 : Shape := ⟨1, ![512]⟩

abbrev nBuf : Space → Nat
  | .hbm => 9
  | .vmem => 38
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x12800, .f32⟩
  | .hbm, ⟨4, _⟩ => ⟨S1x512, .f32⟩
  | .hbm, ⟨5, _⟩ => ⟨S2048x2048, .f32⟩
  | .hbm, ⟨6, _⟩ => ⟨S2048x2048, .f32⟩
  | .hbm, ⟨7, _⟩ => ⟨S2048x6144, .bf16⟩
  | .hbm, ⟨8, _⟩ => ⟨S1x512, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S1x512, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x6144, .bf16⟩
  | .local _ .vmem, ⟨36, _⟩ => ⟨S256x6144, .bf16⟩
  | .local _ .vmem, ⟨37, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v354 : BitVec 1 := Scalar.cmpi .eq arg0 c0_i32
  let v355 : BitVec 32 := Scalar.extui v354
  let c0_i32_154 : BitVec 32 := 0#32
  let v356 : BitVec 1 := Scalar.cmpi .ne v355 c0_i32_154
  v356

def k0_cond2 (i : grid0.Coords) : BitVec 1 :=
  let arg0 : BitVec 32 := BitVec.ofNat 32 (i 0).val
  let c0_i32_155 : BitVec 32 := 0#32
  let v357 : BitVec 1 := Scalar.cmpi .sgt arg0 c0_i32_155
  let v358 : BitVec 32 := Scalar.extui v357
  let c0_i32_156 : BitVec 32 := 0#32
  let v359 : BitVec 1 := Scalar.cmpi .ne v358 c0_i32_156
  v359

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_5 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_6 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_7 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_8 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_9 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_10 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_11 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_12 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_13 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_14 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x6144 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference21Ideal.lean ====
abbrev S2048x2048 : Shape := ⟨2, ![2048, 2048]⟩
abbrev S2048x12800 : Shape := ⟨2, ![2048, 12800]⟩
abbrev S1x512 : Shape := ⟨2, ![1, 512]⟩
abbrev S2048x4x512 : Shape := ⟨3, ![2048, 4, 512]⟩
abbrev S512 : Shape := ⟨1, ![512]⟩
abbrev S_ : Shape := ⟨0, ![]⟩
abbrev S2048x4 : Shape := ⟨2, ![2048, 4]⟩
abbrev S2048x4x1 : Shape := ⟨3, ![2048, 4, 1]⟩
abbrev S1x1x512 : Shape := ⟨3, ![1, 1, 512]⟩

abbrev nBuf : Space → Nat
  | .hbm => 86
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x12800, .f32⟩
  | .hbm, ⟨4, _⟩ => ⟨S1x512, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x4x512, .f32⟩
  | .hbm, ⟨9, _⟩ => ⟨S512, .f32⟩
  | .hbm, ⟨10, _⟩ => ⟨S2048x4x512, .f32⟩
  | .hbm, ⟨11, _⟩ => ⟨S_, .f32⟩
  | .hbm, ⟨12, _⟩ => ⟨S2048x4, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S_, .f32⟩
  | .hbm, ⟨18, _⟩ => ⟨S2048x4x1, .f32⟩
  | .hbm, ⟨19, _⟩ => ⟨S2048x4x1, .f32⟩
  | .hbm, ⟨20, _⟩ => ⟨S2048x4x1, .f32⟩
  | .hbm, ⟨21, _⟩ => ⟨S2048x4x1, .f32⟩
  | .hbm, ⟨22, _⟩ => ⟨S_, .f32⟩
  | .hbm, ⟨23, _⟩ => ⟨S2048x4x1, .f32⟩
  | .hbm, ⟨24, _⟩ => ⟨S2048x4x1, .f32⟩
  | .hbm, ⟨25, _⟩ => ⟨S2048x4x512, .f32⟩
  | .hbm, ⟨26, _⟩ => ⟨S2048x4x512, .f32⟩
  | .hbm, ⟨27, _⟩ => ⟨S1x1x512, .f32⟩
  | .hbm, ⟨28, _⟩ => ⟨S2048x4x512, .f32⟩
  | .hbm, ⟨29, _⟩ => ⟨S2048x4x512, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x4x512, .f32⟩
  | .hbm, ⟨66, _⟩ => ⟨S2048x4x512, .f32⟩
  | .hbm, ⟨67, _⟩ => ⟨S2048x4x512, .f32⟩
  | .hbm, ⟨68, _⟩ => ⟨S2048x4x512, .f32⟩
  | .hbm, ⟨69, _⟩ => ⟨S_, .f32⟩
  | .hbm, ⟨70, _⟩ => ⟨S2048x4, .f32⟩
  | .hbm, ⟨71, _⟩ => ⟨S2048x4x1, .f32⟩
  | .hbm, ⟨72, _⟩ => ⟨S2048x4x512, .f32⟩
  | .hbm, ⟨73, _⟩ => ⟨S2048x4x512, .f32⟩
  | .hbm, ⟨74, _⟩ => ⟨S2048x4x1, .f32⟩
  | .hbm, ⟨75, _⟩ => ⟨S_, .f32⟩
  | .hbm, ⟨76, _⟩ => ⟨S2048x4x1, .f32⟩
  | .hbm, ⟨77, _⟩ => ⟨S2048x4x1, .f32⟩
  | .hbm, ⟨78, _⟩ => ⟨S_, .f32⟩
  | .hbm, ⟨79, _⟩ => ⟨S2048x4, .f32⟩
  | .hbm, ⟨80, _⟩ => ⟨S2048x4x512, .f32⟩
  | .hbm, ⟨81, _⟩ => ⟨S2048x4x512, .f32⟩
  | .hbm, ⟨82, _⟩ => ⟨S2048x4x512, .f32⟩
  | .hbm, ⟨83, _⟩ => ⟨S2048x4x512, .f32⟩
  | .hbm, ⟨84, _⟩ => ⟨S2048x4x512, .f32⟩
  | .hbm, ⟨85, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Proof.Body0.lean ====
/- The forward call's region: what one grid point's body leaves in its output windows and in the carried state, as
   explicit functions of the input windows' blocks and the state found; the body's triple; the region's proof data over
   the state's recursion, and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point's body computes -/

/-- The two 256-column halves of a 512-column block. -/
abbrev halfL : Rect S64x512 := Rect.unit (s := S64x512) ![0, 0] S64x256.size inb_S64x512_S64x256_0_0
abbrev halfR : Rect S64x512 := Rect.unit (s := S64x512) ![0, 256] S64x256.size inb_S64x512_S64x256_0_256
abbrev lo (x : Vec F S64x512 .f32) : Vec F S64x256 .f32 := View.ld x halfL
abbrev hi (x : Vec F S64x512 .f32) : Vec F S64x256 .f32 := View.ld x halfR

/-- One of the four heads' columns of a 2048-column block. -/
abbrev head0 : Rect S64x2048 := Rect.unit (s := S64x2048) ![0, 0] S64x512.size inb_S64x2048_S64x512_0_0
abbrev head1 : Rect S64x2048 := Rect.unit (s := S64x2048) ![0, 512] S64x512.size inb_S64x2048_S64x512_0_512
abbrev head2 : Rect S64x2048 := Rect.unit (s := S64x2048) ![0, 1024] S64x512.size inb_S64x2048_S64x512_0_1024
abbrev head3 : Rect S64x2048 := Rect.unit (s := S64x2048) ![0, 1536] S64x512.size inb_S64x2048_S64x512_0_1536

/-- The point is the grid's first (the printed condition of `pl.when`). -/
abbrev first0 (i : grid0.Coords) : Prop :=
  (Scalar.cmpi .ne (Scalar.extui (Scalar.cmpi .eq (BitVec.ofNat 32 (i 0).val) 0#32)) 0#32) = 1#1

theorem first0_iff : ∀ t : Fin cfg0.N, first0 (grid0.coords t) ↔ t.val = 0 := by decide +kernel

section Fns
variable (x0 x1 x2 x3 x4 x5 x6 x7 : Vec F S64x512 .f32) (x8 : Vec F S64x128 .f32) (x9 : Vec F S128x1024 .f32)
  (x10 : Vec F S1x1024 .f32) (sp : Vec F S4x512x256 .f32)

abbrev fG : FVec F S4x64x256 .f32 := k0_pay3 x8 x9 x10
abbrev fGl : FVec F S4x1x256 .f32 := k0_pay4 x8 x9 x10
abbrev fK : FVec F S4x64x256 .f32 := k0_pay5 (lo x2) (hi x2) (lo x3) (hi x3)
abbrev fV : FVec F S4x64x512 .bf16 := k0_pay6 x4 x5 x6 x7
abbrev fQd : FVec F S4x64x256 .bf16 := k0_pay7 (fG x8 x9 x10) (lo x0) (hi x0) (lo x1) (hi x1)
abbrev fKi : FVec F S4x64x256 .bf16 := k0_pay8 (fG x8 x9 x10) (lo x2) (hi x2) (lo x3) (hi x3)
abbrev fKe : FVec F S4x64x256 .bf16 := k0_pay9 (fG x8 x9 x10) (fGl x8 x9 x10) (fK x2 x3)
/-- The states written out for the backward call: the state found. -/
abbrev fSt : FVec F S1x4x512x256 .f32 := k0_pay10 sp
/-- The state left. -/
abbrev fS : FVec F S4x512x256 .f32 := k0_pay1 (fV x4 x5 x6 x7) (fKe x2 x3 x8 x9 x10) sp (k0_pay16 (fGl x8 x9 x10))
/-- The output block: one store per head, last first. -/
def fO : Vec F S64x2048 .f32 :=
  View.canon [⟨head3, k0_pay15 (fV x4 x5 x6 x7) (fQd x0 x1 x8 x9 x10) (fKi x2 x3 x8 x9 x10) sp⟩,
    ⟨head2, k0_pay14 (fV x4 x5 x6 x7) (fQd x0 x1 x8 x9 x10) (fKi x2 x3 x8 x9 x10) sp⟩,
    ⟨head1, k0_pay13 (fV x4 x5 x6 x7) (fQd x0 x1 x8 x9 x10) (fKi x2 x3 x8 x9 x10) sp⟩,
    ⟨head0, k0_pay12 (fV x4 x5 x6 x7) (fQd x0 x1 x8 x9 x10) (fKi x2 x3 x8 x9 x10) sp⟩]

end Fns

theorem heads_cover {e : EltTy} (p0 p1 p2 p3 : Vec F S64x512 e) (y : S64x2048.Idx) :
    ∃ pc ∈ ([⟨head3, p3⟩, ⟨head2, p2⟩, ⟨head1, p1⟩, ⟨head0, p0⟩] : List (View.Piece (Elt F) S64x2048 e)), y ∈ pc.1.set :=
  View.cover_of_tiled [⟨head3, p3⟩, ⟨head2, p2⟩, ⟨head1, p1⟩, ⟨head0, p0⟩] S64x512.size (by rfl) y

/-- The state a point's body works from: zeros at the first, what it finds at any other. -/
abbrev start0 (i : grid0.Coords) (xs : Vec F S4x512x256 .f32) : Vec F S4x512x256 .f32 := if first0 i then k0_pay2 else xs

theorem first_piece_covers {S : Shape} {e : EltTy} {off : Fin S.rank → ℕ} (h : off = fun _ => 0) (inb : ∀ a, off a + S.size a ≤ S.size a)
    (w : Vec F S e) (L : List (View.Piece (Elt F) S e)) (y : S.Idx) :
    ∃ pc ∈ (⟨Rect.unit off S.size inb, w⟩ :: L : List (View.Piece (Elt F) S e)), y ∈ pc.1.set :=
  ⟨_, List.mem_cons_self, View.mem_set_unit_zero h inb y⟩

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide

set_option maxHeartbeats 400000 in
/-- The body on whole staging memrefs: the inputs' at `xW`, the outputs' at anything, the state at `xs`. -/
theorem body0 (c : Dev nD) (E : Set ℕ) (i : grid0.Coords)
    (arg1 arg2 arg3 arg4 arg5 arg6 arg7 arg8 : Memref sig .tc .vmem S64x512 .f32) (arg9 : Memref sig .tc .vmem S64x128 .f32)
    (arg10 : Memref sig .tc .vmem S128x1024 .f32) (arg11 : Memref sig .tc .vmem S1x1024 .f32)
    (arg12 : Memref sig .tc .vmem S64x2048 .f32) (arg13 : Memref sig .tc .vmem S1x4x512x256 .f32) (arg14 : Memref sig .tc .vmem S4x512x256 .f32)
    (h1 : arg1.IsWhole) (h2 : arg2.IsWhole) (h3 : arg3.IsWhole) (h4 : arg4.IsWhole) (h5 : arg5.IsWhole) (h6 : arg6.IsWhole)
    (h7 : arg7.IsWhole) (h8 : arg8.IsWhole) (h9 : arg9.IsWhole) (h10 : arg10.IsWhole) (h11 : arg11.IsWhole) (h12 : arg12.IsWhole)
    (h13 : arg13.IsWhole) (h14 : arg14.IsWhole)
    (x0 x1 x2 x3 x4 x5 x6 x7 : Vec F S64x512 .f32) (x8 : Vec F S64x128 .f32) (x9 : Vec F S128x1024 .f32) (x10 : Vec F S1x1024 .f32)
    (xs : Vec F S4x512x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ owns (c : Thread nD τ) arg14 fullShare xs
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare x5
          ∗ owns (c : Thread nD τ) arg7 fullShare x6 ∗ owns (c : Thread nD τ) arg8 fullShare x7 ∗ owns (c : Thread nD τ) arg9 fullShare x8
          ∗ owns (c : Thread nD τ) arg10 fullShare x9 ∗ owns (c : Thread nD τ) arg11 fullShare x10
          ∗ owns (c : Thread nD τ) arg12 fullShare (fO x0 x1 x2 x3 x4 x5 x6 x7 x8 x9 x10 (start0 i xs))
          ∗ owns (c : Thread nD τ) arg13 fullShare (fSt (start0 i xs))
          ∗ owns (c : Thread nD τ) arg14 fullShare (fS x2 x3 x4 x5 x6 x7 x8 x9 x10 (start0 i xs))) -∗ K ⟨⟩))
      ⊢ wp frame (wpE (defs₀ (F := F)) Variants.none c none) E
        (cc0_gla_fwd i arg1 h1 arg2 h2 arg3 h3 arg4 h4 arg5 h5 arg6 h6 arg7 h7 arg8 h8 arg9 h9 arg10 h10 arg11 h11 arg12 h12 arg13 h13 arg14 h14) K := by
  simp only [cc0_gla_fwd_eq_skeleton]; unfold cc0_gla_fwd_skel
  simp only [k0_part1_eq_skeleton, k0_part2_eq_skeleton, k0_part3_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%d11, %f11, -, H11⟩, ⟨%d12, %f12, -, H12⟩, ⟨%fs, %es, HS⟩, Hk⟩
  subst e0 e1 e2 e3 e4 e5 e6 e7 e8 e9 e10 es
  have hh : (first0 i ∧ start0 i (View.read (Elt F) arg14.view fs) = k0_pay2)
      ∨ (¬ first0 i ∧ start0 i (View.read (Elt F) arg14.view fs) = View.read (Elt F) arg14.view fs) := by
    by_cases hc : first0 i
    · exact .inl ⟨hc, if_pos hc⟩
    · exact .inr ⟨hc, if_neg hc⟩
  rcases hh with ⟨hc, hst⟩ | ⟨hc, hst⟩
  all_goals
    sl_exec (disch := first | sl_exact hc)
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexists f10; isplitr; · ipureintro; rfl
                     iexact H10
    isplitl [H11]
    · iexists _; isplitr
      swap; · iexact H11
      ipureintro
      refine (View.read_writes_eq_canon _ _ _ (heads_cover _ _ _ _)).trans ?_
      rw [hst]
      first | delta body0.sl.v93 body0.sl.HS_1 body0.sl.r body0.sl.r_1 body0.sl.r_2 body0.sl.r_3 body0.sl.r_4 body0.sl.r_5 body0.sl.r_6 body0.sl.r_7 body0.sl.r_8 | delta body0.sl.r_9 body0.sl.r_10 body0.sl.r_11 body0.sl.r_12 body0.sl.r_13 body0.sl.r_14 body0.sl.r_15 body0.sl.r_16 body0.sl.r_17 body0.sl.r_18 | skip
      simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.readCov_unit_zero (S := S4x512x256) _ z3, View.canon_unit_zero (S := S1x4x512x256) z4]
      rfl
    isplitl [H12]
    · iexists _; isplitr
      swap; · iexact H12
      ipureintro
      refine (View.read_writes_eq_canon _ _ _ (first_piece_covers z4 _ _ _)).trans ?_
      rw [hst]
      first | delta body0.sl.v93 body0.sl.HS_1 body0.sl.r body0.sl.r_1 body0.sl.r_2 body0.sl.r_3 body0.sl.r_4 body0.sl.r_5 body0.sl.r_6 body0.sl.r_7 body0.sl.r_8 | delta body0.sl.r_9 body0.sl.r_10 body0.sl.r_11 body0.sl.r_12 body0.sl.r_13 body0.sl.r_14 body0.sl.r_15 body0.sl.r_16 body0.sl.r_17 body0.sl.r_18 | skip
      simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.readCov_unit_zero (S := S4x512x256) _ z3, View.canon_unit_zero (S := S1x4x512x256) z4]
    iexists _; isplitr
    swap; · iexact HS
    ipureintro
    refine (View.read_writes_eq_canon _ _ _ (first_piece_covers z3 _ _ _)).trans ?_
    rw [hst]
    first | delta body0.sl.v93 body0.sl.HS_1 body0.sl.r body0.sl.r_1 body0.sl.r_2 body0.sl.r_3 body0.sl.r_4 body0.sl.r_5 body0.sl.r_6 body0.sl.r_7 body0.sl.r_8 | delta body0.sl.r_9 body0.sl.r_10 body0.sl.r_11 body0.sl.r_12 body0.sl.r_13 body0.sl.r_14 body0.sl.r_15 body0.sl.r_16 body0.sl.r_17 body0.sl.r_18 | skip
    simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.readCov_unit_zero (S := S4x512x256) _ z3, View.canon_cons_unit_zero (S := S4x512x256) z3]

end Cert.KernelIdeal.Gla

end
-- ==== Proof.Body1.lean ====
/- The backward call's region: what one grid point's body leaves in its output windows and in the carried state, as
   explicit functions of the input windows' blocks and of what it finds; the body's triple. -/
module

public import proofs.«01_k».proof.Proof.Body0
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the grid's first (the printed condition of `pl.when`). -/
abbrev first1 (i : grid1.Coords) : Prop :=
  (Scalar.cmpi .ne (Scalar.extui (Scalar.cmpi .eq (BitVec.ofNat 32 (i 0).val) 0#32)) 0#32) = 1#1

theorem first1_iff : ∀ t : Fin cfg1.N, first1 (grid1.coords t) ↔ t.val = 0 := by decide +kernel

/-- One head's columns of the q half (`a`) and of the k half (`b`) of a 2048-column block. -/
abbrev qcol0 : Rect S64x2048 := Rect.unit (s := S64x2048) ![0, 0] S64x256.size inb_S64x2048_S64x256_0_0
abbrev kcol0 : Rect S64x2048 := Rect.unit (s := S64x2048) ![0, 1024] S64x256.size inb_S64x2048_S64x256_0_1024
abbrev qcol1 : Rect S64x2048 := Rect.unit (s := S64x2048) ![0, 256] S64x256.size inb_S64x2048_S64x256_0_256
abbrev kcol1 : Rect S64x2048 := Rect.unit (s := S64x2048) ![0, 1280] S64x256.size inb_S64x2048_S64x256_0_1280
abbrev qcol2 : Rect S64x2048 := Rect.unit (s := S64x2048) ![0, 512] S64x256.size inb_S64x2048_S64x256_0_512
abbrev kcol2 : Rect S64x2048 := Rect.unit (s := S64x2048) ![0, 1536] S64x256.size inb_S64x2048_S64x256_0_1536
abbrev qcol3 : Rect S64x2048 := Rect.unit (s := S64x2048) ![0, 768] S64x256.size inb_S64x2048_S64x256_0_768
abbrev kcol3 : Rect S64x2048 := Rect.unit (s := S64x2048) ![0, 1792] S64x256.size inb_S64x2048_S64x256_0_1792

section Fns
variable (x0 x1 x2 x3 x4 x5 x6 x7 : Vec F S64x512 .f32) (x8 : Vec F S64x128 .f32) (x9 : Vec F S128x1024 .f32)
  (x10 : Vec F S1x1024 .f32) (x11 : Vec F S1x4x512x256 .f32) (x12 : Vec F S64x2048 .f32) (ds : Vec F S4x512x256 .f32)

abbrev bLogit : FVec F S64x1024 .f32 := k1_pay9 x8 x9 x10
abbrev bEgl : FVec F S4x1x256 .f32 := k1_pay17 (k1_pay11 x8 x9 x10) (k1_pay12 x8 x9 x10) (k1_pay13 x8 x9 x10) (k1_pay14 x8 x9 x10)
abbrev bEg : FVec F S4x64x256 .f32 := k1_pay18 (k1_pay11 x8 x9 x10) (k1_pay12 x8 x9 x10) (k1_pay13 x8 x9 x10) (k1_pay14 x8 x9 x10)
abbrev bEng : FVec F S4x64x256 .f32 := k1_pay19 (k1_pay11 x8 x9 x10) (k1_pay12 x8 x9 x10) (k1_pay13 x8 x9 x10) (k1_pay14 x8 x9 x10)
abbrev bEge : FVec F S4x64x256 .f32 := k1_pay20 (k1_pay11 x8 x9 x10) (k1_pay12 x8 x9 x10) (k1_pay13 x8 x9 x10) (k1_pay14 x8 x9 x10)
abbrev bK : FVec F S4x64x256 .f32 := k1_pay21 (lo x2) (hi x2) (lo x3) (hi x3)
abbrev bV : FVec F S4x64x512 .bf16 := k1_pay22 x4 x5 x6 x7
abbrev bDo : FVec F S4x64x512 .bf16 := k1_pay23 (View.ld x12 head0) (View.ld x12 head1) (View.ld x12 head2) (View.ld x12 head3)
abbrev bQd : FVec F S4x64x256 .f32 := k1_pay24 (bEg x8 x9 x10) (lo x0) (hi x0) (lo x1) (hi x1)
abbrev bKi : FVec F S4x64x256 .f32 := k1_pay25 (bEng x8 x9 x10) (bK x2 x3)
abbrev bKe : FVec F S4x64x256 .f32 := k1_pay26 (bEge x8 x9 x10) (bK x2 x3)
abbrev bQdb : FVec F S4x64x256 .bf16 := k1_pay27 (bEg x8 x9 x10) (lo x0) (hi x0) (lo x1) (hi x1)
abbrev bKib : FVec F S4x64x256 .bf16 := k1_pay28 (bEng x8 x9 x10) (bK x2 x3)
abbrev bKeb : FVec F S4x64x256 .bf16 := k1_pay29 (bEge x8 x9 x10) (bK x2 x3)
abbrev bAtt : FVec F S4x64x64 .bf16 := k1_pay30 k1_pay7 (bEg x8 x9 x10) (bEng x8 x9 x10) (bK x2 x3) (lo x0) (hi x0) (lo x1) (hi x1)
abbrev bDatt : FVec F S4x64x64 .bf16 := k1_pay31 k1_pay7 (bV x4 x5 x6 x7) (View.ld x12 head0) (View.ld x12 head1) (View.ld x12 head2) (View.ld x12 head3)
abbrev bSp : FVec F S4x512x256 .f32 := k1_pay32 x11
abbrev bZ : FVec F S4x64x512 .f32 := constant S4x64x512 .f32 0x00000000#32
abbrev bDv : FVec F S4x64x512 .bf16 := k1_pay34 (bDo x12) (bKeb x2 x3 x8 x9 x10) (bAtt x0 x1 x2 x3 x8 x9 x10) (k1_pay33 ds) bZ
abbrev bDg : FVec F S4x64x256 .f32 := k1_pay39 k1_pay8 (bEgl x8 x9 x10) (bV x4 x5 x6 x7) (bDo x12) (bQd x0 x1 x8 x9 x10)
  (bKi x2 x3 x8 x9 x10) (bKe x2 x3 x8 x9 x10) (bQdb x0 x1 x8 x9 x10) (bKib x2 x3 x8 x9 x10) (bDatt x4 x5 x6 x7 x12) (bSp x11) ds (k1_pay33 ds)
abbrev bDq : FVec F S4x64x256 .bf16 := k1_pay40 (bEg x8 x9 x10) (bDo x12) (bKib x2 x3 x8 x9 x10) (bDatt x4 x5 x6 x7 x12) (bSp x11)
abbrev bDk : FVec F S4x64x256 .bf16 := k1_pay41 (bEng x8 x9 x10) (bEge x8 x9 x10) (bV x4 x5 x6 x7) (bQdb x0 x1 x8 x9 x10)
  (bDatt x4 x5 x6 x7 x12) (k1_pay33 ds)
/-- The carried gradient of the state left. -/
abbrev bS : FVec F S4x512x256 .f32 := k1_pay38 (bEgl x8 x9 x10) (bDo x12) (bQdb x0 x1 x8 x9 x10) ds
/-- The blocks of the outputs: of q's and k's gradient one store per head and half, of v's one per head, last first. -/
def bO13 : Vec F S64x2048 .bf16 :=
  View.canon [⟨kcol3, k1_pay53 (bDk x0 x1 x4 x5 x6 x7 x8 x9 x10 x12 ds)⟩,
    ⟨qcol3, k1_pay52 (bDq x2 x3 x4 x5 x6 x7 x8 x9 x10 x11 x12)⟩,
    ⟨kcol2, k1_pay50 (bDk x0 x1 x4 x5 x6 x7 x8 x9 x10 x12 ds)⟩,
    ⟨qcol2, k1_pay49 (bDq x2 x3 x4 x5 x6 x7 x8 x9 x10 x11 x12)⟩,
    ⟨kcol1, k1_pay47 (bDk x0 x1 x4 x5 x6 x7 x8 x9 x10 x12 ds)⟩,
    ⟨qcol1, k1_pay46 (bDq x2 x3 x4 x5 x6 x7 x8 x9 x10 x11 x12)⟩,
    ⟨kcol0, k1_pay44 (bDk x0 x1 x4 x5 x6 x7 x8 x9 x10 x12 ds)⟩,
    ⟨qcol0, k1_pay43 (bDq x2 x3 x4 x5 x6 x7 x8 x9 x10 x11 x12)⟩]
def bO14 : Vec F S64x2048 .bf16 :=
  View.canon [⟨head3, k1_pay51 (bDv x0 x1 x2 x3 x8 x9 x10 x12 ds)⟩,
    ⟨head2, k1_pay48 (bDv x0 x1 x2 x3 x8 x9 x10 x12 ds)⟩,
    ⟨head1, k1_pay45 (bDv x0 x1 x2 x3 x8 x9 x10 x12 ds)⟩,
    ⟨head0, k1_pay42 (bDo x12) (bKeb x2 x3 x8 x9 x10) (bAtt x0 x1 x2 x3 x8 x9 x10) (k1_pay33 ds) bZ⟩]
def bO15 : Vec F S64x128 .bf16 := k1_pay56 (bLogit x8 x9 x10) (bDg x0 x1 x2 x3 x4 x5 x6 x7 x8 x9 x10 x11 x12 ds) x9
def bO16 (w : Vec F S128x1024 .f32) : Vec F S128x1024 .f32 :=
  k1_pay1 (k1_pay57 w) (k1_pay58 (k1_pay6 x8) (bLogit x8 x9 x10) (bDg x0 x1 x2 x3 x4 x5 x6 x7 x8 x9 x10 x11 x12 ds))
def bO17 (b : Vec F S1x1024 .f32) : Vec F S1x1024 .f32 :=
  k1_pay2 (k1_pay54 (bLogit x8 x9 x10) (bDg x0 x1 x2 x3 x4 x5 x6 x7 x8 x9 x10 x11 x12 ds)) b

end Fns

theorem qkcols_cover {e : EltTy} (p0 p1 p2 p3 p4 p5 p6 p7 : Vec F S64x256 e) (y : S64x2048.Idx) :
    ∃ pc ∈ ([⟨kcol3, p7⟩, ⟨qcol3, p6⟩, ⟨kcol2, p5⟩, ⟨qcol2, p4⟩, ⟨kcol1, p3⟩, ⟨qcol1, p2⟩, ⟨kcol0, p1⟩, ⟨qcol0, p0⟩]
      : List (View.Piece (Elt F) S64x2048 e)), y ∈ pc.1.set :=
  View.cover_of_tiled [⟨kcol3, p7⟩, ⟨qcol3, p6⟩, ⟨kcol2, p5⟩, ⟨qcol2, p4⟩, ⟨kcol1, p3⟩, ⟨qcol1, p2⟩, ⟨kcol0, p1⟩, ⟨qcol0, p0⟩] S64x256.size (by rfl) y

/-- What a point's body works from: zeros at the first, what it finds at any other. -/
abbrev startS (i : grid1.Coords) (xs : Vec F S4x512x256 .f32) : Vec F S4x512x256 .f32 := if first1 i then k1_pay3 else xs
abbrev startW (i : grid1.Coords) (xs : Vec F S128x1024 .f32) : Vec F S128x1024 .f32 := if first1 i then k1_pay4 else xs
abbrev startB (i : grid1.Coords) (xs : Vec F S1x1024 .f32) : Vec F S1x1024 .f32 := if first1 i then k1_pay5 else xs

set_option maxHeartbeats 2000000 in
/-- The body on whole staging memrefs: the inputs' at `xW`, the outputs' at anything but the two accumulated ones' at `w`, `b`, the
    state at `xs`. -/
theorem body1 (c : Dev nD) (E : Set ℕ) (i : grid1.Coords)
    (arg1 arg2 arg3 arg4 arg5 arg6 arg7 arg8 : Memref sig .tc .vmem S64x512 .f32) (arg9 : Memref sig .tc .vmem S64x128 .f32)
    (arg10 : Memref sig .tc .vmem S128x1024 .f32) (arg11 : Memref sig .tc .vmem S1x1024 .f32)
    (arg12 : Memref sig .tc .vmem S1x4x512x256 .f32) (arg13 : Memref sig .tc .vmem S64x2048 .f32)
    (arg14 arg15 : Memref sig .tc .vmem S64x2048 .bf16) (arg16 : Memref sig .tc .vmem S64x128 .bf16)
    (arg17 : Memref sig .tc .vmem S128x1024 .f32) (arg18 : Memref sig .tc .vmem S1x1024 .f32) (arg19 : Memref sig .tc .vmem S4x512x256 .f32)
    (h1 : arg1.IsWhole) (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) (h11 : arg11.IsWhole) (h12 : arg12.IsWhole) (h13 : arg13.IsWhole) (h14 : arg14.IsWhole) (h15 : arg15.IsWhole) (h16 : arg16.IsWhole) (h17 : arg17.IsWhole) (h18 : arg18.IsWhole) (h19 : arg19.IsWhole)
    (x0 x1 x2 x3 x4 x5 x6 x7 : Vec F S64x512 .f32) (x8 : Vec F S64x128 .f32) (x9 : Vec F S128x1024 .f32) (x10 : Vec F S1x1024 .f32)
    (x11 : Vec F S1x4x512x256 .f32) (x12 : Vec F S64x2048 .f32) (w : Vec F S128x1024 .f32) (b : Vec F S1x1024 .f32)
    (xs : Vec F S4x512x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d)
        ∗ (∃ d, owns (c : Thread nD τ) arg15 fullShare d)
        ∗ (∃ d, owns (c : Thread nD τ) arg16 fullShare d)
        ∗ owns (c : Thread nD τ) arg17 fullShare w
        ∗ owns (c : Thread nD τ) arg18 fullShare b
        ∗ owns (c : Thread nD τ) arg19 fullShare xs
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare (bO13 x0 x1 x2 x3 x4 x5 x6 x7 x8 x9 x10 x11 x12 (startS i xs))
          ∗ owns (c : Thread nD τ) arg15 fullShare (bO14 x0 x1 x2 x3 x8 x9 x10 x12 (startS i xs))
          ∗ owns (c : Thread nD τ) arg16 fullShare (bO15 x0 x1 x2 x3 x4 x5 x6 x7 x8 x9 x10 x11 x12 (startS i xs))
          ∗ owns (c : Thread nD τ) arg17 fullShare (bO16 x0 x1 x2 x3 x4 x5 x6 x7 x8 x9 x10 x11 x12 (startS i xs) (startW i w))
          ∗ owns (c : Thread nD τ) arg18 fullShare (bO17 x0 x1 x2 x3 x4 x5 x6 x7 x8 x9 x10 x11 x12 (startS i xs) (startB i b))
          ∗ owns (c : Thread nD τ) arg19 fullShare (bS x0 x1 x8 x9 x10 x12 (startS i xs))) -∗ K ⟨⟩))
      ⊢ wp frame (wpE (defs₀ (F := F)) Variants.none c none) E
        (cc1_gla_bwd i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  simp only [cc1_gla_bwd_eq_skeleton]; unfold cc1_gla_bwd_skel
  simp only [k1_part1_eq_skeleton, k1_part2_eq_skeleton, k1_part3_eq_skeleton, k1_part4_eq_skeleton, k1_part5_eq_skeleton, k1_part6_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩,
    ⟨%d13, %f13, -, H13⟩, ⟨%d14, %f14, -, H14⟩, ⟨%d15, %f15, -, H15⟩, ⟨%f16, %e16, H16⟩, ⟨%f17, %e17, H17⟩, ⟨%fs, %es, HS⟩, Hk⟩
  subst e0 e1 e2 e3 e4 e5 e6 e7 e8 e9 e10 e11 e12 e16 e17 es
  have hh : (first1 i ∧ startS i (View.read (Elt F) arg19.view fs) = k1_pay3 ∧ startW i (View.read (Elt F) arg17.view f16) = k1_pay4
        ∧ startB i (View.read (Elt F) arg18.view f17) = k1_pay5)
      ∨ (¬ first1 i ∧ startS i (View.read (Elt F) arg19.view fs) = View.read (Elt F) arg19.view fs
        ∧ startW i (View.read (Elt F) arg17.view f16) = View.read (Elt F) arg17.view f16
        ∧ startB i (View.read (Elt F) arg18.view f17) = View.read (Elt F) arg18.view f17) := by
    by_cases hc : first1 i
    · exact .inl ⟨hc, if_pos hc, if_pos hc, if_pos hc⟩
    · exact .inr ⟨hc, if_neg hc, if_neg hc, if_neg hc⟩
  rcases hh with ⟨hc, hst, hw, hb⟩ | ⟨hc, hst, hw, hb⟩
  all_goals
    sl_exec (disch := first | sl_exact hc)
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexists f10; isplitr; · ipureintro; rfl
                     iexact H10
    isplitl [H11]; · iexists f11; isplitr; · ipureintro; rfl
                     iexact H11
    isplitl [H12]; · iexists f12; isplitr; · ipureintro; rfl
                     iexact H12
    isplitl [H13]
    · iexists _; isplitr
      swap; · iexact H13
      ipureintro
      refine (View.read_writes_eq_canon _ _ _ (qkcols_cover _ _ _ _ _ _ _ _)).trans ?_
      rw [hst]
      first
        | delta body1.sl.v115 body1.sl.HS_1 body1.sl.v234 body1.sl.H17_1 body1.sl.v229 body1.sl.H16_1 body1.sl.r body1.sl.r_1 body1.sl.r_2 body1.sl.r_3 body1.sl.r_4 body1.sl.r_5 body1.sl.r_6 body1.sl.r_7 body1.sl.r_8 body1.sl.r_9 body1.sl.r_10 body1.sl.r_11 body1.sl.r_12 body1.sl.r_13 body1.sl.r_14 body1.sl.r_15 body1.sl.r_16 body1.sl.r_17 body1.sl.r_18 body1.sl.r_19 body1.sl.r_20 body1.sl.r_21 body1.sl.r_22 body1.sl.r_23 body1.sl.r_24 body1.sl.r_25 body1.sl.r_26 body1.sl.r_27 body1.sl.r_28 body1.sl.r_29 body1.sl.r_30 body1.sl.r_31 body1.sl.r_32 body1.sl.r_33 body1.sl.r_34 body1.sl.r_35
        | delta body1.sl.r_36 body1.sl.r_37 body1.sl.r_38 body1.sl.r_39 body1.sl.r_40 body1.sl.r_41 body1.sl.r_42 body1.sl.r_43 body1.sl.r_44 body1.sl.r_45 body1.sl.r_46 body1.sl.r_47 body1.sl.r_48 body1.sl.r_49 body1.sl.r_50 body1.sl.r_51 body1.sl.r_52 body1.sl.r_53 body1.sl.r_54 body1.sl.r_55 body1.sl.r_56 body1.sl.r_57 body1.sl.r_58 body1.sl.r_59 body1.sl.r_60 body1.sl.r_61 body1.sl.r_62 body1.sl.r_63 body1.sl.r_64 body1.sl.r_65 body1.sl.r_66 body1.sl.r_67 body1.sl.r_68 body1.sl.r_69 body1.sl.r_70 body1.sl.r_71 body1.sl.r_72
        | skip
      simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.ld_unit_zero (S := S1x4x512x256) z4,
        View.readCov_unit_zero (S := S4x512x256) _ z3, View.readCov_unit_zero (S := S128x1024) _ z2, View.readCov_unit_zero (S := S1x1024) _ z2,
        View.canon_cons_unit_zero (S := S4x512x256) z3, View.canon_cons_unit_zero (S := S128x1024) z2, View.canon_cons_unit_zero (S := S1x1024) z2,
        View.canon_cons_unit_zero (S := S64x128) z2]
      try rfl
    isplitl [H14]
    · iexists _; isplitr
      swap; · iexact H14
      ipureintro
      refine (View.read_writes_eq_canon _ _ _ (heads_cover _ _ _ _)).trans ?_
      rw [hst]
      first
        | delta body1.sl.v115 body1.sl.HS_1 body1.sl.v234 body1.sl.H17_1 body1.sl.v229 body1.sl.H16_1 body1.sl.r body1.sl.r_1 body1.sl.r_2 body1.sl.r_3 body1.sl.r_4 body1.sl.r_5 body1.sl.r_6 body1.sl.r_7 body1.sl.r_8 body1.sl.r_9 body1.sl.r_10 body1.sl.r_11 body1.sl.r_12 body1.sl.r_13 body1.sl.r_14 body1.sl.r_15 body1.sl.r_16 body1.sl.r_17 body1.sl.r_18 body1.sl.r_19 body1.sl.r_20 body1.sl.r_21 body1.sl.r_22 body1.sl.r_23 body1.sl.r_24 body1.sl.r_25 body1.sl.r_26 body1.sl.r_27 body1.sl.r_28 body1.sl.r_29 body1.sl.r_30 body1.sl.r_31 body1.sl.r_32 body1.sl.r_33 body1.sl.r_34 body1.sl.r_35
        | delta body1.sl.r_36 body1.sl.r_37 body1.sl.r_38 body1.sl.r_39 body1.sl.r_40 body1.sl.r_41 body1.sl.r_42 body1.sl.r_43 body1.sl.r_44 body1.sl.r_45 body1.sl.r_46 body1.sl.r_47 body1.sl.r_48 body1.sl.r_49 body1.sl.r_50 body1.sl.r_51 body1.sl.r_52 body1.sl.r_53 body1.sl.r_54 body1.sl.r_55 body1.sl.r_56 body1.sl.r_57 body1.sl.r_58 body1.sl.r_59 body1.sl.r_60 body1.sl.r_61 body1.sl.r_62 body1.sl.r_63 body1.sl.r_64 body1.sl.r_65 body1.sl.r_66 body1.sl.r_67 body1.sl.r_68 body1.sl.r_69 body1.sl.r_70 body1.sl.r_71 body1.sl.r_72
        | skip
      simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.ld_unit_zero (S := S1x4x512x256) z4,
        View.readCov_unit_zero (S := S4x512x256) _ z3, View.readCov_unit_zero (S := S128x1024) _ z2, View.readCov_unit_zero (S := S1x1024) _ z2,
        View.canon_cons_unit_zero (S := S4x512x256) z3, View.canon_cons_unit_zero (S := S128x1024) z2, View.canon_cons_unit_zero (S := S1x1024) z2,
        View.canon_cons_unit_zero (S := S64x128) z2]
      try rfl
    isplitl [H15]
    · iexists _; isplitr
      swap; · iexact H15
      ipureintro
      refine (View.read_writes_eq_canon _ _ _ (first_piece_covers z2 _ _ _)).trans ?_
      rw [hst]
      first
        | delta body1.sl.v115 body1.sl.HS_1 body1.sl.v234 body1.sl.H17_1 body1.sl.v229 body1.sl.H16_1 body1.sl.r body1.sl.r_1 body1.sl.r_2 body1.sl.r_3 body1.sl.r_4 body1.sl.r_5 body1.sl.r_6 body1.sl.r_7 body1.sl.r_8 body1.sl.r_9 body1.sl.r_10 body1.sl.r_11 body1.sl.r_12 body1.sl.r_13 body1.sl.r_14 body1.sl.r_15 body1.sl.r_16 body1.sl.r_17 body1.sl.r_18 body1.sl.r_19 body1.sl.r_20 body1.sl.r_21 body1.sl.r_22 body1.sl.r_23 body1.sl.r_24 body1.sl.r_25 body1.sl.r_26 body1.sl.r_27 body1.sl.r_28 body1.sl.r_29 body1.sl.r_30 body1.sl.r_31 body1.sl.r_32 body1.sl.r_33 body1.sl.r_34 body1.sl.r_35
        | delta body1.sl.r_36 body1.sl.r_37 body1.sl.r_38 body1.sl.r_39 body1.sl.r_40 body1.sl.r_41 body1.sl.r_42 body1.sl.r_43 body1.sl.r_44 body1.sl.r_45 body1.sl.r_46 body1.sl.r_47 body1.sl.r_48 body1.sl.r_49 body1.sl.r_50 body1.sl.r_51 body1.sl.r_52 body1.sl.r_53 body1.sl.r_54 body1.sl.r_55 body1.sl.r_56 body1.sl.r_57 body1.sl.r_58 body1.sl.r_59 body1.sl.r_60 body1.sl.r_61 body1.sl.r_62 body1.sl.r_63 body1.sl.r_64 body1.sl.r_65 body1.sl.r_66 body1.sl.r_67 body1.sl.r_68 body1.sl.r_69 body1.sl.r_70 body1.sl.r_71 body1.sl.r_72
        | skip
      simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.ld_unit_zero (S := S1x4x512x256) z4,
        View.readCov_unit_zero (S := S4x512x256) _ z3, View.readCov_unit_zero (S := S128x1024) _ z2, View.readCov_unit_zero (S := S1x1024) _ z2,
        View.canon_cons_unit_zero (S := S4x512x256) z3, View.canon_cons_unit_zero (S := S128x1024) z2, View.canon_cons_unit_zero (S := S1x1024) z2,
        View.canon_cons_unit_zero (S := S64x128) z2]
      try rfl
    isplitl [H16]
    · iexists _; isplitr
      swap; · iexact H16
      ipureintro
      refine (View.read_writes_eq_canon _ _ _ (first_piece_covers z2 _ _ _)).trans ?_
      rw [hst, hw]
      first
        | delta body1.sl.v115 body1.sl.HS_1 body1.sl.v234 body1.sl.H17_1 body1.sl.v229 body1.sl.H16_1 body1.sl.r body1.sl.r_1 body1.sl.r_2 body1.sl.r_3 body1.sl.r_4 body1.sl.r_5 body1.sl.r_6 body1.sl.r_7 body1.sl.r_8 body1.sl.r_9 body1.sl.r_10 body1.sl.r_11 body1.sl.r_12 body1.sl.r_13 body1.sl.r_14 body1.sl.r_15 body1.sl.r_16 body1.sl.r_17 body1.sl.r_18 body1.sl.r_19 body1.sl.r_20 body1.sl.r_21 body1.sl.r_22 body1.sl.r_23 body1.sl.r_24 body1.sl.r_25 body1.sl.r_26 body1.sl.r_27 body1.sl.r_28 body1.sl.r_29 body1.sl.r_30 body1.sl.r_31 body1.sl.r_32 body1.sl.r_33 body1.sl.r_34 body1.sl.r_35
        | delta body1.sl.r_36 body1.sl.r_37 body1.sl.r_38 body1.sl.r_39 body1.sl.r_40 body1.sl.r_41 body1.sl.r_42 body1.sl.r_43 body1.sl.r_44 body1.sl.r_45 body1.sl.r_46 body1.sl.r_47 body1.sl.r_48 body1.sl.r_49 body1.sl.r_50 body1.sl.r_51 body1.sl.r_52 body1.sl.r_53 body1.sl.r_54 body1.sl.r_55 body1.sl.r_56 body1.sl.r_57 body1.sl.r_58 body1.sl.r_59 body1.sl.r_60 body1.sl.r_61 body1.sl.r_62 body1.sl.r_63 body1.sl.r_64 body1.sl.r_65 body1.sl.r_66 body1.sl.r_67 body1.sl.r_68 body1.sl.r_69 body1.sl.r_70 body1.sl.r_71 body1.sl.r_72
        | skip
      simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.ld_unit_zero (S := S1x4x512x256) z4,
        View.readCov_unit_zero (S := S4x512x256) _ z3, View.readCov_unit_zero (S := S128x1024) _ z2, View.readCov_unit_zero (S := S1x1024) _ z2,
        View.canon_cons_unit_zero (S := S4x512x256) z3, View.canon_cons_unit_zero (S := S128x1024) z2, View.canon_cons_unit_zero (S := S1x1024) z2,
        View.canon_cons_unit_zero (S := S64x128) z2]
      try rfl
    isplitl [H17]
    · iexists _; isplitr
      swap; · iexact H17
      ipureintro
      refine (View.read_writes_eq_canon _ _ _ (first_piece_covers z2 _ _ _)).trans ?_
      rw [hst, hb]
      first
        | delta body1.sl.v115 body1.sl.HS_1 body1.sl.v234 body1.sl.H17_1 body1.sl.v229 body1.sl.H16_1 body1.sl.r body1.sl.r_1 body1.sl.r_2 body1.sl.r_3 body1.sl.r_4 body1.sl.r_5 body1.sl.r_6 body1.sl.r_7 body1.sl.r_8 body1.sl.r_9 body1.sl.r_10 body1.sl.r_11 body1.sl.r_12 body1.sl.r_13 body1.sl.r_14 body1.sl.r_15 body1.sl.r_16 body1.sl.r_17 body1.sl.r_18 body1.sl.r_19 body1.sl.r_20 body1.sl.r_21 body1.sl.r_22 body1.sl.r_23 body1.sl.r_24 body1.sl.r_25 body1.sl.r_26 body1.sl.r_27 body1.sl.r_28 body1.sl.r_29 body1.sl.r_30 body1.sl.r_31 body1.sl.r_32 body1.sl.r_33 body1.sl.r_34 body1.sl.r_35
        | delta body1.sl.r_36 body1.sl.r_37 body1.sl.r_38 body1.sl.r_39 body1.sl.r_40 body1.sl.r_41 body1.sl.r_42 body1.sl.r_43 body1.sl.r_44 body1.sl.r_45 body1.sl.r_46 body1.sl.r_47 body1.sl.r_48 body1.sl.r_49 body1.sl.r_50 body1.sl.r_51 body1.sl.r_52 body1.sl.r_53 body1.sl.r_54 body1.sl.r_55 body1.sl.r_56 body1.sl.r_57 body1.sl.r_58 body1.sl.r_59 body1.sl.r_60 body1.sl.r_61 body1.sl.r_62 body1.sl.r_63 body1.sl.r_64 body1.sl.r_65 body1.sl.r_66 body1.sl.r_67 body1.sl.r_68 body1.sl.r_69 body1.sl.r_70 body1.sl.r_71 body1.sl.r_72
        | skip
      simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.ld_unit_zero (S := S1x4x512x256) z4,
        View.readCov_unit_zero (S := S4x512x256) _ z3, View.readCov_unit_zero (S := S128x1024) _ z2, View.readCov_unit_zero (S := S1x1024) _ z2,
        View.canon_cons_unit_zero (S := S4x512x256) z3, View.canon_cons_unit_zero (S := S128x1024) z2, View.canon_cons_unit_zero (S := S1x1024) z2,
        View.canon_cons_unit_zero (S := S64x128) z2]
      try rfl
    iexists _; isplitr
    swap; · iexact HS
    ipureintro
    refine (View.read_writes_eq_canon _ _ _ (first_piece_covers z3 _ _ _)).trans ?_
    rw [hst]
    first
      | delta body1.sl.v115 body1.sl.HS_1 body1.sl.v234 body1.sl.H17_1 body1.sl.v229 body1.sl.H16_1 body1.sl.r body1.sl.r_1 body1.sl.r_2 body1.sl.r_3 body1.sl.r_4 body1.sl.r_5 body1.sl.r_6 body1.sl.r_7 body1.sl.r_8 body1.sl.r_9 body1.sl.r_10 body1.sl.r_11 body1.sl.r_12 body1.sl.r_13 body1.sl.r_14 body1.sl.r_15 body1.sl.r_16 body1.sl.r_17 body1.sl.r_18 body1.sl.r_19 body1.sl.r_20 body1.sl.r_21 body1.sl.r_22 body1.sl.r_23 body1.sl.r_24 body1.sl.r_25 body1.sl.r_26 body1.sl.r_27 body1.sl.r_28 body1.sl.r_29 body1.sl.r_30 body1.sl.r_31 body1.sl.r_32 body1.sl.r_33 body1.sl.r_34 body1.sl.r_35
      | delta body1.sl.r_36 body1.sl.r_37 body1.sl.r_38 body1.sl.r_39 body1.sl.r_40 body1.sl.r_41 body1.sl.r_42 body1.sl.r_43 body1.sl.r_44 body1.sl.r_45 body1.sl.r_46 body1.sl.r_47 body1.sl.r_48 body1.sl.r_49 body1.sl.r_50 body1.sl.r_51 body1.sl.r_52 body1.sl.r_53 body1.sl.r_54 body1.sl.r_55 body1.sl.r_56 body1.sl.r_57 body1.sl.r_58 body1.sl.r_59 body1.sl.r_60 body1.sl.r_61 body1.sl.r_62 body1.sl.r_63 body1.sl.r_64 body1.sl.r_65 body1.sl.r_66 body1.sl.r_67 body1.sl.r_68 body1.sl.r_69 body1.sl.r_70 body1.sl.r_71 body1.sl.r_72
      | skip
    simp only [View.readAt_eq_ld, View.ld_unit_zero (S := S64x512) z2, View.ld_unit_zero (S := S64x128) z2, View.ld_unit_zero (S := S128x1024) z2,
        View.ld_unit_zero (S := S1x1024) z2, View.ld_unit_zero (S := S4x512x256) z3, View.ld_unit_zero (S := S1x4x512x256) z4,
        View.readCov_unit_zero (S := S4x512x256) _ z3, View.readCov_unit_zero (S := S128x1024) _ z2, View.readCov_unit_zero (S := S1x1024) _ z2,
        View.canon_cons_unit_zero (S := S4x512x256) z3, View.canon_cons_unit_zero (S := S128x1024) z2, View.canon_cons_unit_zero (S := S1x1024) z2,
        View.canon_cons_unit_zero (S := S64x128) z2]
    try rfl

end Cert.KernelIdeal.Gla

end
-- ==== Proof.Region0.lean ====
/- The forward call's region: its proof data over the carried state's recursion, and its body obligation. -/
module

public import proofs.«01_k».proof.Proof.Body0
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's proof data, at the contents `V` it is entered from -/

/-- The grid's `n`-th point. -/
def pt0 (n : ℕ) : Fin cfg0.N := ⟨n % 32, (Nat.mod_lt n (by decide)).trans_eq N_0.symm⟩
theorem pt0_val (t : Fin cfg0.N) : pt0 t.val = t := Fin.ext (Nat.mod_eq_of_lt (t.isLt.trans_eq N_0))

/-- The carried state's buffer. -/
abbrev scr0 : Memref sig .tc .vmem S4x512x256 .f32 := Memref.whole cc0_scratch0

section Region
variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The state point `n` works from. -/
def S0 (c : Dev nD) : ℕ → Vec F S4x512x256 .f32
  | 0 => k0_pay2
  | n + 1 => fS (iblk0 V c 2 (pt0 n)) (iblk0 V c 3 (pt0 n)) (iblk0 V c 4 (pt0 n)) (iblk0 V c 5 (pt0 n)) (iblk0 V c 6 (pt0 n))
      (iblk0 V c 7 (pt0 n)) (iblk0 V c 8 (pt0 n)) (iblk0 V c 9 (pt0 n)) (iblk0 V c 10 (pt0 n)) (S0 c n)

theorem S0_succ (c : Dev nD) (t : Fin cfg0.N) :
    S0 V c (t.val + 1) = fS (iblk0 V c 2 t) (iblk0 V c 3 t) (iblk0 V c 4 t) (iblk0 V c 5 t) (iblk0 V c 6 t)
      (iblk0 V c 7 t) (iblk0 V c 8 t) (iblk0 V c 9 t) (iblk0 V c 10 t) (S0 V c t.val) := by
  rw [S0, pt0_val]

/-- What the region owns between points: the carried state, at `S0` after the first point; the other scoped buffers; the
    generator register. -/
def Inv0 (c : Dev nD) (n : ℕ) : sProp 𝕄 :=
  iprop((∃ xs, ⌜n ≠ 0 → xs = S0 V c n⌝ ∗ owns (c : Thread nD τ) scr0 fullShare xs)
    ∗ Pipeline.scopedRestBut (Ix := Unit) (Name := ℕ) (U := UR sig nD τ) (Lvl := ℕ) (Val := Elt F) spec0 c [cc0_scratch0]
    ∗ (∃ r, prngReg c r))

theorem inv0_of_PhiA (c : Dev nD) : (Pipeline.ΦA spec0 c : sProp 𝕄) ⊢ Inv0 V c 0 := by
  unfold Pipeline.ΦA Inv0; rw [scopedRest0_split]; simp only [scr0, owns_whole]
  iintro ⟨⟨⟨%f, HS⟩, Hr⟩, Hp⟩
  isplitl [HS]
  · iexists f; isplitr; · ipureintro; intro h; exact absurd rfl h
    iexact HS
  isplitl [Hr] <;> iassumption

theorem PhiA_of_inv0 (c : Dev nD) (n : ℕ) : Inv0 V c n ⊢ (Pipeline.ΦA spec0 c : sProp 𝕄) := by
  unfold Pipeline.ΦA Inv0; rw [scopedRest0_split]; simp only [scr0, owns_whole]
  iintro ⟨⟨%f, -, HS⟩, Hr, Hp⟩
  isplitl [HS Hr]
  · isplitl [HS]
    · iexists f; iexact HS
    iexact Hr
  iexact Hp

/-- The pipeline's proof data: the inputs' buffers at their blocks, the outputs' at the body's functions of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => fO (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (iblk0 V c 10 t) (S0 V c t.val)
    | ⟨12, _⟩ => fSt (S0 V c t.val)
  Φ t := Inv0 V c t.val
  q w := Pipeline.shareOf spec0 w
  owed _ := 0

theorem A_eq0 (c : Dev nD) (w : Fin cfg0.W) : (dat0 V c).A w = V c (Pipeline.arrRef spec0 w) := by
  dsimp only [dat0]

/-- An input window's buffer is left as found. -/
theorem after0_in (c : Dev nD) (t : Fin cfg0.N) :
    (dat0 V c).after 0 t = iblk0 V c 0 t ∧ (dat0 V c).after 1 t = iblk0 V c 1 t ∧ (dat0 V c).after 2 t = iblk0 V c 2 t
    ∧ (dat0 V c).after 3 t = iblk0 V c 3 t ∧ (dat0 V c).after 4 t = iblk0 V c 4 t ∧ (dat0 V c).after 5 t = iblk0 V c 5 t
    ∧ (dat0 V c).after 6 t = iblk0 V c 6 t ∧ (dat0 V c).after 7 t = iblk0 V c 7 t ∧ (dat0 V c).after 8 t = iblk0 V c 8 t
    ∧ (dat0 V c).after 9 t = iblk0 V c 9 t ∧ (dat0 V c).after 10 t = iblk0 V c 10 t := by
  dsimp only [dat0]; exact ⟨rfl, rfl, rfl, rfl, rfl, rfl, rfl, rfl, rfl, rfl, rfl⟩
theorem after0_11 (c : Dev nD) (t : Fin cfg0.N) : (dat0 V c).after 11 t
    = fO (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (iblk0 V c 10 t) (S0 V c t.val) := by dsimp only [dat0]
theorem after0_12 (c : Dev nD) (t : Fin cfg0.N) : (dat0 V c).after 12 t = fSt (S0 V c t.val) := by dsimp only [dat0]

/-! An input window's current buffer holds its block at every point, fetched there or not. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [(after0_in V c t).1]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [(after0_in V c t).2.1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [(after0_in V c t).2.2.1]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [(after0_in V c t).2.2.2.1]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [(after0_in V c t).2.2.2.2.1]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [(after0_in V c t).2.2.2.2.2.1]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [(after0_in V c t).2.2.2.2.2.2.1]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [(after0_in V c t).2.2.2.2.2.2.2.1]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [(after0_in V c t).2.2.2.2.2.2.2.2.1]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [(after0_in V c t).2.2.2.2.2.2.2.2.2.1]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [(after0_in V c t).2.2.2.2.2.2.2.2.2.2]; unfold Dat.blockOf iblk0; rw [A_eq0]; try rfl) t d).trans
    (by unfold Dat.fetched Dat.blockOf iblk0; rw [A_eq0]; try rfl)

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

theorem start0_eq (c : Dev nD) (t : Fin cfg0.N) (xs : Vec F S4x512x256 .f32) (h : t.val ≠ 0 → xs = S0 V c t.val) :
    start0 (grid0.coords t) xs = S0 V c t.val := by
  by_cases ht : t.val = 0
  · rw [start0, if_pos ((first0_iff t).mpr ht), ht]; rfl
  · rw [start0, if_neg (fun h => ht ((first0_iff t).mp h)), h ht]

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  obtain ⟨a0, a1, a2, a3, a4, a5, a6, a7, a8, a9, a10⟩ := after0_in V c t
  rw [show (dat0 V c).Φ t.succ = Inv0 V c (t.val + 1) from rfl, show (dat0 V c).Φ t.castSucc = Inv0 V c t.val from rfl,
    show (dat0 V c).owesAt () t.succ = (dat0 V c).owesAt () t.castSucc from rfl,
    a0, a1, a2, a3, a4, a5, a6, a7, a8, a9, a10, after0_11, after0_12]
  unfold Inv0
  iintro ⟨⟨⟨%xs, %hxs, HS⟩, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body0 c Set.univ (grid0.coords t) _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) xs _)
  rw [start0_eq V c t xs hxs]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS]; · iexact HS
  iintro ⟨H0, H1, H2, H3, H4, H5, H6, H7, H8, H9, H10, H11, H12, HS⟩
  isplitl [HS Hr Hp]
  · isplitl [HS]
    · iexists _; isplitr
      swap; · iexact HS
      ipureintro; intro _; exact (S0_succ V c t).symm
    isplitl [Hr] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.KernelIdeal.Gla

end
-- ==== Proof.Region1.lean ====
/- The backward call's region: its proof data over the recursions of the carried state and of the two accumulated outputs, and its
   body obligation. -/
module

public import proofs.«01_k».proof.Proof.Body1
public import proofs.«01_k».proof.Proof.Region0
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid's `n`-th point. -/
def pt1 (n : ℕ) : Fin cfg1.N := ⟨n % 32, (Nat.mod_lt n (by decide)).trans_eq N_1.symm⟩
theorem pt1_val (t : Fin cfg1.N) : pt1 t.val = t := Fin.ext (Nat.mod_eq_of_lt (t.isLt.trans_eq N_1))

/-- The carried gradient's buffer. -/
abbrev scr1 : Memref sig .tc .vmem S4x512x256 .f32 := Memref.whole cc1_scratch0

section Region
variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gradient of the state that point `n` works from. -/
def S1 (c : Dev nD) : ℕ → Vec F S4x512x256 .f32
  | 0 => k1_pay3
  | n + 1 => bS (iblk1 V c 0 (pt1 n)) (iblk1 V c 1 (pt1 n)) (iblk1 V c 8 (pt1 n)) (iblk1 V c 9 (pt1 n)) (iblk1 V c 10 (pt1 n)) (iblk1 V c 12 (pt1 n)) (S1 c n)
/-- The two accumulated outputs before point `n`. -/
def W1 (c : Dev nD) : ℕ → Vec F S128x1024 .f32
  | 0 => k1_pay4
  | n + 1 => bO16 (iblk1 V c 0 (pt1 n)) (iblk1 V c 1 (pt1 n)) (iblk1 V c 2 (pt1 n)) (iblk1 V c 3 (pt1 n)) (iblk1 V c 4 (pt1 n)) (iblk1 V c 5 (pt1 n)) (iblk1 V c 6 (pt1 n))
      (iblk1 V c 7 (pt1 n)) (iblk1 V c 8 (pt1 n)) (iblk1 V c 9 (pt1 n)) (iblk1 V c 10 (pt1 n)) (iblk1 V c 11 (pt1 n)) (iblk1 V c 12 (pt1 n)) (S1 V c n) (W1 c n)
def B1 (c : Dev nD) : ℕ → Vec F S1x1024 .f32
  | 0 => k1_pay5
  | n + 1 => bO17 (iblk1 V c 0 (pt1 n)) (iblk1 V c 1 (pt1 n)) (iblk1 V c 2 (pt1 n)) (iblk1 V c 3 (pt1 n)) (iblk1 V c 4 (pt1 n)) (iblk1 V c 5 (pt1 n)) (iblk1 V c 6 (pt1 n))
      (iblk1 V c 7 (pt1 n)) (iblk1 V c 8 (pt1 n)) (iblk1 V c 9 (pt1 n)) (iblk1 V c 10 (pt1 n)) (iblk1 V c 11 (pt1 n)) (iblk1 V c 12 (pt1 n)) (S1 V c n) (B1 c n)

theorem S1_succ (c : Dev nD) (t : Fin cfg1.N) :
    S1 V c (t.val + 1) = bS (iblk1 V c 0 t) (iblk1 V c 1 t) (iblk1 V c 8 t) (iblk1 V c 9 t) (iblk1 V c 10 t) (iblk1 V c 12 t) (S1 V c t.val) := by
  rw [S1, pt1_val]
theorem W1_succ (c : Dev nD) (t : Fin cfg1.N) : W1 V c (t.val + 1) = bO16 (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) (S1 V c t.val) (W1 V c t.val) := by
  rw [W1, pt1_val]
theorem B1_succ (c : Dev nD) (t : Fin cfg1.N) : B1 V c (t.val + 1) = bO17 (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) (S1 V c t.val) (B1 V c t.val) := by
  rw [B1, pt1_val]

/-- What the region owns between points: the carried gradient, at `S1` after the first point; the other scoped buffers; the
    generator register. -/
def Inv1 (c : Dev nD) (n : ℕ) : sProp 𝕄 :=
  iprop((∃ xs, ⌜n ≠ 0 → xs = S1 V c n⌝ ∗ owns (c : Thread nD τ) scr1 fullShare xs)
    ∗ Pipeline.scopedRestBut (Ix := Unit) (Name := ℕ) (U := UR sig nD τ) (Lvl := ℕ) (Val := Elt F) spec1 c [cc1_scratch0]
    ∗ (∃ r, prngReg c r))

theorem inv1_of_PhiA (c : Dev nD) : (Pipeline.ΦA spec1 c : sProp 𝕄) ⊢ Inv1 V c 0 := by
  unfold Pipeline.ΦA Inv1; rw [scopedRest1_split]; simp only [scr1, owns_whole]
  iintro ⟨⟨⟨%f, HS⟩, Hr⟩, Hp⟩
  isplitl [HS]
  · iexists f; isplitr; · ipureintro; intro h; exact absurd rfl h
    iexact HS
  isplitl [Hr] <;> iassumption

theorem PhiA_of_inv1 (c : Dev nD) (n : ℕ) : Inv1 V c n ⊢ (Pipeline.ΦA spec1 c : sProp 𝕄) := by
  unfold Pipeline.ΦA Inv1; rw [scopedRest1_split]; simp only [scr1, owns_whole]
  iintro ⟨⟨%f, -, HS⟩, Hr, Hp⟩
  isplitl [HS Hr]
  · isplitl [HS]
    · iexists f; iexact HS
    iexact Hr
  iexact Hp

/-- The pipeline's proof data: the inputs' buffers at their blocks, the outputs' at the body's functions of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => bO13 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t) (iblk1 V c 12 t) (S1 V c t.val)
    | ⟨14, _⟩ => bO14 (iblk1 V c 0 t) (iblk1 V c 1 t) (iblk1 V c 2 t) (iblk1 V c 3 t) (iblk1 V c 8 t) (iblk1 V c 9 t) (iblk1 V c 10 t)
        (iblk1 V c 12 t) (S1 V c t.val)
    | ⟨15, _⟩ => bO15 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t) (iblk1 V c 12 t) (S1 V c t.val)
    | ⟨16, _⟩ => W1 V c (t.val + 1)
    | ⟨17, _⟩ => B1 V c (t.val + 1)
    | ⟨_ + 18, h⟩ => absurd h (Nat.not_lt.2 (Nat.le_add_left _ _))
  Φ t := Inv1 V c t.val
  q w := Pipeline.shareOf spec1 w
  owed _ := 0

theorem A_eq1 (c : Dev nD) (w : Fin cfg1.W) : (dat1 V c).A w = V c (Pipeline.arrRef spec1 w) := by
  dsimp only [dat1]

/-- An input window's buffer is left as found. -/
theorem after1_in (c : Dev nD) (t : Fin cfg1.N) :
    (dat1 V c).after 0 t = iblk1 V c 0 t
    ∧ (dat1 V c).after 1 t = iblk1 V c 1 t
    ∧ (dat1 V c).after 2 t = iblk1 V c 2 t
    ∧ (dat1 V c).after 3 t = iblk1 V c 3 t
    ∧ (dat1 V c).after 4 t = iblk1 V c 4 t
    ∧ (dat1 V c).after 5 t = iblk1 V c 5 t
    ∧ (dat1 V c).after 6 t = iblk1 V c 6 t
    ∧ (dat1 V c).after 7 t = iblk1 V c 7 t
    ∧ (dat1 V c).after 8 t = iblk1 V c 8 t
    ∧ (dat1 V c).after 9 t = iblk1 V c 9 t
    ∧ (dat1 V c).after 10 t = iblk1 V c 10 t
    ∧ (dat1 V c).after 11 t = iblk1 V c 11 t
    ∧ (dat1 V c).after 12 t = iblk1 V c 12 t := by
  dsimp only [dat1]; exact ⟨rfl, rfl, rfl, rfl, rfl, rfl, rfl, rfl, rfl, rfl, rfl, rfl, rfl⟩
theorem after1_13 (c : Dev nD) (t : Fin cfg1.N) : (dat1 V c).after 13 t
    = bO13 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t) (iblk1 V c 12 t) (S1 V c t.val) := by dsimp only [dat1]
theorem after1_14 (c : Dev nD) (t : Fin cfg1.N) : (dat1 V c).after 14 t
    = bO14 (iblk1 V c 0 t) (iblk1 V c 1 t) (iblk1 V c 2 t) (iblk1 V c 3 t) (iblk1 V c 8 t) (iblk1 V c 9 t) (iblk1 V c 10 t)
        (iblk1 V c 12 t) (S1 V c t.val) := by dsimp only [dat1]
theorem after1_15 (c : Dev nD) (t : Fin cfg1.N) : (dat1 V c).after 15 t
    = bO15 (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t) (iblk1 V c 12 t) (S1 V c t.val) := by dsimp only [dat1]
theorem after1_16 (c : Dev nD) (t : Fin cfg1.N) : (dat1 V c).after 16 t
    = W1 V c (t.val + 1) := by dsimp only [dat1]
theorem after1_17 (c : Dev nD) (t : Fin cfg1.N) : (dat1 V c).after 17 t
    = B1 V c (t.val + 1) := by dsimp only [dat1]

/-! An input window's current buffer holds its block at every point, fetched there or not. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [(after1_in V c t).1]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [(after1_in V c t).2.1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [(after1_in V c t).2.2.1]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [(after1_in V c t).2.2.2.1]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [(after1_in V c t).2.2.2.2.1]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [(after1_in V c t).2.2.2.2.2.1]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [(after1_in V c t).2.2.2.2.2.2.1]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [(after1_in V c t).2.2.2.2.2.2.2.1]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [(after1_in V c t).2.2.2.2.2.2.2.2.1]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [(after1_in V c t).2.2.2.2.2.2.2.2.2.1]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [(after1_in V c t).2.2.2.2.2.2.2.2.2.2.1]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [(after1_in V c t).2.2.2.2.2.2.2.2.2.2.2.1]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl)
    (fun t => by rw [(after1_in V c t).2.2.2.2.2.2.2.2.2.2.2.2]; unfold Dat.blockOf iblk1; rw [A_eq1]; try rfl) t d).trans
    (by unfold Dat.fetched Dat.blockOf iblk1; rw [A_eq1]; try rfl)

/-! An accumulated output's buffer holds, after the first point, what the point before left there. -/

theorem before1_16 (c : Dev nD) (t : Fin cfg1.N) (ht : t.val ≠ 0) (d) : (dat1 V c).before 16 t d = W1 V c t.val := by
  have hN : t.val < 32 := lt_of_lt_of_eq t.isLt (show cfg1.N = 32 from N_1)
  rw [Dat.before_out_kept _ 16 rfl t ht (Bool.eq_false_iff.mpr fun h => by have := (flush1_16 _).mp h; dsimp only at this; omega)
    (fun _ => rfl) (fun _ _ => rfl), after1_16]
  dsimp only
  rw [Nat.sub_add_cancel (Nat.one_le_iff_ne_zero.mpr ht)]
theorem before1_17 (c : Dev nD) (t : Fin cfg1.N) (ht : t.val ≠ 0) (d) : (dat1 V c).before 17 t d = B1 V c t.val := by
  have hN : t.val < 32 := lt_of_lt_of_eq t.isLt (show cfg1.N = 32 from N_1)
  rw [Dat.before_out_kept _ 17 rfl t ht (Bool.eq_false_iff.mpr fun h => by have := (flush1_17 _).mp h; dsimp only at this; omega)
    (fun _ => rfl) (fun _ _ => rfl), after1_17]
  dsimp only
  rw [Nat.sub_add_cancel (Nat.one_le_iff_ne_zero.mpr ht)]

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t))

theorem startS_eq (c : Dev nD) (t : Fin cfg1.N) (xs : Vec F S4x512x256 .f32) (h : t.val ≠ 0 → xs = S1 V c t.val) :
    startS (grid1.coords t) xs = S1 V c t.val := by
  by_cases ht : t.val = 0
  · rw [startS, if_pos ((first1_iff t).mpr ht), ht]; rfl
  · rw [startS, if_neg (fun h => ht ((first1_iff t).mp h)), h ht]
theorem startW_eq (c : Dev nD) (t : Fin cfg1.N) (d) : startW (grid1.coords t) ((dat1 V c).before 16 t d) = W1 V c t.val := by
  by_cases ht : t.val = 0
  · rw [startW, if_pos ((first1_iff t).mpr ht), ht]; rfl
  · rw [startW, if_neg (fun h => ht ((first1_iff t).mp h)), before1_16 V c t ht]
theorem startB_eq (c : Dev nD) (t : Fin cfg1.N) (d) : startB (grid1.coords t) ((dat1 V c).before 17 t d) = B1 V c t.val := by
  by_cases ht : t.val = 0
  · rw [startB, if_pos ((first1_iff t).mpr ht), ht]; rfl
  · rw [startB, if_neg (fun h => ht ((first1_iff t).mp h)), before1_17 V c t ht]

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  obtain ⟨a0, a1, a2, a3, a4, a5, a6, a7, a8, a9, a10, a11, a12⟩ := after1_in V c t
  rw [show (dat1 V c).Φ t.succ = Inv1 V c (t.val + 1) from rfl, show (dat1 V c).Φ t.castSucc = Inv1 V c t.val from rfl,
    show (dat1 V c).owesAt () t.succ = (dat1 V c).owesAt () t.castSucc from rfl,
    a0, a1, a2, a3, a4, a5, a6, a7, a8, a9, a10, a11, a12, after1_13, after1_14, after1_15, after1_16, after1_17]
  unfold Inv1
  iintro ⟨⟨⟨%xs, %hxs, HS⟩, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body1 c Set.univ (grid1.coords t) _ _ _ _ _ _ _ _ _ _ _ _ _ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t)
    ((dat1 V c).before 16 t d16) ((dat1 V c).before 17 t d17) xs _)
  rw [startS_eq V c t xs hxs, startW_eq V c t d16, startB_eq V c t d17, ← W1_succ, ← B1_succ, ← S1_succ]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexact H16
  isplitl [H17]; · iexact H17
  isplitl [HS]; · iexact HS
  iintro ⟨H0, H1, H2, H3, H4, H5, H6, H7, H8, H9, H10, H11, H12, H13, H14, H15, H16, H17, HS⟩
  isplitl [HS Hr Hp]
  · isplitl [HS]
    · iexists _; isplitr
      swap; · iexact HS
      ipureintro; intro _; rfl
    isplitl [Hr] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Gla

end
-- ==== Proof.Run.lean ====
/- The run: @main's host stretches and its two regions in order, every unscoped buffer at the last boundary's contents at the end,
   every counter at zero. -/
module

public import proofs.«01_k».proof.Proof.Region1
public import proofs.«01_k».proof.Proof.Gen.KernelIdeal.Regions
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (HostSeg RegionSeg Seg)
variable (m : (ℓ : Loc nD τ sig) → Buf (Elt F) ℓ) (ρ : Dev nD → PrngReg)

/-! ## The buffers' contents at each boundary of @main -/

/-- A boundary's contents, read at the TensorCore's references. -/
abbrev tcV (X : Dev nD → Valuation τ sig (Elt F)) : (c : Dev nD) → (b : Ref sig .tc) → Buf (Elt F) ((c : Thread nD τ).loc b) := fun c b => X c b

abbrev X0 : Dev nD → Valuation τ sig (Elt F) := fun c b => m (c, b)
abbrev X1 : Dev nD → Valuation τ sig (Elt F) := fun c => StableHlo.after hostOps0 (X0 m c)
abbrev X2 : Dev nD → Valuation τ sig (Elt F) := fun c => StableHlo.after hostOps0_1 (X1 m c)
/-- After the forward call: its arrays at what the pipeline leaves, every other buffer as entered. -/
def X3 (c : Dev nD) : Valuation τ sig (Elt F) :=
  Pipeline.withArrays spec0 c (X2 m c) fun w => (dat0 (tcV (X2 m)) c).arrAt w cfg0.N
/-- After the backward call. -/
def X4 (c : Dev nD) : Valuation τ sig (Elt F) :=
  Pipeline.withArrays spec1 c (X3 m c) fun w => (dat1 (tcV (X3 m)) c).arrAt w cfg1.N
abbrev X5 : Dev nD → Valuation τ sig (Elt F) := fun c => StableHlo.after hostOps2 (X4 m c)

theorem X3_arr (c : Dev nD) (w : Fin cfg0.W) :
    X3 m c (Proc.devRef .tc (Pipeline.arrRef spec0 w)) = (dat0 (tcV (X2 m)) c).arrAt w cfg0.N := by
  unfold X3; exact (dat0 (tcV (X2 m)) c).withArrays_arrAt launch₀0.sharedIn _ (A_eq0 (tcV (X2 m)) c) w
theorem X3_of_ne (c : Dev nD) (b : Ref sig .tc) (hb : ∀ w, Pipeline.arrRef spec0 w ≠ b) :
    X3 m c (Proc.devRef .tc b) = X2 m c (Proc.devRef .tc b) := by
  unfold X3; exact Pipeline.withArrays_of_ne spec0 c _ _ b hb
theorem X3_of (c : Dev nD) (r : Ref sig .tc) (h : ∀ w : Fin cfg0.W, Pipeline.arrRef spec0 w = r → (cfg0.win w).isOut = false) :
    X3 m c (Proc.devRef .tc r) = X2 m c (Proc.devRef .tc r) := by
  by_cases hw : ∃ w : Fin cfg0.W, Pipeline.arrRef spec0 w = r
  · obtain ⟨w, rfl⟩ := hw
    exact (X3_arr m c w).trans (((dat0 (tcV (X2 m)) c).arrAt_in w (h w rfl) _).trans (A_eq0 (tcV (X2 m)) c w))
  · exact X3_of_ne m c r fun w e => hw ⟨w, e⟩
theorem hF0 (c : Dev nD) (w : Fin cfg0.W) : (dat0 (tcV (X2 m)) c).arrAt w cfg0.N = tcV (X3 m) c (Pipeline.arrRef spec0 w) :=
  (X3_arr m c w).symm
theorem hrest0 (c : Dev nD) : ∀ b, b ∉ Finset.univ.image (Pipeline.arrRef spec0) → tcV (X3 m) c b = tcV (X2 m) c b :=
  fun b hb => X3_of_ne m c b fun w e => hb (Finset.mem_image.mpr ⟨w, Finset.mem_univ _, e⟩)

theorem X4_arr (c : Dev nD) (w : Fin cfg1.W) :
    X4 m c (Proc.devRef .tc (Pipeline.arrRef spec1 w)) = (dat1 (tcV (X3 m)) c).arrAt w cfg1.N := by
  unfold X4; exact (dat1 (tcV (X3 m)) c).withArrays_arrAt launch₀1.sharedIn _ (A_eq1 (tcV (X3 m)) c) w
theorem X4_of_ne (c : Dev nD) (b : Ref sig .tc) (hb : ∀ w, Pipeline.arrRef spec1 w ≠ b) :
    X4 m c (Proc.devRef .tc b) = X3 m c (Proc.devRef .tc b) := by
  unfold X4; exact Pipeline.withArrays_of_ne spec1 c _ _ b hb
theorem X4_of (c : Dev nD) (r : Ref sig .tc) (h : ∀ w : Fin cfg1.W, Pipeline.arrRef spec1 w = r → (cfg1.win w).isOut = false) :
    X4 m c (Proc.devRef .tc r) = X3 m c (Proc.devRef .tc r) := by
  by_cases hw : ∃ w : Fin cfg1.W, Pipeline.arrRef spec1 w = r
  · obtain ⟨w, rfl⟩ := hw
    exact (X4_arr m c w).trans (((dat1 (tcV (X3 m)) c).arrAt_in w (h w rfl) _).trans (A_eq1 (tcV (X3 m)) c w))
  · exact X4_of_ne m c r fun w e => hw ⟨w, e⟩
theorem hF1 (c : Dev nD) (w : Fin cfg1.W) : (dat1 (tcV (X3 m)) c).arrAt w cfg1.N = tcV (X4 m) c (Pipeline.arrRef spec1 w) :=
  (X4_arr m c w).symm
theorem hrest1 (c : Dev nD) : ∀ b, b ∉ Finset.univ.image (Pipeline.arrRef spec1) → tcV (X4 m) c b = tcV (X3 m) c b :=
  fun b hb => X4_of_ne m c b fun w e => hb (Finset.mem_image.mpr ⟨w, Finset.mem_univ _, e⟩)

/-- @main's arguments; no host stretch writes one, no region has one among its output arrays. -/
abbrev argRefs : List (Ref sig .tc) := [main_arg0, main_arg1, main_arg2, main_arg3, main_arg4]
theorem args_host : ∀ a ∈ argRefs, a ∉ hostOps0_W ∧ a ∉ hostOps0_1_W ∧ a ∉ hostOps2_W := ListAll.forall_mem_of_all_decide (by decide +kernel)
theorem args_in0 : ∀ a ∈ argRefs, ∀ w : Fin cfg0.W, Pipeline.arrRef spec0 w = a → (cfg0.win w).isOut = false :=
  ListAll.forall_mem_of_all_decide (by decide +kernel)
theorem args_in1 : ∀ a ∈ argRefs, ∀ w : Fin cfg1.W, Pipeline.arrRef spec1 w = a → (cfg1.win w).isOut = false :=
  ListAll.forall_mem_of_all_decide (by decide +kernel)
theorem X2_args (c : Dev nD) (a : Ref sig .tc) (h : a ∈ argRefs) : X2 m c (Proc.devRef .tc a) = m ((c : Thread nD τ).loc a) :=
  (StableHlo.after_of_writes_sub hostOps0_1 _ hostOps0_1_writes (args_host a h).2.1).trans
    (StableHlo.after_of_writes_sub hostOps0 _ hostOps0_writes (args_host a h).1)
theorem X3_args (c : Dev nD) (a : Ref sig .tc) (h : a ∈ argRefs) : X3 m c (Proc.devRef .tc a) = m ((c : Thread nD τ).loc a) :=
  (X3_of m c a (args_in0 a h)).trans (X2_args m c a h)
theorem X5_args (c : Dev nD) (a : Ref sig .tc) (h : a ∈ argRefs) : X5 m c (Proc.devRef .tc a) = m ((c : Thread nD τ).loc a) :=
  (StableHlo.after_of_writes_sub hostOps2 _ hostOps2_writes (args_host a h).2.2).trans
    ((X4_of m c a (args_in1 a h)).trans (X3_args m c a h))

/-! ## The segments -/

/-- The regions' proof data, each at its entry contents. -/
def pdats : (p : Fin 2) → (c : Dev nD) → Dat τ (Elt F) Unit ℕ (UR sig nD τ) ℕ (Pipeline.pin (pcfgs (F := F)) adm p) c
  | ⟨0, _⟩ => fun c => dat0 (tcV (X2 m)) c
  | ⟨1, _⟩ => fun c => dat1 (tcV (X3 m)) c
abbrev 𝒱₀ : Variants := Variants.none
abbrev L : GSem nD τ sig → Finset Unit := fun _ => ∅
abbrev lv : GSem nD τ sig → Unit → ℕ := fun _ _ => 0
/-- What rides beside the buffers: the generator register, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (X : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) X R

set_option backward.isDefEq.respectTransparency.types false in
/-- Call 0 over the thread state: from every unscoped buffer at `X2`, to every one at `X3`. -/
def reg0 : RegionSeg (pcfgs (F := F)) adm (pdats m) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (tcV (X2 m)) c).loose
  hwaits := Pipeline.hwaits_of_owed_zero _ _ _ _ L lv 0 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec0 c (tcV (X2 m) c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (tcV (X2 m) c) (A_eq0 (tcV (X2 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Inv0 (tcV (X2 m)) c 0 from rfl]
    iintro ⟨Hp, -, Hr⟩
    iapply (inv0_of_PhiA (tcV (X2 m)) c)
    unfold Pipeline.ΦA
    isplitl [Hr]; · iexact Hr
    iexact Hp
  hout c := by
    rw [Pipeline.ownSems0_none, show (pdats m 0 c).Φ (Fin.last _) = Inv0 (tcV (X2 m)) c (Fin.last cfg0.N).val from rfl]
    iintro H
    ihave H' := (PhiA_of_inv0 (tcV (X2 m)) c _) $$ H
    unfold Pipeline.ΦA
    icases H' with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (tcV (X2 m) c) (tcV (X3 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: from every unscoped buffer at `X3`, to every one at `X4`. -/
def reg1 : RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (tcV (X3 m)) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (tcV (X3 m) c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (tcV (X3 m) c) (A_eq1 (tcV (X3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Inv1 (tcV (X3 m)) c 0 from rfl]
    iintro ⟨Hp, -, Hr⟩
    iapply (inv1_of_PhiA (tcV (X3 m)) c)
    unfold Pipeline.ΦA
    isplitl [Hr]; · iexact Hr
    iexact Hp
  hout c := by
    rw [Pipeline.ownSems0_none, show (pdats m 1 c).Φ (Fin.last _) = Inv1 (tcV (X3 m)) c (Fin.last cfg1.N).val from rfl]
    iintro H
    ihave H' := (PhiA_of_inv1 (tcV (X3 m)) c _) $$ H
    unfold Pipeline.ΦA
    icases H' with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (tcV (X3 m) c) (tcV (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

abbrev segsK : List (Seg (pcfgs (F := F)) adm (pdats m) () defs₀ 𝒱₀ L lv) :=
  [ .host (hseg hostOps0 hostOps0_sub hostOps0_fresh (X0 m)),
    .host (hseg hostOps0_1 hostOps0_1_sub hostOps0_1_fresh (X1 m)),
    .region (reg0 m), .region (reg1 m),
    .host (hseg hostOps2 hostOps2_sub hostOps2_fresh (X4 m)) ]
abbrev Tₙ (c : Dev nD) : sProp 𝕄 := iprop(StableHlo.held (c : Thread nD τ) (Pipeline.ucRefs τ sig) (X5 m c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates without a fault; at the end every
    unscoped buffer is at `X5` and every counter at zero. -/
theorem run_main : θ_run defs (onTc (τ := τ) (main (F := F))) ⟨m, fun _ => 0, ρ⟩ (fun r =>
      (∀ (c : Dev nD), ∀ b ∈ Pipeline.ucRefs τ sig, r.2.mem ((c : Thread nD τ).1, b) = X5 m c b) ∧ r.2.sem = fun _ => 0) :=
  Pipeline.θ_run_regions_kit_sems (pcfgs (F := F)) adm (pdats m) () cellOf_inj emb₁ defs₀ 𝒱₀ L lv m ρ main (segsK m)
    (fun c Q => by
      rewrite [main_chain c, Seg.run_eq_chain,
        show (segsK m).map Seg.prog = [
          StableHlo.seq hostOps0,
          StableHlo.seq hostOps0_1,
          Prog.lift (.customCall (Pipeline.entry 0) ()),
          Prog.lift (.customCall (Pipeline.entry 1) ()),
          StableHlo.seq hostOps2 ] from rfl]
      dsimp (config := { failIfUnchanged := false }) only
      exact .rfl)
    (by simp only [segsK, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun c =>
      show iprop(StableHlo.held (c : Thread nD τ) (Pipeline.ucRefs τ sig) (X5 m c) ∗ R c) ⊢ iprop(Tₙ m c ∗ ∃ W, owes (c : Thread nD τ) (0 : CellTallies nD τ sig Unit) W) by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X5 m c b)
    (hfin := fun c s' => by
      iintro ⟨⟨Hh, -⟩, HSI⟩
      unfold StableHlo.held
      imodintro
      iapply (pointsTo_read_all (Pipeline.ucRefs τ sig) (fun b => (((c : Thread nD τ)).1, b)) (X5 m c) s')
      isplitl [Hh] <;> iassumption)
    (hQ := fun s h hz => ⟨h, funext fun g => hz g (.inr (regions_no_unscoped g.2))⟩)

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h =>
    have k (c : Dev nD) (a : Ref sig .tc) (ha : a ∈ argRefs) (hs : ¬ (Proc.devRef .tc a : DevRef τ sig).isScoped) :
        r.2.mem ((c.tc : Thread nD τ).loc a) = m ((c.tc : Thread nD τ).loc a) := (h.1 c _ (mem_uc a hs)).trans (X5_args m c a ha)
    ⟨fun c => ⟨k c main_arg0 (by decide) (by decide), k c main_arg1 (by decide) (by decide), k c main_arg2 (by decide) (by decide),
      k c main_arg3 (by decide) (by decide), k c main_arg4 (by decide) (by decide)⟩, h.2⟩) (run_main m ρ)

end Cert.KernelIdeal.Gla

end
-- ==== Proof.RefOps.lean ====
/- The reference's operations: @main's stretches between its two host loops, the loops' bodies, and the equations that read
   @main and the two bodies as chains of them. -/
module

public import proofs.«01_k».proof.Proof.Gen.ReferenceIdeal
public import Idealize.ShloMosaic.Lib.StableHlo.RunLoop
public import Idealize.ShloMosaic.Lib.Pipeline.Regions

@[expose] public section

set_option maxRecDepth 16384

noncomputable section

namespace Cert.ReferenceIdeal.Gla

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 7 host operations of @main, window 0 (statements 1 … 60), in order. -/
abbrev main_part0_ops0 : List (HloOp τ sig (Elt F)) :=
  [ StableHlo.unary main_arg0 main_v0 ((extractStridedSlice S2048x1024 ![0, 2560] · slices_S2048x12800_S2048x1024_0_2560) : (⟨S2048x12800, .f32⟩ : BufTy).Contents (Elt F) → (⟨S2048x1024, .f32⟩ : BufTy).Contents (Elt F)),
    StableHlo.unary main_arg0 main_v1 ((extractStridedSlice S2048x1024 ![0, 3584] · slices_S2048x12800_S2048x1024_0_3584) : (⟨S2048x12800, .f32⟩ : BufTy).Contents (Elt F) → (⟨S2048x1024, .f32⟩ : BufTy).Contents (Elt F)),
    StableHlo.unary main_arg0 main_v2 ((extractStridedSlice S2048x2048 ![0, 4608] · slices_S2048x12800_S2048x2048_0_4608) : (⟨S2048x12800, .f32⟩ : BufTy).Contents (Elt F) → (⟨S2048x2048, .f32⟩ : BufTy).Contents (Elt F)),
    StableHlo.unary main_arg1 main_v3 ((extractStridedSlice S2048x16 ![0, 0] · slices_S2048x128_S2048x16_0_0) : (⟨S2048x128, .f32⟩ : BufTy).Contents (Elt F) → (⟨S2048x16, .f32⟩ : BufTy).Contents (Elt F)),
    StableHlo.binary main_v3 main_arg2 main_v4 ((fun l r => Host.dotGeneral dot_S2048x16_S16x1024_S2048x1024_1_0_0_1_n_n none l r) : (⟨S2048x16, .f32⟩ : BufTy).Contents (Elt F) → (⟨S16x1024, .f32⟩ : BufTy).Contents (Elt F) → (⟨S2048x1024, .f32⟩ : BufTy).Contents (Elt F)),
    StableHlo.unary main_arg3 main_v5 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v4 main_v5 main_v6 (addf : (⟨S2048x1024, .f32⟩ : BufTy).Contents (Elt F) → (⟨S2048x1024, .f32⟩ : BufTy).Contents (Elt F) → (⟨S2048x1024, .f32⟩ : BufTy).Contents (Elt F)) ]
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.binary_bufs_sub ..⟩
/-- 48 host operations of @log_sigmoid (main_call0), window 0 (statements 1 … 60), in order. -/
abbrev main_part0_ops1 : List (HloOp τ sig (Elt F)) :=
  ( StableHlo.TRef.unary (.of main_v6 : StableHlo.TRef sig ⟨S2048x1024, .f32⟩) (.of main_call0_v0 : StableHlo.TRef sig ⟨S2048x1024, .f32⟩) Host.negf
  :: StableHlo.TRef.nullary (.of main_call0_call0_cst : StableHlo.TRef sig ⟨S_, .f32⟩) (constant S_ .f32 0x00000000#32)
  :: StableHlo.TRef.unary (.of main_call0_call0_cst : StableHlo.TRef sig ⟨S_, .f32⟩) (.of main_call0_call0_v0 : StableHlo.TRef sig ⟨S2048x1024, .f32⟩) (broadcastInDim S2048x1024 ![] bcast_S_S2048x1024)
  :: StableHlo.TRef.binary (.of main_call0_v0 : StableHlo.TRef sig ⟨S2048x1024, .f32⟩) (.of main_call0_call0_v0 : StableHlo.TRef sig ⟨S2048x1024, .f32⟩) (.of main_call0_call0_v1 : StableHlo.TRef sig ⟨S2048x1024, .f32⟩) maximumf
  :: StableHlo.TRef.unary (.of main_call0_call0_cst : StableHlo.TRef sig ⟨S_, .f32⟩) (.of main_call0_call0_v2 : StableHlo.TRef sig ⟨S2048x1024, .f32⟩) (broadcastInDim S2048x1024 ![] bcast_S_S2048x1024)
  :: StableHlo.TRef.binary (.of main_call0_v0 : StableHlo.TRef sig ⟨S2048x1024, .f32⟩) (.of main_call0_call0_v2 : StableHlo.TRef sig ⟨S2048x1024, .f32⟩) (.of main_call0_call0_v3 : StableHlo.TRef sig ⟨S2048x1024, .f32⟩) subf
  :: StableHlo.TRef.binary (.of main_call0_call0_v3 : StableHlo.TRef sig ⟨S2048x1024, .f32⟩) (.of main_call0_call0_v3 : StableHlo.TRef sig ⟨S2048x1024, .f32⟩) (.of main_call0_call0_v4 : StableHlo.TRef sig ⟨S2048x1024, .i1⟩) (cmpf .une)
  :: StableHlo.TRef.unary (.of main_call0_call0_cst : StableHlo.TRef sig ⟨S_, .f32⟩) (.of main_call0_call0_v5 : StableHlo.TRef sig ⟨S2048x1024, .f32⟩) (broadcastInDim S2048x1024 ![] bcast_S_S2048x1024)
  :: StableHlo.TRef.binary (.of main_call0_v0 : StableHlo.TRef sig ⟨S2048x1024, .f32⟩) (.of main_call0_call0_v5 : StableHlo.TRef sig ⟨S2048x1024, .f32⟩) (.of main_call0_call0_v6 : StableHlo.TRef sig ⟨S2048x1024, .f32⟩) addf
  :: StableHlo.TRef.unary (.of main_call0_call0_v3 : StableHlo.TRef sig ⟨S2048x1024, .f32⟩) (.of main_call0_call0_v7 : StableHlo.TRef sig ⟨S2048x1024, .f32⟩) Host.absf
  :: StableHlo.TRef.unary (.of main_call0_call0_v7 : StableHlo.TRef sig ⟨S2048x1024, .f32⟩) (.of main_call0_call0_v8 : StableHlo.TRef sig ⟨S2048x1024, .f32⟩) Host.negf
  :: StableHlo.TRef.unary (.of main_call0_call0_v8 : StableHlo.TRef sig ⟨S2048x1024, .f32⟩) (.of main_call0_call0_v9 : StableHlo.TRef sig ⟨S2048x1024, .f32⟩) Host.exp
  :: StableHlo.TRef.unary (.of main_call0_call0_v9 : StableHlo.TRef sig ⟨S2048x1024, .f32⟩) (.of main_call0_call0_v10 : StableHlo.TRef sig ⟨S2048x1024, .f32⟩) Host.log1p
  :: StableHlo.TRef.binary (.of main_call0_call0_v1 : StableHlo.TRef sig ⟨S2048x1024, .f32⟩) (.of main_call0_call0_v10 : StableHlo.TRef sig ⟨S2048x1024, .f32⟩) (.of main_call0_call0_v11 : StableHlo.TRef sig ⟨S2048x1024, .f32⟩) addf
  :: StableHlo.TRef.ternary (.of main_call0_call0_v4 : StableHlo.TRef sig ⟨S2048x1024, .i1⟩) (.of main_call0_call0_v6 : StableHlo.TRef sig ⟨S2048x1024, .f32⟩) (.of main_call0_call0_v11 : StableHlo.TRef sig ⟨S2048x1024, .f32⟩) (.of main_call0_v1_0 : StableHlo.TRef sig ⟨S2048x1024, .f32⟩) select
  :: StableHlo.TRef.nullary (.of main_call0_call0_cst_0 : StableHlo.TRef sig ⟨S_, .f32⟩) (constant S_ .f32 0x7F800000#32)
  :: StableHlo.TRef.unary (.of main_call0_call0_cst_0 : StableHlo.TRef sig ⟨S_, .f32⟩) (.of main_call0_call0_v13 : StableHlo.TRef sig ⟨S2048x1024, .f32⟩) (broadcastInDim S2048x1024 ![] bcast_S_S2048x1024)
  :: StableHlo.TRef.binary (.of main_call0_v0 : StableHlo.TRef sig ⟨S2048x1024, .f32⟩) (.of main_call0_call0_v13 : StableHlo.TRef sig ⟨S2048x1024, .f32⟩) (.of main_call0_call0_v14 : StableHlo.TRef sig ⟨S2048x1024, .i1⟩) (cmpf .oeq)
  :: StableHlo.TRef.nullary (.of main_call0_call0_cst_1 : StableHlo.TRef sig ⟨S_, .f32⟩) (constant S_ .f32 0x00000000#32)
  :: StableHlo.TRef.unary (.of main_call0_call0_cst_1 : StableHlo.TRef sig ⟨S_, .f32⟩) (.of main_call0_call0_v15 : StableHlo.TRef sig ⟨S2048x1024, .f32⟩) (broadcastInDim S2048x1024 ![] bcast_S_S2048x1024)
  :: StableHlo.TRef.ternary (.of main_call0_call0_v14 : StableHlo.TRef sig ⟨S2048x1024, .i1⟩) (.of main_call0_call0_v15 : StableHlo.TRef sig ⟨S2048x1024, .f32⟩) (.of main_call0_v0 : StableHlo.TRef sig ⟨S2048x1024, .f32⟩) (.of main_call0_call0_v16 : StableHlo.TRef sig ⟨S2048x1024, .f32⟩) select
  :: StableHlo.TRef.nullary (.of main_call0_call0_cst_2 : StableHlo.TRef sig ⟨S_, .f32⟩) (constant S_ .f32 0x7F800000#32)
  :: StableHlo.TRef.unary (.of main_call0_call0_cst_2 : StableHlo.TRef sig ⟨S_, .f32⟩) (.of main_call0_call0_v17 : StableHlo.TRef sig ⟨S2048x1024, .f32⟩) (broadcastInDim S2048x1024 ![] bcast_S_S2048x1024)
  :: StableHlo.TRef.binary (.of main_call0_v1_0 : StableHlo.TRef sig ⟨S2048x1024, .f32⟩) (.of main_call0_call0_v17 : StableHlo.TRef sig ⟨S2048x1024, .f32⟩) (.of main_call0_call0_v18 : StableHlo.TRef sig ⟨S2048x1024, .i1⟩) (cmpf .oeq)
  :: StableHlo.TRef.nullary (.of main_call0_call0_cst_3 : StableHlo.TRef sig ⟨S_, .f32⟩) (constant S_ .f32 0x00000000#32)
  :: StableHlo.TRef.unary (.of main_call0_call0_cst_3 : StableHlo.TRef sig ⟨S_, .f32⟩) (.of main_call0_call0_v19 : StableHlo.TRef sig ⟨S2048x1024, .f32⟩) (broadcastInDim S2048x1024 ![] bcast_S_S2048x1024)
  :: StableHlo.TRef.ternary (.of main_call0_call0_v18 : StableHlo.TRef sig ⟨S2048x1024, .i1⟩) (.of main_call0_call0_v19 : StableHlo.TRef sig ⟨S2048x1024, .f32⟩) (.of main_call0_v1_0 : StableHlo.TRef sig ⟨S2048x1024, .f32⟩) (.of main_call0_call0_v20 : StableHlo.TRef sig ⟨S2048x1024, .f32⟩) select
  :: StableHlo.TRef.binary (.of main_call0_call0_v16 : StableHlo.TRef sig ⟨S2048x1024, .f32⟩) (.of main_call0_call0_v20 : StableHlo.TRef sig ⟨S2048x1024, .f32⟩) (.of main_call0_call0_v21 : StableHlo.TRef sig ⟨S2048x1024, .f32⟩) subf
  :: StableHlo.TRef.unary (.of main_call0_call0_v21 : StableHlo.TRef sig ⟨S2048x1024, .f32⟩) (.of main_v7_1 : StableHlo.TRef sig ⟨S2048x1024, .f32⟩) Host.exp
  :: StableHlo.TRef.nullary (.of main_call0_call0_cst_4 : StableHlo.TRef sig ⟨S_, .f32⟩) (constant S_ .f32 0x00000000#32)
  :: StableHlo.TRef.nullary (.of main_call0_call0_cst_5 : StableHlo.TRef sig ⟨S_, .f32⟩) (constant S_ .f32 0x7F800000#32)
  :: StableHlo.TRef.binary (.of main_call0_call0_cst_4 : StableHlo.TRef sig ⟨S_, .f32⟩) (.of main_call0_call0_cst_5 : StableHlo.TRef sig ⟨S_, .f32⟩) (.of main_call0_call0_v23 : StableHlo.TRef sig ⟨S_, .i1⟩) (cmpf .oeq)
  :: StableHlo.TRef.nullary (.of main_call0_call0_cst_6 : StableHlo.TRef sig ⟨S_, .f32⟩) (constant S_ .f32 0x00000000#32)
  :: StableHlo.TRef.nullary (.of main_call0_call0_cst_7 : StableHlo.TRef sig ⟨S_, .f32⟩) (constant S_ .f32 0x00000000#32)
  :: StableHlo.TRef.ternary (.of main_call0_call0_v23 : StableHlo.TRef sig ⟨S_, .i1⟩) (.of main_call0_call0_cst_7 : StableHlo.TRef sig ⟨S_, .f32⟩) (.of main_call0_call0_cst_6 : StableHlo.TRef sig ⟨S_, .f32⟩) (.of main_call0_call0_v24 : StableHlo.TRef sig ⟨S_, .f32⟩) select
  :: StableHlo.TRef.nullary (.of main_call0_call0_cst_8 : StableHlo.TRef sig ⟨S_, .f32⟩) (constant S_ .f32 0x7F800000#32)
  :: StableHlo.TRef.unary (.of main_call0_call0_cst_8 : StableHlo.TRef sig ⟨S_, .f32⟩) (.of main_call0_call0_v25 : StableHlo.TRef sig ⟨S2048x1024, .f32⟩) (broadcastInDim S2048x1024 ![] bcast_S_S2048x1024)
  :: StableHlo.TRef.binary (.of main_call0_v1_0 : StableHlo.TRef sig ⟨S2048x1024, .f32⟩) (.of main_call0_call0_v25 : StableHlo.TRef sig ⟨S2048x1024, .f32⟩) (.of main_call0_call0_v26 : StableHlo.TRef sig ⟨S2048x1024, .i1⟩) (cmpf .oeq)
  :: StableHlo.TRef.nullary (.of main_call0_call0_cst_9 : StableHlo.TRef sig ⟨S_, .f32⟩) (constant S_ .f32 0x00000000#32)
  :: StableHlo.TRef.unary (.of main_call0_call0_cst_9 : StableHlo.TRef sig ⟨S_, .f32⟩) (.of main_call0_call0_v27 : StableHlo.TRef sig ⟨S2048x1024, .f32⟩) (broadcastInDim S2048x1024 ![] bcast_S_S2048x1024)
  :: StableHlo.TRef.ternary (.of main_call0_call0_v26 : StableHlo.TRef sig ⟨S2048x1024, .i1⟩) (.of main_call0_call0_v27 : StableHlo.TRef sig ⟨S2048x1024, .f32⟩) (.of main_call0_v1_0 : StableHlo.TRef sig ⟨S2048x1024, .f32⟩) (.of main_call0_call0_v28 : StableHlo.TRef sig ⟨S2048x1024, .f32⟩) select
  :: StableHlo.TRef.unary (.of main_call0_call0_v24 : StableHlo.TRef sig ⟨S_, .f32⟩) (.of main_call0_call0_v29 : StableHlo.TRef sig ⟨S2048x1024, .f32⟩) (broadcastInDim S2048x1024 ![] bcast_S_S2048x1024)
  :: StableHlo.TRef.binary (.of main_call0_call0_v29 : StableHlo.TRef sig ⟨S2048x1024, .f32⟩) (.of main_call0_call0_v28 : StableHlo.TRef sig ⟨S2048x1024, .f32⟩) (.of main_call0_call0_v30 : StableHlo.TRef sig ⟨S2048x1024, .f32⟩) subf
  :: StableHlo.TRef.unary (.of main_call0_call0_v30 : StableHlo.TRef sig ⟨S2048x1024, .f32⟩) (.of main_call0_call0_v31 : StableHlo.TRef sig ⟨S2048x1024, .f32⟩) Host.exp
  :: StableHlo.TRef.nullary (.of main_call0_call0_cst_10 : StableHlo.TRef sig ⟨S_, .f32⟩) (constant S_ .f32 0x00000000#32)
  :: StableHlo.TRef.unary (.of main_call0_call0_cst_10 : StableHlo.TRef sig ⟨S_, .f32⟩) (.of main_call0_call0_v32 : StableHlo.TRef sig ⟨S2048x1024, .f32⟩) (broadcastInDim S2048x1024 ![] bcast_S_S2048x1024)
  :: StableHlo.TRef.binary (.of main_call0_call0_v32 : StableHlo.TRef sig ⟨S2048x1024, .f32⟩) (.of main_call0_call0_v31 : StableHlo.TRef sig ⟨S2048x1024, .f32⟩) (.of main_v7_2 : StableHlo.TRef sig ⟨S2048x1024, .f32⟩) mulf
  :: StableHlo.TRef.unary main_call0_call0.v12 (.of main_v7_0 : StableHlo.TRef sig ⟨S2048x1024, .f32⟩) Host.negf
  :: [] )
theorem main_part0_ops1_sub : (main_part0_ops1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub ..⟩
/-- 18 host operations of @main, window 0 (statements 1 … 60), in order. -/
abbrev main_part0_ops2 : List (HloOp τ sig (Elt F)) :=
  [ StableHlo.nullary main_cst (constant S_ .f32 0x41800000#32),
    StableHlo.unary main_cst main_v8 (broadcastInDim S2048x1024 ![] bcast_S_S2048x1024 : (⟨S_, .f32⟩ : BufTy).Contents (Elt F) → (⟨S2048x1024, .f32⟩ : BufTy).Contents (Elt F)),
    StableHlo.binary main_v7_0 main_v8 main_v9 (Host.divf : (⟨S2048x1024, .f32⟩ : BufTy).Contents (Elt F) → (⟨S2048x1024, .f32⟩ : BufTy).Contents (Elt F) → (⟨S2048x1024, .f32⟩ : BufTy).Contents (Elt F)),
    StableHlo.reshape main_v0 main_v10 (rfl : (.f32 : EltTy) = .f32) shapeCasts_S2048x1024_S1x2048x4x256,
    StableHlo.reshape main_v1 main_v11 (rfl : (.f32 : EltTy) = .f32) shapeCasts_S2048x1024_S1x2048x4x256,
    StableHlo.reshape main_v2 main_v12 (rfl : (.f32 : EltTy) = .f32) shapeCasts_S2048x2048_S1x2048x4x512,
    StableHlo.reshape main_v9 main_v13 (rfl : (.f32 : EltTy) = .f32) shapeCasts_S2048x1024_S1x2048x4x256,
    StableHlo.reshape main_v10 main_v14 (rfl : (.f32 : EltTy) = .f32) shapeCasts_S1x2048x4x256_S1x32x64x4x256,
    StableHlo.unary main_v14 main_v15 ((transpose S1x4x32x64x256 [0, 3, 1, 2, 4] · transposes_S1x32x64x4x256_S1x4x32x64x256_0_3_1_2_4) : (⟨S1x32x64x4x256, .f32⟩ : BufTy).Contents (Elt F) → (⟨S1x4x32x64x256, .f32⟩ : BufTy).Contents (Elt F)),
    StableHlo.nullary main_cst_0 (constant S_ .f32 0x3D800000#32),
    StableHlo.unary main_cst_0 main_v16 (broadcastInDim S1x4x32x64x256 ![] bcast_S_S1x4x32x64x256 : (⟨S_, .f32⟩ : BufTy).Contents (Elt F) → (⟨S1x4x32x64x256, .f32⟩ : BufTy).Contents (Elt F)),
    StableHlo.binary main_v15 main_v16 main_v17 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.reshape main_v11 main_v18 (rfl : (.f32 : EltTy) = .f32) shapeCasts_S1x2048x4x256_S1x32x64x4x256,
    StableHlo.unary main_v18 main_v19 ((transpose S1x4x32x64x256 [0, 3, 1, 2, 4] · transposes_S1x32x64x4x256_S1x4x32x64x256_0_3_1_2_4) : (⟨S1x32x64x4x256, .f32⟩ : BufTy).Contents (Elt F) → (⟨S1x4x32x64x256, .f32⟩ : BufTy).Contents (Elt F)),
    StableHlo.reshape main_v12 main_v20 (rfl : (.f32 : EltTy) = .f32) shapeCasts_S1x2048x4x512_S1x32x64x4x512,
    StableHlo.unary main_v20 main_v21 ((transpose S1x4x32x64x512 [0, 3, 1, 2, 4] · transposes_S1x32x64x4x512_S1x4x32x64x512_0_3_1_2_4) : (⟨S1x32x64x4x512, .f32⟩ : BufTy).Contents (Elt F) → (⟨S1x4x32x64x512, .f32⟩ : BufTy).Contents (Elt F)),
    StableHlo.reshape main_v13 main_v22 (rfl : (.f32 : EltTy) = .f32) shapeCasts_S1x2048x4x256_S1x32x64x4x256,
    StableHlo.unary main_v22 main_v23 ((transpose S1x4x32x64x256 [0, 3, 1, 2, 4] · transposes_S1x32x64x4x256_S1x4x32x64x256_0_3_1_2_4) : (⟨S1x32x64x4x256, .f32⟩ : BufTy).Contents (Elt F) → (⟨S1x4x32x64x256, .f32⟩ : BufTy).Contents (Elt F)) ]
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub .., StableHlo.reshape_bufs_sub .., StableHlo.reshape_bufs_sub .., StableHlo.reshape_bufs_sub .., StableHlo.reshape_bufs_sub .., StableHlo.unary_bufs_sub .., StableHlo.nullary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.unary_bufs_sub ..⟩
/-- 3 host operations of @cumsum (main_call1), window 0 (statements 1 … 60), in order. -/
abbrev main_part0_ops3 : List (HloOp τ sig (Elt F)) :=
  [ StableHlo.TRef.nullary (.of main_call1_call0_cst : StableHlo.TRef sig ⟨S_, .f32⟩) (constant S_ .f32 0x00000000#32),
    StableHlo.TRef.unary (.of main_call1_call0_cst : StableHlo.TRef sig ⟨S_, .f32⟩) (.of main_call1_call0_v0 : StableHlo.TRef sig ⟨S_, .f32⟩) (broadcastInDim S_ ![] bcast_S_S_),
    StableHlo.TRef.binary (.of main_v23 : StableHlo.TRef sig ⟨S1x4x32x64x256, .f32⟩) (.of main_call1_call0_v0 : StableHlo.TRef sig ⟨S_, .f32⟩) (.of main_v24 : StableHlo.TRef sig ⟨S1x4x32x64x256, .f32⟩) (fun x v => Host.reduceWindowAdd ![1, 1, 1, 64, 1] ![1, 1, 1, 1, 1] ![0, 0, 0, 63, 0] ![0, 0, 0, 0, 0] x v reduceWindows_S1x4x32x64x256_S1x4x32x64x256_w1s1p0_0_w1s1p0_0_w1s1p0_0_w64s1p63_0_w1s1p0_0 h_S_) ]
theorem main_part0_ops3_sub : (main_part0_ops3 : List (HloOp τ sig (Elt F))).Forall fun op => op.bufs ⊆ StableHlo.tcRefs τ sig :=
  ⟨StableHlo.nullary_bufs_sub .., StableHlo.unary_bufs_sub .., StableHlo.binary_bufs_sub ..⟩
/-- 12 host operations of @main, window 0 (statements 1 … 60), in order. -/
abbrev main_part0_ops4 : List (HloOp τ sig (Elt F)) :=
  [ StableHlo.unary main_v24 main_v25 ((extractStridedSlice S1x4x32x1x256 ![0, 0, 0, 63, 0] · slices_S1x4x32x64x256_S1x4x32x1x256_0_0_0_63_0) : (⟨S1x4x32x64x256, .f32⟩ : BufTy).Contents (Elt F) → (⟨S1x4x32x1x256, .f32⟩ : BufTy).Contents (Elt F)),
    StableHlo.unary main_v24 main_v26 (Host.exp : (⟨S1x4x32x64x256, .f32⟩ : BufTy).Contents (Elt F) → (⟨S1x4x32x64x256, .f32⟩ : BufTy).Contents (Elt F)),
    StableHlo.binary main_v17 main_v26 main_v27 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.unary main_v24 main_v28 (Host.negf : (⟨S1x4x32x64x256, .f32⟩ : BufTy).Contents (Elt F) → (⟨S1x4x32x64x256, .f32⟩ : BufTy).Contents (Elt F)),
    StableHlo.unary main_v28 main_v29 (Host.exp : (⟨S1x4x32x64x256, .f32⟩ : BufTy).Contents (Elt F) → (⟨S1x4x32x64x256, .f32⟩ : BufTy).Contents (Elt F)),
    StableHlo.binary main_v19 main_v29 main_v30 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.unary main_v25 main_v31 (broadcastInDim S1x4x32x64x256 ![0, 1, 2, 3, 4] bcast_S1x4x32x1x256_S1x4x32x64x256_0_1_2_3_4 : (⟨S1x4x32x1x256, .f32⟩ : BufTy).Contents (Elt F) → (⟨S1x4x32x64x256, .f32⟩ : BufTy).Contents (Elt F)),
    StableHlo.binary main_v31 main_v24 main_v32 (subf : (⟨S1x4x32x64x256, .f32⟩ : BufTy).Contents (Elt F) → (⟨S1x4x32x64x256, .f32⟩ : BufTy).Contents (Elt F) → (⟨S1x4x32x64x256, .f32⟩ : BufTy).Contents (Elt F)),
    StableHlo.unary main_v32 main_v33 (Host.exp : (⟨S1x4x32x64x256, .f32⟩ : BufTy).Contents (Elt F) → (⟨S1x4x32x64x256, .f32⟩ : BufTy).Contents (Elt F)),
    StableHlo.binary main_v19 main_v33 main_v34 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.nullary main_c (constantI S_ 1 1#1),
    StableHlo.unary main_c main_v35 (broadcastInDim S64x64 ![] bcast_S_S64x64 : (⟨S_, .i1⟩ : BufTy).Contents (Elt F) → (⟨S64x64, .i1⟩ : BufTy).Contents (Elt F)) ]
theorem main_part0_ops4_sub : (main_part0_ops4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub ..⟩
/-- 9 host operations of @tril (main_call2), window 0 (statements 1 … 60), in order. -/
abbrev main_part0_ops5 : List (HloOp τ sig (Elt F)) :=
  [ StableHlo.TRef.nullary (.of main_call2_v0 : StableHlo.TRef sig ⟨S64x64, .i32⟩) (iotaInDim S64x64 32 0),
    StableHlo.TRef.nullary (.of main_call2_c : StableHlo.TRef sig ⟨S_, .i32⟩) (constantI S_ 32 0#32),
    StableHlo.TRef.unary (.of main_call2_c : StableHlo.TRef sig ⟨S_, .i32⟩) (.of main_call2_v1 : StableHlo.TRef sig ⟨S64x64, .i32⟩) (broadcastInDim S64x64 ![] bcast_S_S64x64),
    StableHlo.TRef.binary (.of main_call2_v0 : StableHlo.TRef sig ⟨S64x64, .i32⟩) (.of main_call2_v1 : StableHlo.TRef sig ⟨S64x64, .i32⟩) (.of main_call2_v2 : StableHlo.TRef sig ⟨S64x64, .i32⟩) addi,
    StableHlo.TRef.nullary (.of main_call2_v3 : StableHlo.TRef sig ⟨S64x64, .i32⟩) (iotaInDim S64x64 32 1),
    StableHlo.TRef.binary (.of main_call2_v2 : StableHlo.TRef sig ⟨S64x64, .i32⟩) (.of main_call2_v3 : StableHlo.TRef sig ⟨S64x64, .i32⟩) (.of main_call2_v4 : StableHlo.TRef sig ⟨S64x64, .i1⟩) (cmpi .sge),
    StableHlo.TRef.nullary (.of main_call2_c_0 : StableHlo.TRef sig ⟨S_, .i1⟩) (constantI S_ 1 0#1),
    StableHlo.TRef.unary (.of main_call2_c_0 : StableHlo.TRef sig ⟨S_, .i1⟩) (.of main_call2_v5 : StableHlo.TRef sig ⟨S64x64, .i1⟩) (broadcastInDim S64x64 ![] bcast_S_S64x64),
    StableHlo.TRef.ternary (.of main_call2_v4 : StableHlo.TRef sig ⟨S64x64, .i1⟩) (.of main_v35 : StableHlo.TRef sig ⟨S64x64, .i1⟩) (.of main_call2_v5 : StableHlo.TRef sig ⟨S64x64, .i1⟩) (.of main_v36 : StableHlo.TRef sig ⟨S64x64, .i1⟩) select ]
theorem main_part0_ops5_sub : (main_part0_ops5 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
/-- 2 host operations of @main, window 0 (statements 1 … 60), in order. -/
abbrev main_part0_ops6 : List (HloOp τ sig (Elt F)) :=
  [ StableHlo.binary main_v27 main_v30 main_v37 ((fun l r => Host.dotGeneral dot_S1x4x32x64x256_S1x4x32x64x256_S1x4x32x64x64_4_4_3_3_012_012 none l r) : (⟨S1x4x32x64x256, .f32⟩ : BufTy).Contents (Elt F) → (⟨S1x4x32x64x256, .f32⟩ : BufTy).Contents (Elt F) → (⟨S1x4x32x64x64, .f32⟩ : BufTy).Contents (Elt F)),
    StableHlo.nullary main_cst_1 (constant S_ .f32 0x00000000#32) ]
theorem main_part0_ops6_sub : (main_part0_ops6 : List (HloOp τ sig (Elt F))).Forall fun op => op.bufs ⊆ StableHlo.tcRefs τ sig :=
  ⟨StableHlo.binary_bufs_sub .., StableHlo.nullary_bufs_sub ..⟩
/-- 6 host operations of @_where (main_call3), window 0 (statements 1 … 60), in order. -/
abbrev main_part0_ops7 : List (HloOp τ sig (Elt F)) :=
  [ StableHlo.TRef.unary (.of main_cst_1 : StableHlo.TRef sig ⟨S_, .f32⟩) (.of main_call3_v0 : StableHlo.TRef sig ⟨S_, .f32⟩) id,
    StableHlo.TRef.unary (.of main_v36 : StableHlo.TRef sig ⟨S64x64, .i1⟩) (.of main_v38_1 : StableHlo.TRef sig ⟨S1x4x32x64x64, .i1⟩) (broadcastInDim S1x4x32x64x64 ![3, 4] bcast_S64x64_S1x4x32x64x64_3_4),
    StableHlo.TRef.unary (.of main_call3_v0 : StableHlo.TRef sig ⟨S_, .f32⟩) (.of main_call3_v2 : StableHlo.TRef sig ⟨S1x4x32x64x64, .f32⟩) (broadcastInDim S1x4x32x64x64 ![] bcast_S_S1x4x32x64x64),
    StableHlo.TRef.ternary (.of main_v38_1 : StableHlo.TRef sig ⟨S1x4x32x64x64, .i1⟩) (.of main_v37 : StableHlo.TRef sig ⟨S1x4x32x64x64, .f32⟩) (.of main_call3_v2 : StableHlo.TRef sig ⟨S1x4x32x64x64, .f32⟩) (.of main_v38_0 : StableHlo.TRef sig ⟨S1x4x32x64x64, .f32⟩) select,
    StableHlo.TRef.nullary (.of main_call3_cst : StableHlo.TRef sig ⟨S_, .f32⟩) (constant S_ .f32 0x00000000#32),
    StableHlo.TRef.unary (.of main_call3_cst : StableHlo.TRef sig ⟨S_, .f32⟩) (.of main_v38_2 : StableHlo.TRef sig ⟨S1x4x32x64x64, .f32⟩) (broadcastInDim S1x4x32x64x64 ![] bcast_S_S1x4x32x64x64) ]
theorem main_part0_ops7_sub : (main_part0_ops7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩
/-- 17 host operations of @main, window 0 (statements 1 … 60), in order. -/
abbrev main_part0_ops8 : List (HloOp τ sig (Elt F)) :=
  [ StableHlo.binary main_v38_0 main_v21 main_v39 ((fun l r => Host.dotGeneral dot_S1x4x32x64x64_S1x4x32x64x512_S1x4x32x64x512_4_3_3_4_012_012 none l r) : (⟨S1x4x32x64x64, .f32⟩ : BufTy).Contents (Elt F) → (⟨S1x4x32x64x512, .f32⟩ : BufTy).Contents (Elt F) → (⟨S1x4x32x64x512, .f32⟩ : BufTy).Contents (Elt F)),
    StableHlo.binary main_v34 main_v21 main_v40 ((fun l r => Host.dotGeneral dot_S1x4x32x64x256_S1x4x32x64x512_S1x4x32x256x512_3_3_4_4_012_012 none l r) : (⟨S1x4x32x64x256, .f32⟩ : BufTy).Contents (Elt F) → (⟨S1x4x32x64x512, .f32⟩ : BufTy).Contents (Elt F) → (⟨S1x4x32x256x512, .f32⟩ : BufTy).Contents (Elt F)),
    StableHlo.reshape main_v25 main_v41 (rfl : (.f32 : EltTy) = .f32) shapeCasts_S1x4x32x1x256_S1x4x32x256,
    StableHlo.unary main_v41 main_v42 (Host.exp : (⟨S1x4x32x256, .f32⟩ : BufTy).Contents (Elt F) → (⟨S1x4x32x256, .f32⟩ : BufTy).Contents (Elt F)),
    StableHlo.nullary main_cst_2 (constant S_ .f32 0x00000000#32),
    StableHlo.unary main_cst_2 main_v43 (broadcastInDim S1x4x256x512 ![] bcast_S_S1x4x256x512 : (⟨S_, .f32⟩ : BufTy).Contents (Elt F) → (⟨S1x4x256x512, .f32⟩ : BufTy).Contents (Elt F)),
    StableHlo.unary main_v42 main_v44 ((transpose S32x1x4x256 [2, 0, 1, 3] · transposes_S1x4x32x256_S32x1x4x256_2_0_1_3) : (⟨S1x4x32x256, .f32⟩ : BufTy).Contents (Elt F) → (⟨S32x1x4x256, .f32⟩ : BufTy).Contents (Elt F)),
    StableHlo.unary main_v40 main_v45 ((transpose S32x1x4x256x512 [2, 0, 1, 3, 4] · transposes_S1x4x32x256x512_S32x1x4x256x512_2_0_1_3_4) : (⟨S1x4x32x256x512, .f32⟩ : BufTy).Contents (Elt F) → (⟨S32x1x4x256x512, .f32⟩ : BufTy).Contents (Elt F)),
    StableHlo.nullary main_cst_3 (constant S_ .f32 0x00000000#32),
    StableHlo.unary main_cst_3 main_v46 (broadcastInDim S32x1x4x256x512 ![] bcast_S_S32x1x4x256x512 : (⟨S_, .f32⟩ : BufTy).Contents (Elt F) → (⟨S32x1x4x256x512, .f32⟩ : BufTy).Contents (Elt F)),
    StableHlo.nullary main_cst_4 (constant S_ .f32 0x00000000#32),
    StableHlo.unary main_cst_4 main_v47 (broadcastInDim S32x1x4x256x1 ![] bcast_S_S32x1x4x256x1 : (⟨S_, .f32⟩ : BufTy).Contents (Elt F) → (⟨S32x1x4x256x1, .f32⟩ : BufTy).Contents (Elt F)),
    StableHlo.nullary main_c_5 (constantI S_ 32 0#32),
    StableHlo.unary main_v44 main_v48_0 id,
    StableHlo.unary main_v45 main_v48_1 id,
    StableHlo.unary main_c_5 main_v48_2 id,
    StableHlo.unary main_v43 main_v48_3 id ]
theorem main_part0_ops8_sub : (main_part0_ops8 : List (HloOp τ sig (Elt F))).Forall fun op => op.bufs ⊆ StableHlo.tcRefs τ sig :=
  ⟨StableHlo.binary_bufs_sub .., StableHlo.binary_bufs_sub .., StableHlo.reshape_bufs_sub .., StableHlo.unary_bufs_sub .., StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- Window 0 of `main` is the chain of its items. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7 ]
  (StableHlo.seq main_part0_ops8) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 2 host operations of @main, window 1 (statements 61 … 120), in order. -/
abbrev main_part1_ops0 : List (HloOp τ sig (Elt F)) :=
  [ StableHlo.unary main_v46 main_v48_4 id,
    StableHlo.unary main_v47 main_v48_5 id ]
theorem main_part1_ops0_sub : (main_part1_ops0 : List (HloOp τ sig (Elt F))).Forall fun op => op.bufs ⊆ StableHlo.tcRefs τ sig :=
  ⟨StableHlo.unary_bufs_sub .., StableHlo.unary_bufs_sub ..⟩
/-- 29 host operations of @main, window 1 (statements 61 … 120), in order. -/
abbrev main_part1_ops1 : List (HloOp τ sig (Elt F)) :=
  [ StableHlo.unary main_v48_4 main_v49 ((transpose S1x4x32x256x512 [1, 2, 0, 3, 4] · transposes_S32x1x4x256x512_S1x4x32x256x512_1_2_0_3_4) : (⟨S32x1x4x256x512, .f32⟩ : BufTy).Contents (Elt F) → (⟨S1x4x32x256x512, .f32⟩ : BufTy).Contents (Elt F)),
    StableHlo.binary main_v27 main_v49 main_v50 ((fun l r => Host.dotGeneral dot_S1x4x32x64x256_S1x4x32x256x512_S1x4x32x64x512_4_3_3_4_012_012 none l r) : (⟨S1x4x32x64x256, .f32⟩ : BufTy).Contents (Elt F) → (⟨S1x4x32x256x512, .f32⟩ : BufTy).Contents (Elt F) → (⟨S1x4x32x64x512, .f32⟩ : BufTy).Contents (Elt F)),
    StableHlo.binary main_v39 main_v50 main_v51 (addf : (⟨S1x4x32x64x512, .f32⟩ : BufTy).Contents (Elt F) → (⟨S1x4x32x64x512, .f32⟩ : BufTy).Contents (Elt F) → (⟨S1x4x32x64x512, .f32⟩ : BufTy).Contents (Elt F)),
    StableHlo.unary main_v51 main_v52 ((transpose S1x32x64x4x512 [0, 2, 3, 1, 4] · transposes_S1x4x32x64x512_S1x32x64x4x512_0_2_3_1_4) : (⟨S1x4x32x64x512, .f32⟩ : BufTy).Contents (Elt F) → (⟨S1x32x64x4x512, .f32⟩ : BufTy).Contents (Elt F)),
    StableHlo.reshape main_v52 main_v53 (rfl : (.f32 : EltTy) = .f32) shapeCasts_S1x32x64x4x512_S1x2048x4x512,
    StableHlo.reshape main_v53 main_v54 (rfl : (.f32 : EltTy) = .f32) shapeCasts_S1x2048x4x512_S2048x2048,
    StableHlo.nullary main_cst_6 (constant S_ .f32 0x00000000#32),
    StableHlo.unary main_cst_6 main_v55 (broadcastInDim S1x4x256x512 ![] bcast_S_S1x4x256x512 : (⟨S_, .f32⟩ : BufTy).Contents (Elt F) → (⟨S1x4x256x512, .f32⟩ : BufTy).Contents (Elt F)),
    StableHlo.reshape main_arg4 main_v56 (rfl : (.f32 : EltTy) = .f32) shapeCasts_S2048x2048_S1x2048x4x512,
    StableHlo.reshape main_v56 main_v57 (rfl : (.f32 : EltTy) = .f32) shapeCasts_S1x2048x4x512_S1x32x64x4x512,
    StableHlo.unary main_v57 main_v58 ((transpose S1x4x32x64x512 [0, 3, 1, 2, 4] · transposes_S1x32x64x4x512_S1x4x32x64x512_0_3_1_2_4) : (⟨S1x32x64x4x512, .f32⟩ : BufTy).Contents (Elt F) → (⟨S1x4x32x64x512, .f32⟩ : BufTy).Contents (Elt F)),
    StableHlo.binary main_v58 main_v27 main_v59 ((fun l r => Host.dotGeneral dot_S1x4x32x64x512_S1x4x32x64x256_S1x4x32x512x256_3_3_4_4_012_012 none l r) : (⟨S1x4x32x64x512, .f32⟩ : BufTy).Contents (Elt F) → (⟨S1x4x32x64x256, .f32⟩ : BufTy).Contents (Elt F) → (⟨S1x4x32x512x256, .f32⟩ : BufTy).Contents (Elt F)),
    StableHlo.unary main_v59 main_v60 ((transpose S1x4x32x256x512 [0, 1, 2, 4, 3] · transposes_S1x4x32x512x256_S1x4x32x256x512_0_1_2_4_3) : (⟨S1x4x32x512x256, .f32⟩ : BufTy).Contents (Elt F) → (⟨S1x4x32x256x512, .f32⟩ : BufTy).Contents (Elt F)),
    StableHlo.binary main_v58 main_v49 main_v61 ((fun l r => Host.dotGeneral dot_S1x4x32x64x512_S1x4x32x256x512_S1x4x32x64x256_4_4_3_3_012_012 none l r) : (⟨S1x4x32x64x512, .f32⟩ : BufTy).Contents (Elt F) → (⟨S1x4x32x256x512, .f32⟩ : BufTy).Contents (Elt F) → (⟨S1x4x32x64x256, .f32⟩ : BufTy).Contents (Elt F)),
    StableHlo.unary main_v60 main_v62 ((transpose S32x1x4x256x512 [2, 0, 1, 3, 4] · transposes_S1x4x32x256x512_S32x1x4x256x512_2_0_1_3_4) : (⟨S1x4x32x256x512, .f32⟩ : BufTy).Contents (Elt F) → (⟨S32x1x4x256x512, .f32⟩ : BufTy).Contents (Elt F)),
    StableHlo.nullary main_cst_7 (constant S_ .f32 0x00000000#32),
    StableHlo.unary main_cst_7 main_v63 (broadcastInDim S1x4x256x512 ![] bcast_S_S1x4x256x512 : (⟨S_, .f32⟩ : BufTy).Contents (Elt F) → (⟨S1x4x256x512, .f32⟩ : BufTy).Contents (Elt F)),
    StableHlo.nullary main_cst_8 (constant S_ .f32 0x00000000#32),
    StableHlo.unary main_cst_8 main_v64 (broadcastInDim S32x1x4x256 ![] bcast_S_S32x1x4x256 : (⟨S_, .f32⟩ : BufTy).Contents (Elt F) → (⟨S32x1x4x256, .f32⟩ : BufTy).Contents (Elt F)),
    StableHlo.nullary main_cst_9 (constant S_ .f32 0x00000000#32),
    StableHlo.unary main_cst_9 main_v65 (broadcastInDim S32x1x4x256x512 ![] bcast_S_S32x1x4x256x512 : (⟨S_, .f32⟩ : BufTy).Contents (Elt F) → (⟨S32x1x4x256x512, .f32⟩ : BufTy).Contents (Elt F)),
    StableHlo.nullary main_c_10 (constantI S_ 32 0#32),
    StableHlo.unary main_v62 main_v66_0 id,
    StableHlo.unary main_v48_4 main_v66_1 id,
    StableHlo.unary main_v48_5 main_v66_2 id,
    StableHlo.unary main_c_10 main_v66_3 id,
    StableHlo.unary main_v63 main_v66_4 id,
    StableHlo.unary main_v64 main_v66_5 id,
    StableHlo.unary main_v65 main_v66_6 id ]
theorem main_part1_ops1_sub : (main_part1_ops1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.reshape_bufs_sub .., StableHlo.reshape_bufs_sub .., StableHlo.nullary_bufs_sub .., StableHlo.unary_bufs_sub .., StableHlo.reshape_bufs_sub .., StableHlo.reshape_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 12 host operations of @main, window 1 (statements 61 … 120), in order. -/
abbrev main_part1_ops2 : List (HloOp τ sig (Elt F)) :=
  [ StableHlo.unary main_v66_6 main_v67 ((transpose S1x4x32x256x512 [1, 2, 0, 3, 4] · transposes_S32x1x4x256x512_S1x4x32x256x512_1_2_0_3_4) : (⟨S32x1x4x256x512, .f32⟩ : BufTy).Contents (Elt F) → (⟨S1x4x32x256x512, .f32⟩ : BufTy).Contents (Elt F)),
    StableHlo.unary main_v66_5 main_v68 ((transpose S1x4x32x256 [1, 2, 0, 3] · transposes_S32x1x4x256_S1x4x32x256_1_2_0_3) : (⟨S32x1x4x256, .f32⟩ : BufTy).Contents (Elt F) → (⟨S1x4x32x256, .f32⟩ : BufTy).Contents (Elt F)),
    StableHlo.binary main_v68 main_v42 main_v69 (mulf : (⟨S1x4x32x256, .f32⟩ : BufTy).Contents (Elt F) → (⟨S1x4x32x256, .f32⟩ : BufTy).Contents (Elt F) → (⟨S1x4x32x256, .f32⟩ : BufTy).Contents (Elt F)),
    StableHlo.unary main_v69 main_v70 (broadcastInDim S1x4x32x1x256 ![0, 1, 2, 4] bcast_S1x4x32x256_S1x4x32x1x256_0_1_2_4 : (⟨S1x4x32x256, .f32⟩ : BufTy).Contents (Elt F) → (⟨S1x4x32x1x256, .f32⟩ : BufTy).Contents (Elt F)),
    StableHlo.binary main_v67 main_v34 main_v71 ((fun l r => Host.dotGeneral dot_S1x4x32x256x512_S1x4x32x64x256_S1x4x32x512x64_3_4_4_3_012_012 none l r) : (⟨S1x4x32x256x512, .f32⟩ : BufTy).Contents (Elt F) → (⟨S1x4x32x64x256, .f32⟩ : BufTy).Contents (Elt F) → (⟨S1x4x32x512x64, .f32⟩ : BufTy).Contents (Elt F)),
    StableHlo.unary main_v71 main_v72 ((transpose S1x4x32x64x512 [0, 1, 2, 4, 3] · transposes_S1x4x32x512x64_S1x4x32x64x512_0_1_2_4_3) : (⟨S1x4x32x512x64, .f32⟩ : BufTy).Contents (Elt F) → (⟨S1x4x32x64x512, .f32⟩ : BufTy).Contents (Elt F)),
    StableHlo.binary main_v67 main_v21 main_v73 ((fun l r => Host.dotGeneral dot_S1x4x32x256x512_S1x4x32x64x512_S1x4x32x256x64_4_4_3_3_012_012 none l r) : (⟨S1x4x32x256x512, .f32⟩ : BufTy).Contents (Elt F) → (⟨S1x4x32x64x512, .f32⟩ : BufTy).Contents (Elt F) → (⟨S1x4x32x256x64, .f32⟩ : BufTy).Contents (Elt F)),
    StableHlo.unary main_v73 main_v74 ((transpose S1x4x32x64x256 [0, 1, 2, 4, 3] · transposes_S1x4x32x256x64_S1x4x32x64x256_0_1_2_4_3) : (⟨S1x4x32x256x64, .f32⟩ : BufTy).Contents (Elt F) → (⟨S1x4x32x64x256, .f32⟩ : BufTy).Contents (Elt F)),
    StableHlo.binary main_v58 main_v38_0 main_v75 ((fun l r => Host.dotGeneral dot_S1x4x32x64x512_S1x4x32x64x64_S1x4x32x512x64_3_3_4_4_012_012 none l r) : (⟨S1x4x32x64x512, .f32⟩ : BufTy).Contents (Elt F) → (⟨S1x4x32x64x64, .f32⟩ : BufTy).Contents (Elt F) → (⟨S1x4x32x512x64, .f32⟩ : BufTy).Contents (Elt F)),
    StableHlo.unary main_v75 main_v76 ((transpose S1x4x32x64x512 [0, 1, 2, 4, 3] · transposes_S1x4x32x512x64_S1x4x32x64x512_0_1_2_4_3) : (⟨S1x4x32x512x64, .f32⟩ : BufTy).Contents (Elt F) → (⟨S1x4x32x64x512, .f32⟩ : BufTy).Contents (Elt F)),
    StableHlo.binary main_v72 main_v76 main_v77 (addf : (⟨S1x4x32x64x512, .f32⟩ : BufTy).Contents (Elt F) → (⟨S1x4x32x64x512, .f32⟩ : BufTy).Contents (Elt F) → (⟨S1x4x32x64x512, .f32⟩ : BufTy).Contents (Elt F)),
    StableHlo.binary main_v58 main_v21 main_v78 ((fun l r => Host.dotGeneral dot_S1x4x32x64x512_S1x4x32x64x512_S1x4x32x64x64_4_4_3_3_012_012 none l r) : (⟨S1x4x32x64x512, .f32⟩ : BufTy).Contents (Elt F) → (⟨S1x4x32x64x512, .f32⟩ : BufTy).Contents (Elt F) → (⟨S1x4x32x64x64, .f32⟩ : BufTy).Contents (Elt F)) ]
theorem main_part1_ops2_sub : (main_part1_ops2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub ..⟩
/-- 3 host operations of @_where_5 (main_call13), window 1 (statements 61 … 120), in order. -/
abbrev main_part1_ops3 : List (HloOp τ sig (Elt F)) :=
  [ StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S1x4x32x64x64, .f32⟩) (broadcastInDim S1x4x32x64x64 ![] bcast_S_S1x4x32x64x64),
    StableHlo.TRef.ternary (.of main_v38_1 : StableHlo.TRef sig ⟨S1x4x32x64x64, .i1⟩) (.of main_v78 : StableHlo.TRef sig ⟨S1x4x32x64x64, .f32⟩) (.of main_call13_v0 : StableHlo.TRef sig ⟨S1x4x32x64x64, .f32⟩) (.of main_v79 : StableHlo.TRef sig ⟨S1x4x32x64x64, .f32⟩) select ]
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.ternary_bufs_sub ..⟩
/-- 14 host operations of @main, window 1 (statements 61 … 120), in order. -/
abbrev main_part1_ops4 : List (HloOp τ sig (Elt F)) :=
  [ StableHlo.binary main_v79 main_v27 main_v80 ((fun l r => Host.dotGeneral dot_S1x4x32x64x64_S1x4x32x64x256_S1x4x32x64x256_3_3_4_4_012_012 none l r) : (⟨S1x4x32x64x64, .f32⟩ : BufTy).Contents (Elt F) → (⟨S1x4x32x64x256, .f32⟩ : BufTy).Contents (Elt F) → (⟨S1x4x32x64x256, .f32⟩ : BufTy).Contents (Elt F)),
    StableHlo.binary main_v79 main_v30 main_v81 ((fun l r => Host.dotGeneral dot_S1x4x32x64x64_S1x4x32x64x256_S1x4x32x64x256_4_3_3_4_012_012 none l r) : (⟨S1x4x32x64x64, .f32⟩ : BufTy).Contents (Elt F) → (⟨S1x4x32x64x256, .f32⟩ : BufTy).Contents (Elt F) → (⟨S1x4x32x64x256, .f32⟩ : BufTy).Contents (Elt F)),
    StableHlo.binary main_v61 main_v81 main_v82 (addf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v19 main_v74 main_v83 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v74 main_v33 main_v84 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v83 main_v33 main_v85 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.nullary main_cst_11 (constant S_ .f32 0x00000000#32),
    StableHlo.binary main_v85 main_cst_11 main_v86 ((fun x v => Host.reduceAdd x v reducesTo_S1x4x32x64x256_S1x4x32x256_d3 h_S_) : (⟨S1x4x32x64x256, .f32⟩ : BufTy).Contents (Elt F) → (⟨S_, .f32⟩ : BufTy).Contents (Elt F) → (⟨S1x4x32x256, .f32⟩ : BufTy).Contents (Elt F)),
    StableHlo.reshape main_v86 main_v87 (rfl : (.f32 : EltTy) = .f32) shapeCasts_S1x4x32x256_S1x4x32x1x256,
    StableHlo.unary main_v85 main_v88 (Host.negf : (⟨S1x4x32x64x256, .f32⟩ : BufTy).Contents (Elt F) → (⟨S1x4x32x64x256, .f32⟩ : BufTy).Contents (Elt F)),
    StableHlo.binary main_v70 main_v87 main_v89 (addf : (⟨S1x4x32x1x256, .f32⟩ : BufTy).Contents (Elt F) → (⟨S1x4x32x1x256, .f32⟩ : BufTy).Contents (Elt F) → (⟨S1x4x32x1x256, .f32⟩ : BufTy).Contents (Elt F)),
    StableHlo.binary main_v19 main_v80 main_v90 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v80 main_v29 main_v91 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v84 main_v91 main_v92 (addf : (⟨S1x4x32x64x256, .f32⟩ : BufTy).Contents (Elt F) → (⟨S1x4x32x64x256, .f32⟩ : BufTy).Contents (Elt F) → (⟨S1x4x32x64x256, .f32⟩ : BufTy).Contents (Elt F)) ]
theorem main_part1_ops4_sub : (main_part1_ops4 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.binary_bufs_sub .., StableHlo.binary_bufs_sub ..⟩
/-- Window 1 of `main` is the chain of its items. -/
theorem main_part1_chain (c : Dev nD) : main_part1 (F := F) c = (Pipeline.chainK
  [ StableHlo.seq main_part1_ops0,
    HostLoop.enter 0,
    StableHlo.seq main_part1_ops1,
    HostLoop.enter 1,
    StableHlo.seq main_part1_ops2,
    StableHlo.seq main_part1_ops3 ]
  (StableHlo.seq main_part1_ops4) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons]
  chain_rfl

/-- 10 host operations of @main, window 2 (statements 121 … 163), in order. -/
abbrev main_part2_ops0 : List (HloOp τ sig (Elt F)) :=
  [ StableHlo.binary main_v90 main_v29 main_v93 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.unary main_v93 main_v94 (Host.negf : (⟨S1x4x32x64x256, .f32⟩ : BufTy).Contents (Elt F) → (⟨S1x4x32x64x256, .f32⟩ : BufTy).Contents (Elt F)),
    StableHlo.binary main_v88 main_v94 main_v95 (addf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v17 main_v82 main_v96 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v82 main_v26 main_v97 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v96 main_v26 main_v98 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.binary main_v95 main_v98 main_v99 (addf : (⟨S1x4x32x64x256, .f32⟩ : BufTy).Contents (Elt F) → (⟨S1x4x32x64x256, .f32⟩ : BufTy).Contents (Elt F) → (⟨S1x4x32x64x256, .f32⟩ : BufTy).Contents (Elt F)),
    StableHlo.nullary main_cst_12 (constant S_ .f32 0x00000000#32),
    StableHlo.binary main_v89 main_cst_12 main_v100 ((fun x v => pad S1x4x32x64x256 ![0, 0, 0, 63, 0] ![0, 0, 0, 0, 0] ![0, 0, 0, 0, 0] x v pads_S1x4x32x1x256_S1x4x32x64x256_000_000_000_6300_000 h_S_) : (⟨S1x4x32x1x256, .f32⟩ : BufTy).Contents (Elt F) → (⟨S_, .f32⟩ : BufTy).Contents (Elt F) → (⟨S1x4x32x64x256, .f32⟩ : BufTy).Contents (Elt F)),
    StableHlo.binary main_v99 main_v100 main_v101 (addf : (⟨S1x4x32x64x256, .f32⟩ : BufTy).Contents (Elt F) → (⟨S1x4x32x64x256, .f32⟩ : BufTy).Contents (Elt F) → (⟨S1x4x32x64x256, .f32⟩ : BufTy).Contents (Elt F)) ]
theorem main_part2_ops0_sub : (main_part2_ops0 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub ..⟩
/-- 3 host operations of @cumsum_6 (main_call14), window 2 (statements 121 … 163), in order. -/
abbrev main_part2_ops1 : List (HloOp τ sig (Elt F)) :=
  [ StableHlo.TRef.nullary (.of main_call14_call0_cst : StableHlo.TRef sig ⟨S_, .f32⟩) (constant S_ .f32 0x00000000#32),
    StableHlo.TRef.unary (.of main_call14_call0_cst : StableHlo.TRef sig ⟨S_, .f32⟩) (.of main_call14_call0_v0 : StableHlo.TRef sig ⟨S_, .f32⟩) (broadcastInDim S_ ![] bcast_S_S_),
    StableHlo.TRef.binary (.of main_v101 : StableHlo.TRef sig ⟨S1x4x32x64x256, .f32⟩) (.of main_call14_call0_v0 : StableHlo.TRef sig ⟨S_, .f32⟩) (.of main_v102 : StableHlo.TRef sig ⟨S1x4x32x64x256, .f32⟩) (fun x v => Host.reduceWindowAdd ![1, 1, 1, 64, 1] ![1, 1, 1, 1, 1] ![0, 0, 0, 0, 0] ![0, 0, 0, 63, 0] x v reduceWindows_S1x4x32x64x256_S1x4x32x64x256_w1s1p0_0_w1s1p0_0_w1s1p0_0_w64s1p0_63_w1s1p0_0 h_S_) ]
theorem main_part2_ops1_sub : (main_part2_ops1 : List (HloOp τ sig (Elt F))).Forall fun op => op.bufs ⊆ StableHlo.tcRefs τ sig :=
  ⟨StableHlo.nullary_bufs_sub .., StableHlo.unary_bufs_sub .., StableHlo.binary_bufs_sub ..⟩
/-- 18 host operations of @main, window 2 (statements 121 … 163), in order. -/
abbrev main_part2_ops2 : List (HloOp τ sig (Elt F)) :=
  [ StableHlo.unary main_v102 main_v103 ((transpose S1x32x64x4x256 [0, 2, 3, 1, 4] · transposes_S1x4x32x64x256_S1x32x64x4x256_0_2_3_1_4) : (⟨S1x4x32x64x256, .f32⟩ : BufTy).Contents (Elt F) → (⟨S1x32x64x4x256, .f32⟩ : BufTy).Contents (Elt F)),
    StableHlo.reshape main_v103 main_v104 (rfl : (.f32 : EltTy) = .f32) shapeCasts_S1x32x64x4x256_S1x2048x4x256,
    StableHlo.unary main_v77 main_v105 ((transpose S1x32x64x4x512 [0, 2, 3, 1, 4] · transposes_S1x4x32x64x512_S1x32x64x4x512_0_2_3_1_4) : (⟨S1x4x32x64x512, .f32⟩ : BufTy).Contents (Elt F) → (⟨S1x32x64x4x512, .f32⟩ : BufTy).Contents (Elt F)),
    StableHlo.reshape main_v105 main_v106 (rfl : (.f32 : EltTy) = .f32) shapeCasts_S1x32x64x4x512_S1x2048x4x512,
    StableHlo.unary main_v92 main_v107 ((transpose S1x32x64x4x256 [0, 2, 3, 1, 4] · transposes_S1x4x32x64x256_S1x32x64x4x256_0_2_3_1_4) : (⟨S1x4x32x64x256, .f32⟩ : BufTy).Contents (Elt F) → (⟨S1x32x64x4x256, .f32⟩ : BufTy).Contents (Elt F)),
    StableHlo.reshape main_v107 main_v108 (rfl : (.f32 : EltTy) = .f32) shapeCasts_S1x32x64x4x256_S1x2048x4x256,
    StableHlo.nullary main_cst_13 (constant S_ .f32 0x3D800000#32),
    StableHlo.unary main_cst_13 main_v109 (broadcastInDim S1x4x32x64x256 ![] bcast_S_S1x4x32x64x256 : (⟨S_, .f32⟩ : BufTy).Contents (Elt F) → (⟨S1x4x32x64x256, .f32⟩ : BufTy).Contents (Elt F)),
    StableHlo.binary main_v97 main_v109 main_v110 (mulf : (⟨S1x4x32x64x256, .f32⟩ : BufTy).Contents (Elt F) → (⟨S1x4x32x64x256, .f32⟩ : BufTy).Contents (Elt F) → (⟨S1x4x32x64x256, .f32⟩ : BufTy).Contents (Elt F)),
    StableHlo.unary main_v110 main_v111 ((transpose S1x32x64x4x256 [0, 2, 3, 1, 4] · transposes_S1x4x32x64x256_S1x32x64x4x256_0_2_3_1_4) : (⟨S1x4x32x64x256, .f32⟩ : BufTy).Contents (Elt F) → (⟨S1x32x64x4x256, .f32⟩ : BufTy).Contents (Elt F)),
    StableHlo.reshape main_v111 main_v112 (rfl : (.f32 : EltTy) = .f32) shapeCasts_S1x32x64x4x256_S1x2048x4x256,
    StableHlo.reshape main_v104 main_v113 (rfl : (.f32 : EltTy) = .f32) shapeCasts_S1x2048x4x256_S2048x1024,
    StableHlo.reshape main_v106 main_v114 (rfl : (.f32 : EltTy) = .f32) shapeCasts_S1x2048x4x512_S2048x2048,
    StableHlo.reshape main_v108 main_v115 (rfl : (.f32 : EltTy) = .f32) shapeCasts_S1x2048x4x256_S2048x1024,
    StableHlo.reshape main_v112 main_v116 (rfl : (.f32 : EltTy) = .f32) shapeCasts_S1x2048x4x256_S2048x1024,
    StableHlo.nullary main_cst_14 (constant S_ .f32 0x41800000#32),
    StableHlo.unary main_cst_14 main_v117 (broadcastInDim S2048x1024 ![] bcast_S_S2048x1024 : (⟨S_, .f32⟩ : BufTy).Contents (Elt F) → (⟨S2048x1024, .f32⟩ : BufTy).Contents (Elt F)),
    StableHlo.binary main_v113 main_v117 main_v118 (Host.divf : (⟨S2048x1024, .f32⟩ : BufTy).Contents (Elt F) → (⟨S2048x1024, .f32⟩ : BufTy).Contents (Elt F) → (⟨S2048x1024, .f32⟩ : BufTy).Contents (Elt F)) ]
theorem main_part2_ops2_sub : (main_part2_ops2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.binary_bufs_sub ..⟩
/-- 3 host operations of @log_sigmoid_8 (main_call15), window 2 (statements 121 … 163), in order. -/
abbrev main_part2_ops3 : List (HloOp τ sig (Elt F)) :=
  [ StableHlo.TRef.unary (.of main_v118 : StableHlo.TRef sig ⟨S2048x1024, .f32⟩) (.of main_call15_v0 : StableHlo.TRef sig ⟨S2048x1024, .f32⟩) Host.negf,
    StableHlo.TRef.binary (.of main_call15_v0 : StableHlo.TRef sig ⟨S2048x1024, .f32⟩) (.of main_v7_1 : StableHlo.TRef sig ⟨S2048x1024, .f32⟩) (.of main_call15_v1 : StableHlo.TRef sig ⟨S2048x1024, .f32⟩) mulf,
    StableHlo.TRef.unary main_call15_call0.v0 (.of main_v119 : StableHlo.TRef sig ⟨S2048x1024, .f32⟩) Host.negf ]
theorem main_part2_ops3_sub : (main_part2_ops3 : List (HloOp τ sig (Elt F))).Forall fun op => op.bufs ⊆ StableHlo.tcRefs τ sig :=
  ⟨StableHlo.unary_bufs_sub .., StableHlo.binary_bufs_sub .., StableHlo.unary_bufs_sub ..⟩
/-- 9 host operations of @main, window 2 (statements 121 … 163), in order. -/
abbrev main_part2_ops4 : List (HloOp τ sig (Elt F)) :=
  [ StableHlo.nullary main_cst_15 (constant S_ .f32 0x00000000#32),
    StableHlo.binary main_v119 main_cst_15 main_v120 ((fun x v => Host.reduceAdd x v reducesTo_S2048x1024_S1024_d0 h_S_) : (⟨S2048x1024, .f32⟩ : BufTy).Contents (Elt F) → (⟨S_, .f32⟩ : BufTy).Contents (Elt F) → (⟨S1024, .f32⟩ : BufTy).Contents (Elt F)),
    StableHlo.reshape main_v120 main_v121 (rfl : (.f32 : EltTy) = .f32) shapeCasts_S1024_S1x1024,
    StableHlo.binary main_v119 main_v3 main_v122 ((fun l r => Host.dotGeneral dot_S2048x1024_S2048x16_S1024x16_0_0_1_1_n_n none l r) : (⟨S2048x1024, .f32⟩ : BufTy).Contents (Elt F) → (⟨S2048x16, .f32⟩ : BufTy).Contents (Elt F) → (⟨S1024x16, .f32⟩ : BufTy).Contents (Elt F)),
    StableHlo.unary main_v122 main_v123 ((transpose S16x1024 [1, 0] · transposes_S1024x16_S16x1024_1_0) : (⟨S1024x16, .f32⟩ : BufTy).Contents (Elt F) → (⟨S16x1024, .f32⟩ : BufTy).Contents (Elt F)),
    StableHlo.binary main_v119 main_arg2 main_v124 ((fun l r => Host.dotGeneral dot_S2048x1024_S16x1024_S2048x16_1_1_0_0_n_n none l r) : (⟨S2048x1024, .f32⟩ : BufTy).Contents (Elt F) → (⟨S16x1024, .f32⟩ : BufTy).Contents (Elt F) → (⟨S2048x16, .f32⟩ : BufTy).Contents (Elt F)),
    StableHlo.binary main_v116 main_v115 main_v125 ((fun a b => concatenate S2048x2048 1 [⟨S2048x1024, a⟩, ⟨S2048x1024, b⟩] concatenates_S2048x1024_S2048x1024_S2048x2048_d1) : (⟨S2048x1024, .f32⟩ : BufTy).Contents (Elt F) → (⟨S2048x1024, .f32⟩ : BufTy).Contents (Elt F) → (⟨S2048x2048, .f32⟩ : BufTy).Contents (Elt F)),
    StableHlo.unary main_v125 main_v126 ((truncf .bf16 · bitsLt_bf16_f32) : (⟨S2048x2048, .f32⟩ : BufTy).Contents (Elt F) → (⟨S2048x2048, .bf16⟩ : BufTy).Contents (Elt F)),
    StableHlo.nullary main_c_16 (constantI S_ 32 0#32) ]
theorem main_part2_ops4_sub : (main_part2_ops4 : List (HloOp τ sig (Elt F))).Forall fun op => op.bufs ⊆ StableHlo.tcRefs τ sig :=
  ⟨StableHlo.nullary_bufs_sub .., StableHlo.binary_bufs_sub .., StableHlo.reshape_bufs_sub .., StableHlo.binary_bufs_sub .., StableHlo.unary_bufs_sub .., StableHlo.binary_bufs_sub .., StableHlo.binary_bufs_sub .., StableHlo.unary_bufs_sub .., StableHlo.nullary_bufs_sub ..⟩
/-- 2 host operations of @_pad (main_call16), window 2 (statements 121 … 163), in order. -/
abbrev main_part2_ops5 : List (HloOp τ sig (Elt F)) :=
  [ StableHlo.TRef.unary (.of main_c_16 : StableHlo.TRef sig ⟨S_, .i32⟩) (.of main_call16_v0 : StableHlo.TRef sig ⟨S_, .f32⟩) (sitofp .f32),
    StableHlo.TRef.binary (.of main_v124 : StableHlo.TRef sig ⟨S2048x16, .f32⟩) (.of main_call16_v0 : StableHlo.TRef sig ⟨S_, .f32⟩) (.of main_v127 : StableHlo.TRef sig ⟨S2048x128, .f32⟩) (fun x v => pad S2048x128 ![0, 0] ![0, 112] ![0, 0] x v pads_S2048x16_S2048x128_000_01120 h_S_) ]
theorem main_part2_ops5_sub : (main_part2_ops5 : List (HloOp τ sig (Elt F))).Forall fun op => op.bufs ⊆ StableHlo.tcRefs τ sig :=
  ⟨StableHlo.unary_bufs_sub .., StableHlo.binary_bufs_sub ..⟩
/-- 2 host operations of @main, window 2 (statements 121 … 163), in order. -/
abbrev main_part2_ops6 : List (HloOp τ sig (Elt F)) :=
  [ StableHlo.unary main_v127 main_v128 ((truncf .bf16 · bitsLt_bf16_f32) : (⟨S2048x128, .f32⟩ : BufTy).Contents (Elt F) → (⟨S2048x128, .bf16⟩ : BufTy).Contents (Elt F)),
    StableHlo.unary main_v114 main_v129 ((truncf .bf16 · bitsLt_bf16_f32) : (⟨S2048x2048, .f32⟩ : BufTy).Contents (Elt F) → (⟨S2048x2048, .bf16⟩ : BufTy).Contents (Elt F)) ]
theorem main_part2_ops6_sub : (main_part2_ops6 : List (HloOp τ sig (Elt F))).Forall fun op => op.bufs ⊆ StableHlo.tcRefs τ sig :=
  ⟨StableHlo.unary_bufs_sub .., StableHlo.unary_bufs_sub ..⟩
/-- The last window of `main` is the chain of its items. -/
theorem main_part2_chain (c : Dev nD) : main_part2 (F := F) c = (Pipeline.chain
  [ StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons, Pipeline.chain_cons, StableHlo.chain_seq_cons]
  chain_rfl

/-- `main` is the chain of its windows' items. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    HostLoop.enter 0,
    StableHlo.seq main_part1_ops1,
    HostLoop.enter 1,
    StableHlo.seq main_part1_ops2,
    StableHlo.seq main_part1_ops3,
    StableHlo.seq main_part1_ops4,
    StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- 5 host operations of @dynamic_index_in_dim (main_while0b_call4), in order. -/
abbrev while0Ops0 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v48_0 : StableHlo.TRef sig ⟨S32x1x4x256, .f32⟩) ![(.of main_v48_2 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x1x4x256, .f32⟩) (fun x i => Host.dynamicSlice S1x1x4x256 x (fun k => (i k (Shape.Idx.first h_S_)).toInt) sliceFits_S32x1x4x256_S1x1x4x256),
    StableHlo.TRef.reshape (.of main_while0b_call4_v0 : StableHlo.TRef sig ⟨S1x1x4x256, .f32⟩) (.of main_while0b_v130 : StableHlo.TRef sig ⟨S1x4x256, .f32⟩) (rfl : (.f32 : EltTy) = .f32) shapeCasts_S1x1x4x256_S1x4x256 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 6 host operations of @dynamic_index_in_dim_1 (main_while0b_call5), in order. -/
abbrev while0Ops0_1 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.nullary (.of main_while0b_call5_c_2 : StableHlo.TRef sig ⟨S_, .i32⟩) (constantI S_ 32 0#32),
    StableHlo.TRef.unaryIndexed (.of main_v48_1 : StableHlo.TRef sig ⟨S32x1x4x256x512, .f32⟩) ![(.of main_v48_2 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩), (.of main_while0b_call5_c_2 : StableHlo.TRef sig ⟨S_, .i32⟩)] (.of main_while0b_call5_v0 : StableHlo.TRef sig ⟨S1x1x4x256x512, .f32⟩) (fun x i => Host.dynamicSlice S1x1x4x256x512 x (fun k => (i k (Shape.Idx.first h_S_)).toInt) sliceFits_S32x1x4x256x512_S1x1x4x256x512),
    StableHlo.TRef.reshape (.of main_while0b_call5_v0 : StableHlo.TRef sig ⟨S1x1x4x256x512, .f32⟩) (.of main_while0b_v131 : StableHlo.TRef sig ⟨S1x4x256x512, .f32⟩) (rfl : (.f32 : EltTy) = .f32) shapeCasts_S1x1x4x256x512_S1x4x256x512 ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 4 host operations of host loop 0's body region, in order. -/
abbrev while0Ops0_2 : List (HloOp τ sig (Elt F)) :=
  [ StableHlo.unary main_while0b_v130 main_while0b_v132 (broadcastInDim S1x4x256x1 ![0, 1, 2] bcast_S1x4x256_S1x4x256x1_0_1_2 : (⟨S1x4x256, .f32⟩ : BufTy).Contents (Elt F) → (⟨S1x4x256x1, .f32⟩ : BufTy).Contents (Elt F)),
    StableHlo.unary main_while0b_v132 main_while0b_v133 (broadcastInDim S1x4x256x512 ![0, 1, 2, 3] bcast_S1x4x256x1_S1x4x256x512_0_1_2_3 : (⟨S1x4x256x1, .f32⟩ : BufTy).Contents (Elt F) → (⟨S1x4x256x512, .f32⟩ : BufTy).Contents (Elt F)),
    StableHlo.binary main_while0b_v133 main_v48_3 main_while0b_v134 (mulf : (⟨S1x4x256x512, .f32⟩ : BufTy).Contents (Elt F) → (⟨S1x4x256x512, .f32⟩ : BufTy).Contents (Elt F) → (⟨S1x4x256x512, .f32⟩ : BufTy).Contents (Elt F)),
    StableHlo.binary main_while0b_v134 main_while0b_v131 main_while0b_v135 (addf : (⟨S1x4x256x512, .f32⟩ : BufTy).Contents (Elt F) → (⟨S1x4x256x512, .f32⟩ : BufTy).Contents (Elt F) → (⟨S1x4x256x512, .f32⟩ : BufTy).Contents (Elt F)) ]
theorem while0Ops0_2_sub : (while0Ops0_2 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub ..⟩
/-- 6 host operations of @dynamic_update_index_in_dim (main_while0b_call6), in order. -/
abbrev while0Ops0_3 : List (HloOp τ sig (Elt F)) :=
  [ StableHlo.TRef.unary (.of main_v48_3 : StableHlo.TRef sig ⟨S1x4x256x512, .f32⟩) (.of main_while0b_call6_v0 : StableHlo.TRef sig ⟨S1x1x4x256x512, .f32⟩) (broadcastInDim S1x1x4x256x512 ![1, 2, 3, 4] bcast_S1x4x256x512_S1x1x4x256x512_1_2_3_4),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.binaryIndexed (.of main_v48_4 : StableHlo.TRef sig ⟨S32x1x4x256x512, .f32⟩) (.of main_while0b_call6_v0 : StableHlo.TRef sig ⟨S1x1x4x256x512, .f32⟩) ![(.of main_v48_2 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩), (.of main_while0b_call6_c_2 : StableHlo.TRef sig ⟨S_, .i32⟩)] (.of main_while0b_v136 : StableHlo.TRef sig ⟨S32x1x4x256x512, .f32⟩) (fun x u i => Host.dynamicUpdateSlice x u (fun k => (i k (Shape.Idx.first h_S_)).toInt) updateFits_S32x1x4x256x512_S1x1x4x256x512) ]
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of @dynamic_update_index_in_dim_2 (main_while0b_call7), in order. -/
abbrev while0Ops0_4 : List (HloOp τ sig (Elt F)) :=
  [ StableHlo.TRef.unary (.of main_while0b_v132 : StableHlo.TRef sig ⟨S1x4x256x1, .f32⟩) (.of main_while0b_call7_v0 : StableHlo.TRef sig ⟨S1x1x4x256x1, .f32⟩) (broadcastInDim S1x1x4x256x1 ![1, 2, 3, 4] bcast_S1x4x256x1_S1x1x4x256x1_1_2_3_4),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.nullary (.of main_while0b_call7_c_2 : StableHlo.TRef sig ⟨S_, .i32⟩) (constantI S_ 32 0#32),
    StableHlo.TRef.binaryIndexed (.of main_v48_5 : StableHlo.TRef sig ⟨S32x1x4x256x1, .f32⟩) (.of main_while0b_call7_v0 : StableHlo.TRef sig ⟨S1x1x4x256x1, .f32⟩) ![(.of main_v48_2 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩), (.of main_while0b_call7_c_2 : StableHlo.TRef sig ⟨S_, .i32⟩)] (.of main_while0b_v137 : StableHlo.TRef sig ⟨S32x1x4x256x1, .f32⟩) (fun x u i => Host.dynamicUpdateSlice x u (fun k => (i k (Shape.Idx.first h_S_)).toInt) updateFits_S32x1x4x256x1_S1x1x4x256x1) ]
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of host loop 0's body region, in order. -/
abbrev while0Ops0_5 : List (HloOp τ sig (Elt F)) :=
  [ StableHlo.nullary main_while0b_c_22 (constantI S_ 32 1#32),
    StableHlo.binary main_v48_2 main_while0b_c_22 main_while0b_v138 (addi : (⟨S_, .i32⟩ : BufTy).Contents (Elt F) → (⟨S_, .i32⟩ : BufTy).Contents (Elt F) → (⟨S_, .i32⟩ : BufTy).Contents (Elt F)),
    StableHlo.unary main_while0b_v138 main_v48_2 id,
    StableHlo.unary main_while0b_v135 main_v48_3 id,
    StableHlo.unary main_while0b_v136 main_v48_4 id,
    StableHlo.unary main_while0b_v137 main_v48_5 id ]
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_23 (constantI S_ 32 32#32),
    StableHlo.binary main_while1b_c_23 main_v66_3 main_while1b_v130 (subi : (⟨S_, .i32⟩ : BufTy).Contents (Elt F) → (⟨S_, .i32⟩ : BufTy).Contents (Elt F) → (⟨S_, .i32⟩ : BufTy).Contents (Elt F)),
    StableHlo.nullary main_while1b_c_24 (constantI S_ 32 1#32),
    StableHlo.binary main_while1b_v130 main_while1b_c_24 main_while1b_v131 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 6 host operations of @dynamic_index_in_dim_1 (main_while1b_call8), in order. -/
abbrev while1Ops0_1 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.nullary (.of main_while1b_call8_c_2 : StableHlo.TRef sig ⟨S_, .i32⟩) (constantI S_ 32 0#32),
    StableHlo.TRef.unaryIndexed (.of main_v66_0 : StableHlo.TRef sig ⟨S32x1x4x256x512, .f32⟩) ![(.of main_while1b_v131 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩), (.of main_while1b_call8_c_2 : StableHlo.TRef sig ⟨S_, .i32⟩)] (.of main_while1b_call8_v0 : StableHlo.TRef sig ⟨S1x1x4x256x512, .f32⟩) (fun x i => Host.dynamicSlice S1x1x4x256x512 x (fun k => (i k (Shape.Idx.first h_S_)).toInt) sliceFits_S32x1x4x256x512_S1x1x4x256x512),
    StableHlo.TRef.reshape (.of main_while1b_call8_v0 : StableHlo.TRef sig ⟨S1x1x4x256x512, .f32⟩) (.of main_while1b_v132 : StableHlo.TRef sig ⟨S1x4x256x512, .f32⟩) (rfl : (.f32 : EltTy) = .f32) shapeCasts_S1x1x4x256x512_S1x4x256x512 ]
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_1 (main_while1b_call9), in order. -/
abbrev while1Ops0_2 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.nullary (.of main_while1b_call9_c_2 : StableHlo.TRef sig ⟨S_, .i32⟩) (constantI S_ 32 0#32),
    StableHlo.TRef.unaryIndexed (.of main_v66_1 : StableHlo.TRef sig ⟨S32x1x4x256x512, .f32⟩) ![(.of main_while1b_v131 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩), (.of main_while1b_call9_c_2 : StableHlo.TRef sig ⟨S_, .i32⟩)] (.of main_while1b_call9_v0 : StableHlo.TRef sig ⟨S1x1x4x256x512, .f32⟩) (fun x i => Host.dynamicSlice S1x1x4x256x512 x (fun k => (i k (Shape.Idx.first h_S_)).toInt) sliceFits_S32x1x4x256x512_S1x1x4x256x512),
    StableHlo.TRef.reshape (.of main_while1b_call9_v0 : StableHlo.TRef sig ⟨S1x1x4x256x512, .f32⟩) (.of main_while1b_v133 : StableHlo.TRef sig ⟨S1x4x256x512, .f32⟩) (rfl : (.f32 : EltTy) = .f32) shapeCasts_S1x1x4x256x512_S1x4x256x512 ]
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_3 (main_while1b_call10), in order. -/
abbrev while1Ops0_3 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.nullary (.of main_while1b_call10_c_2 : StableHlo.TRef sig ⟨S_, .i32⟩) (constantI S_ 32 0#32),
    StableHlo.TRef.unaryIndexed (.of main_v66_2 : StableHlo.TRef sig ⟨S32x1x4x256x1, .f32⟩) ![(.of main_while1b_v131 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩), (.of main_while1b_call10_c_2 : StableHlo.TRef sig ⟨S_, .i32⟩)] (.of main_while1b_call10_v0 : StableHlo.TRef sig ⟨S1x1x4x256x1, .f32⟩) (fun x i => Host.dynamicSlice S1x1x4x256x1 x (fun k => (i k (Shape.Idx.first h_S_)).toInt) sliceFits_S32x1x4x256x1_S1x1x4x256x1),
    StableHlo.TRef.reshape (.of main_while1b_call10_v0 : StableHlo.TRef sig ⟨S1x1x4x256x1, .f32⟩) (.of main_while1b_v134 : StableHlo.TRef sig ⟨S1x4x256x1, .f32⟩) (rfl : (.f32 : EltTy) = .f32) shapeCasts_S1x1x4x256x1_S1x4x256x1 ]
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 10 host operations of host loop 1's body region, in order. -/
abbrev while1Ops0_4 : List (HloOp τ sig (Elt F)) :=
  [ StableHlo.unary main_while1b_v134 main_while1b_v135 (broadcastInDim S1x4x256x512 ![0, 1, 2, 3] bcast_S1x4x256x1_S1x4x256x512_0_1_2_3 : (⟨S1x4x256x1, .f32⟩ : BufTy).Contents (Elt F) → (⟨S1x4x256x512, .f32⟩ : BufTy).Contents (Elt F)),
    StableHlo.binary main_while1b_v135 main_v66_4 main_while1b_v136 (mulf : (⟨S1x4x256x512, .f32⟩ : BufTy).Contents (Elt F) → (⟨S1x4x256x512, .f32⟩ : BufTy).Contents (Elt F) → (⟨S1x4x256x512, .f32⟩ : BufTy).Contents (Elt F)),
    StableHlo.binary main_while1b_v132 main_while1b_v136 main_while1b_v137 (addf : (⟨S1x4x256x512, .f32⟩ : BufTy).Contents (Elt F) → (⟨S1x4x256x512, .f32⟩ : BufTy).Contents (Elt F) → (⟨S1x4x256x512, .f32⟩ : BufTy).Contents (Elt F)),
    StableHlo.binary main_v66_4 main_while1b_v133 main_while1b_v138 (mulf : (⟨S1x4x256x512, .f32⟩ : BufTy).Contents (Elt F) → (⟨S1x4x256x512, .f32⟩ : BufTy).Contents (Elt F) → (⟨S1x4x256x512, .f32⟩ : BufTy).Contents (Elt F)),
    StableHlo.nullary main_while1b_cst_25 (constant S_ .f32 0x00000000#32),
    StableHlo.binary main_while1b_v138 main_while1b_cst_25 main_while1b_v139 ((fun x v => Host.reduceAdd x v reducesTo_S1x4x256x512_S1x4x256_d3 h_S_) : (⟨S1x4x256x512, .f32⟩ : BufTy).Contents (Elt F) → (⟨S_, .f32⟩ : BufTy).Contents (Elt F) → (⟨S1x4x256, .f32⟩ : BufTy).Contents (Elt F)),
    StableHlo.reshape main_while1b_v139 main_while1b_v140 (rfl : (.f32 : EltTy) = .f32) shapeCasts_S1x4x256_S1x4x256x1,
    StableHlo.nullary main_while1b_cst_26 (constant S_ .f32 0x00000000#32),
    StableHlo.binary main_while1b_v140 main_while1b_cst_26 main_while1b_v141 ((fun x v => Host.reduceAdd x v reducesTo_S1x4x256x1_S4x256_d0_3 h_S_) : (⟨S1x4x256x1, .f32⟩ : BufTy).Contents (Elt F) → (⟨S_, .f32⟩ : BufTy).Contents (Elt F) → (⟨S4x256, .f32⟩ : BufTy).Contents (Elt F)),
    StableHlo.unary main_while1b_v141 main_while1b_v142 (broadcastInDim S1x4x256 ![1, 2] bcast_S4x256_S1x4x256_1_2 : (⟨S4x256, .f32⟩ : BufTy).Contents (Elt F) → (⟨S1x4x256, .f32⟩ : BufTy).Contents (Elt F)) ]
theorem while1Ops0_4_sub : (while1Ops0_4 : List (HloOp τ sig (Elt F))).Forall fun op => op.bufs ⊆ StableHlo.tcRefs τ sig :=
  ⟨StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub ..⟩
/-- 5 host operations of @dynamic_update_index_in_dim_4 (main_while1b_call11), in order. -/
abbrev while1Ops0_5 : List (HloOp τ sig (Elt F)) :=
  [ StableHlo.TRef.unary (.of main_while1b_v142 : StableHlo.TRef sig ⟨S1x4x256, .f32⟩) (.of main_while1b_call11_v0 : StableHlo.TRef sig ⟨S1x1x4x256, .f32⟩) (broadcastInDim S1x1x4x256 ![1, 2, 3] bcast_S1x4x256_S1x1x4x256_1_2_3),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.binaryIndexed (.of main_v66_5 : StableHlo.TRef sig ⟨S32x1x4x256, .f32⟩) (.of main_while1b_call11_v0 : StableHlo.TRef sig ⟨S1x1x4x256, .f32⟩) ![(.of main_while1b_v131 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_v143 : StableHlo.TRef sig ⟨S32x1x4x256, .f32⟩) (fun x u i => Host.dynamicUpdateSlice x u (fun k => (i k (Shape.Idx.first h_S_)).toInt) updateFits_S32x1x4x256_S1x1x4x256) ]
theorem while1Ops0_5_sub : (while1Ops0_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 6 host operations of @dynamic_update_index_in_dim (main_while1b_call12), in order. -/
abbrev while1Ops0_6 : List (HloOp τ sig (Elt F)) :=
  [ StableHlo.TRef.unary (.of main_v66_4 : StableHlo.TRef sig ⟨S1x4x256x512, .f32⟩) (.of main_while1b_call12_v0 : StableHlo.TRef sig ⟨S1x1x4x256x512, .f32⟩) (broadcastInDim S1x1x4x256x512 ![1, 2, 3, 4] bcast_S1x4x256x512_S1x1x4x256x512_1_2_3_4),
    StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.nullary (.of main_while1b_call12_c_2 : StableHlo.TRef sig ⟨S_, .i32⟩) (constantI S_ 32 0#32),
    StableHlo.TRef.binaryIndexed (.of main_v66_6 : StableHlo.TRef sig ⟨S32x1x4x256x512, .f32⟩) (.of main_while1b_call12_v0 : StableHlo.TRef sig ⟨S1x1x4x256x512, .f32⟩) ![(.of main_while1b_v131 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩), (.of main_while1b_call12_c_2 : StableHlo.TRef sig ⟨S_, .i32⟩)] (.of main_while1b_v144 : StableHlo.TRef sig ⟨S32x1x4x256x512, .f32⟩) (fun x u i => Host.dynamicUpdateSlice x u (fun k => (i k (Shape.Idx.first h_S_)).toInt) updateFits_S32x1x4x256x512_S1x1x4x256x512) ]
theorem while1Ops0_6_sub : (while1Ops0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 6 host operations of host loop 1's body region, in order. -/
abbrev while1Ops0_7 : List (HloOp τ sig (Elt F)) :=
  [ StableHlo.nullary main_while1b_c_27 (constantI S_ 32 1#32),
    StableHlo.binary main_v66_3 main_while1b_c_27 main_while1b_v145 (addi : (⟨S_, .i32⟩ : BufTy).Contents (Elt F) → (⟨S_, .i32⟩ : BufTy).Contents (Elt F) → (⟨S_, .i32⟩ : BufTy).Contents (Elt F)),
    StableHlo.unary main_while1b_v145 main_v66_3 id,
    StableHlo.unary main_while1b_v137 main_v66_4 id,
    StableHlo.unary main_while1b_v143 main_v66_5 id,
    StableHlo.unary main_while1b_v144 main_v66_6 id ]
theorem while1Ops0_7_sub : (while1Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while1_body` is the chain of its items. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

/-! ## What each stretch writes -/

/-- What the stretch writes, in order. -/
abbrev main_part0_ops0_w : List (Ref sig .tc) := [main_v0, main_v1, main_v2, main_v3, main_v4, main_v5, main_v6]
theorem main_part0_ops0_writes : (main_part0_ops0 (F := F)).map HloOp.writes = main_part0_ops0_w.map fun w => {Proc.devRef (τ := τ) .tc w} := rfl
/-- What the stretch writes, in order. -/
abbrev main_part0_ops1_w : List (Ref sig .tc) := [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v7_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v7_2, main_v7_0]
theorem main_part0_ops1_writes : (main_part0_ops1 (F := F)).map HloOp.writes = main_part0_ops1_w.map fun w => {Proc.devRef (τ := τ) .tc w} := rfl
/-- What the stretch writes, in order. -/
abbrev main_part0_ops2_w : List (Ref sig .tc) := [main_cst, main_v8, main_v9, main_v10, main_v11, main_v12, main_v13, main_v14, main_v15, main_cst_0, main_v16, main_v17, main_v18, main_v19, main_v20, main_v21, main_v22, main_v23]
theorem main_part0_ops2_writes : (main_part0_ops2 (F := F)).map HloOp.writes = main_part0_ops2_w.map fun w => {Proc.devRef (τ := τ) .tc w} := rfl
/-- What the stretch writes, in order. -/
abbrev main_part0_ops3_w : List (Ref sig .tc) := [main_call1_call0_cst, main_call1_call0_v0, main_v24]
theorem main_part0_ops3_writes : (main_part0_ops3 (F := F)).map HloOp.writes = main_part0_ops3_w.map fun w => {Proc.devRef (τ := τ) .tc w} := rfl
/-- What the stretch writes, in order. -/
abbrev main_part0_ops4_w : List (Ref sig .tc) := [main_v25, main_v26, main_v27, main_v28, main_v29, main_v30, main_v31, main_v32, main_v33, main_v34, main_c, main_v35]
theorem main_part0_ops4_writes : (main_part0_ops4 (F := F)).map HloOp.writes = main_part0_ops4_w.map fun w => {Proc.devRef (τ := τ) .tc w} := rfl
/-- What the stretch writes, in order. -/
abbrev main_part0_ops5_w : List (Ref sig .tc) := [main_call2_v0, main_call2_c, main_call2_v1, main_call2_v2, main_call2_v3, main_call2_v4, main_call2_c_0, main_call2_v5, main_v36]
theorem main_part0_ops5_writes : (main_part0_ops5 (F := F)).map HloOp.writes = main_part0_ops5_w.map fun w => {Proc.devRef (τ := τ) .tc w} := rfl
/-- What the stretch writes, in order. -/
abbrev main_part0_ops6_w : List (Ref sig .tc) := [main_v37, main_cst_1]
theorem main_part0_ops6_writes : (main_part0_ops6 (F := F)).map HloOp.writes = main_part0_ops6_w.map fun w => {Proc.devRef (τ := τ) .tc w} := rfl
/-- What the stretch writes, in order. -/
abbrev main_part0_ops7_w : List (Ref sig .tc) := [main_call3_v0, main_v38_1, main_call3_v2, main_v38_0, main_call3_cst, main_v38_2]
theorem main_part0_ops7_writes : (main_part0_ops7 (F := F)).map HloOp.writes = main_part0_ops7_w.map fun w => {Proc.devRef (τ := τ) .tc w} := rfl
/-- What the stretch writes, in order. -/
abbrev main_part0_ops8_w : List (Ref sig .tc) := [main_v39, main_v40, main_v41, main_v42, main_cst_2, main_v43, main_v44, main_v45, main_cst_3, main_v46, main_cst_4, main_v47, main_c_5, main_v48_0, main_v48_1, main_v48_2, main_v48_3]
theorem main_part0_ops8_writes : (main_part0_ops8 (F := F)).map HloOp.writes = main_part0_ops8_w.map fun w => {Proc.devRef (τ := τ) .tc w} := rfl
/-- What the stretch writes, in order. -/
abbrev main_part1_ops0_w : List (Ref sig .tc) := [main_v48_4, main_v48_5]
theorem main_part1_ops0_writes : (main_part1_ops0 (F := F)).map HloOp.writes = main_part1_ops0_w.map fun w => {Proc.devRef (τ := τ) .tc w} := rfl
/-- What the stretch writes, in order. -/
abbrev main_part1_ops1_w : List (Ref sig .tc) := [main_v49, main_v50, main_v51, main_v52, main_v53, main_v54, main_cst_6, main_v55, main_v56, main_v57, main_v58, main_v59, main_v60, main_v61, main_v62, main_cst_7, main_v63, main_cst_8, main_v64, main_cst_9, main_v65, main_c_10, main_v66_0, main_v66_1, main_v66_2, main_v66_3, main_v66_4, main_v66_5, main_v66_6]
theorem main_part1_ops1_writes : (main_part1_ops1 (F := F)).map HloOp.writes = main_part1_ops1_w.map fun w => {Proc.devRef (τ := τ) .tc w} := rfl
/-- What the stretch writes, in order. -/
abbrev main_part1_ops2_w : List (Ref sig .tc) := [main_v67, main_v68, main_v69, main_v70, main_v71, main_v72, main_v73, main_v74, main_v75, main_v76, main_v77, main_v78]
theorem main_part1_ops2_writes : (main_part1_ops2 (F := F)).map HloOp.writes = main_part1_ops2_w.map fun w => {Proc.devRef (τ := τ) .tc w} := rfl
/-- What the stretch writes, in order. -/
abbrev main_part1_ops3_w : List (Ref sig .tc) := [main_call13_cst, main_call13_v0, main_v79]
theorem main_part1_ops3_writes : (main_part1_ops3 (F := F)).map HloOp.writes = main_part1_ops3_w.map fun w => {Proc.devRef (τ := τ) .tc w} := rfl
/-- What the stretch writes, in order. -/
abbrev main_part1_ops4_w : List (Ref sig .tc) := [main_v80, main_v81, main_v82, main_v83, main_v84, main_v85, main_cst_11, main_v86, main_v87, main_v88, main_v89, main_v90, main_v91, main_v92]
theorem main_part1_ops4_writes : (main_part1_ops4 (F := F)).map HloOp.writes = main_part1_ops4_w.map fun w => {Proc.devRef (τ := τ) .tc w} := rfl
/-- What the stretch writes, in order. -/
abbrev main_part2_ops0_w : List (Ref sig .tc) := [main_v93, main_v94, main_v95, main_v96, main_v97, main_v98, main_v99, main_cst_12, main_v100, main_v101]
theorem main_part2_ops0_writes : (main_part2_ops0 (F := F)).map HloOp.writes = main_part2_ops0_w.map fun w => {Proc.devRef (τ := τ) .tc w} := rfl
/-- What the stretch writes, in order. -/
abbrev main_part2_ops1_w : List (Ref sig .tc) := [main_call14_call0_cst, main_call14_call0_v0, main_v102]
theorem main_part2_ops1_writes : (main_part2_ops1 (F := F)).map HloOp.writes = main_part2_ops1_w.map fun w => {Proc.devRef (τ := τ) .tc w} := rfl
/-- What the stretch writes, in order. -/
abbrev main_part2_ops2_w : List (Ref sig .tc) := [main_v103, main_v104, main_v105, main_v106, main_v107, main_v108, main_cst_13, main_v109, main_v110, main_v111, main_v112, main_v113, main_v114, main_v115, main_v116, main_cst_14, main_v117, main_v118]
theorem main_part2_ops2_writes : (main_part2_ops2 (F := F)).map HloOp.writes = main_part2_ops2_w.map fun w => {Proc.devRef (τ := τ) .tc w} := rfl
/-- What the stretch writes, in order. -/
abbrev main_part2_ops3_w : List (Ref sig .tc) := [main_call15_v0, main_call15_v1, main_v119]
theorem main_part2_ops3_writes : (main_part2_ops3 (F := F)).map HloOp.writes = main_part2_ops3_w.map fun w => {Proc.devRef (τ := τ) .tc w} := rfl
/-- What the stretch writes, in order. -/
abbrev main_part2_ops4_w : List (Ref sig .tc) := [main_cst_15, main_v120, main_v121, main_v122, main_v123, main_v124, main_v125, main_v126, main_c_16]
theorem main_part2_ops4_writes : (main_part2_ops4 (F := F)).map HloOp.writes = main_part2_ops4_w.map fun w => {Proc.devRef (τ := τ) .tc w} := rfl
/-- What the stretch writes, in order. -/
abbrev main_part2_ops5_w : List (Ref sig .tc) := [main_call16_v0, main_v127]
theorem main_part2_ops5_writes : (main_part2_ops5 (F := F)).map HloOp.writes = main_part2_ops5_w.map fun w => {Proc.devRef (τ := τ) .tc w} := rfl
/-- What the stretch writes, in order. -/
abbrev main_part2_ops6_w : List (Ref sig .tc) := [main_v128, main_v129]
theorem main_part2_ops6_writes : (main_part2_ops6 (F := F)).map HloOp.writes = main_part2_ops6_w.map fun w => {Proc.devRef (τ := τ) .tc w} := rfl
/-- What the stretch writes, in order. -/
abbrev while0Ops0_w : List (Ref sig .tc) := [main_while0b_call4_c, main_while0b_call4_c_0, main_while0b_call4_c_1, main_while0b_call4_v0, main_while0b_v130]
theorem while0Ops0_writes : (while0Ops0 (F := F)).map HloOp.writes = while0Ops0_w.map fun w => {Proc.devRef (τ := τ) .tc w} := rfl
/-- What the stretch writes, in order. -/
abbrev while0Ops0_1_w : List (Ref sig .tc) := [main_while0b_call5_c, main_while0b_call5_c_0, main_while0b_call5_c_1, main_while0b_call5_c_2, main_while0b_call5_v0, main_while0b_v131]
theorem while0Ops0_1_writes : (while0Ops0_1 (F := F)).map HloOp.writes = while0Ops0_1_w.map fun w => {Proc.devRef (τ := τ) .tc w} := rfl
/-- What the stretch writes, in order. -/
abbrev while0Ops0_2_w : List (Ref sig .tc) := [main_while0b_v132, main_while0b_v133, main_while0b_v134, main_while0b_v135]
theorem while0Ops0_2_writes : (while0Ops0_2 (F := F)).map HloOp.writes = while0Ops0_2_w.map fun w => {Proc.devRef (τ := τ) .tc w} := rfl
/-- What the stretch writes, in order. -/
abbrev while0Ops0_3_w : List (Ref sig .tc) := [main_while0b_call6_v0, main_while0b_call6_c, main_while0b_call6_c_0, main_while0b_call6_c_1, main_while0b_call6_c_2, main_while0b_v136]
theorem while0Ops0_3_writes : (while0Ops0_3 (F := F)).map HloOp.writes = while0Ops0_3_w.map fun w => {Proc.devRef (τ := τ) .tc w} := rfl
/-- What the stretch writes, in order. -/
abbrev while0Ops0_4_w : List (Ref sig .tc) := [main_while0b_call7_v0, main_while0b_call7_c, main_while0b_call7_c_0, main_while0b_call7_c_1, main_while0b_call7_c_2, main_while0b_v137]
theorem while0Ops0_4_writes : (while0Ops0_4 (F := F)).map HloOp.writes = while0Ops0_4_w.map fun w => {Proc.devRef (τ := τ) .tc w} := rfl
/-- What the stretch writes, in order. -/
abbrev while0Ops0_5_w : List (Ref sig .tc) := [main_while0b_c_22, main_while0b_v138, main_v48_2, main_v48_3, main_v48_4, main_v48_5]
theorem while0Ops0_5_writes : (while0Ops0_5 (F := F)).map HloOp.writes = while0Ops0_5_w.map fun w => {Proc.devRef (τ := τ) .tc w} := rfl
/-- What the stretch writes, in order. -/
abbrev while1Ops0_w : List (Ref sig .tc) := [main_while1b_c_23, main_while1b_v130, main_while1b_c_24, main_while1b_v131]
theorem while1Ops0_writes : (while1Ops0 (F := F)).map HloOp.writes = while1Ops0_w.map fun w => {Proc.devRef (τ := τ) .tc w} := rfl
/-- What the stretch writes, in order. -/
abbrev while1Ops0_1_w : List (Ref sig .tc) := [main_while1b_call8_c, main_while1b_call8_c_0, main_while1b_call8_c_1, main_while1b_call8_c_2, main_while1b_call8_v0, main_while1b_v132]
theorem while1Ops0_1_writes : (while1Ops0_1 (F := F)).map HloOp.writes = while1Ops0_1_w.map fun w => {Proc.devRef (τ := τ) .tc w} := rfl
/-- What the stretch writes, in order. -/
abbrev while1Ops0_2_w : List (Ref sig .tc) := [main_while1b_call9_c, main_while1b_call9_c_0, main_while1b_call9_c_1, main_while1b_call9_c_2, main_while1b_call9_v0, main_while1b_v133]
theorem while1Ops0_2_writes : (while1Ops0_2 (F := F)).map HloOp.writes = while1Ops0_2_w.map fun w => {Proc.devRef (τ := τ) .tc w} := rfl
/-- What the stretch writes, in order. -/
abbrev while1Ops0_3_w : List (Ref sig .tc) := [main_while1b_call10_c, main_while1b_call10_c_0, main_while1b_call10_c_1, main_while1b_call10_c_2, main_while1b_call10_v0, main_while1b_v134]
theorem while1Ops0_3_writes : (while1Ops0_3 (F := F)).map HloOp.writes = while1Ops0_3_w.map fun w => {Proc.devRef (τ := τ) .tc w} := rfl
/-- What the stretch writes, in order. -/
abbrev while1Ops0_4_w : List (Ref sig .tc) := [main_while1b_v135, main_while1b_v136, main_while1b_v137, main_while1b_v138, main_while1b_cst_25, main_while1b_v139, main_while1b_v140, main_while1b_cst_26, main_while1b_v141, main_while1b_v142]
theorem while1Ops0_4_writes : (while1Ops0_4 (F := F)).map HloOp.writes = while1Ops0_4_w.map fun w => {Proc.devRef (τ := τ) .tc w} := rfl
/-- What the stretch writes, in order. -/
abbrev while1Ops0_5_w : List (Ref sig .tc) := [main_while1b_call11_v0, main_while1b_call11_c, main_while1b_call11_c_0, main_while1b_call11_c_1, main_while1b_v143]
theorem while1Ops0_5_writes : (while1Ops0_5 (F := F)).map HloOp.writes = while1Ops0_5_w.map fun w => {Proc.devRef (τ := τ) .tc w} := rfl
/-- What the stretch writes, in order. -/
abbrev while1Ops0_6_w : List (Ref sig .tc) := [main_while1b_call12_v0, main_while1b_call12_c, main_while1b_call12_c_0, main_while1b_call12_c_1, main_while1b_call12_c_2, main_while1b_v144]
theorem while1Ops0_6_writes : (while1Ops0_6 (F := F)).map HloOp.writes = while1Ops0_6_w.map fun w => {Proc.devRef (τ := τ) .tc w} := rfl
/-- What the stretch writes, in order. -/
abbrev while1Ops0_7_w : List (Ref sig .tc) := [main_while1b_c_27, main_while1b_v145, main_v66_3, main_v66_4, main_v66_5, main_v66_6]
theorem while1Ops0_7_writes : (while1Ops0_7 (F := F)).map HloOp.writes = while1Ops0_7_w.map fun w => {Proc.devRef (τ := τ) .tc w} := rfl

end Cert.ReferenceIdeal.Gla

end
-- ==== Proof.RefRun.lean ====
/- The reference's run: @main's stretches, the forward loop, the stretch between, the backward loop and the stretches after it;
   every unscoped buffer at the fold's contents at the end, every counter at zero, the arguments unchanged. -/
module

public import proofs.«01_k».proof.Proof.RefOps
public import Idealize.ShloMosaic.Lib.StableHlo.RunLoop
public import Idealize.ShloMosaic.Lib.StableHlo.RunRead
public import Idealize.ShloMosaic.Lib.Scf
public import Idealize.ShloMosaic.Lib.Scf.ExitTest
public import Idealize.ShloMosaic.Lib.Tactic

@[expose] public section

set_option maxRecDepth 16384

noncomputable section

namespace Cert.ReferenceIdeal.Gla

open Cert.ReferenceIdeal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs sub_ucRefs)

variable {F : FTy → Type} [FloatOps F]

local notation "𝕄" => MT nD τ sig Unit (Elt F) ℕ (Option PUnit) ℕ

/-! ## The stretches of @main and of the loops' bodies -/

abbrev preI : List (List (HloOp τ sig (Elt F))) :=
  [main_part0_ops0, main_part0_ops1, main_part0_ops2, main_part0_ops3, main_part0_ops4, main_part0_ops5, main_part0_ops6,
    main_part0_ops7, main_part0_ops8, main_part1_ops0]
abbrev midI : List (List (HloOp τ sig (Elt F))) := [main_part1_ops1]
abbrev postI : List (List (HloOp τ sig (Elt F))) :=
  [main_part1_ops2, main_part1_ops3, main_part1_ops4, main_part2_ops0, main_part2_ops1, main_part2_ops2, main_part2_ops3,
    main_part2_ops4, main_part2_ops5, main_part2_ops6]
abbrev body0I : List (List (HloOp τ sig (Elt F))) :=
  [while0Ops0, while0Ops0_1, while0Ops0_2, while0Ops0_3, while0Ops0_4, while0Ops0_5]
abbrev body1I : List (List (HloOp τ sig (Elt F))) :=
  [while1Ops0, while1Ops0_1, while1Ops0_2, while1Ops0_3, while1Ops0_4, while1Ops0_5, while1Ops0_6, while1Ops0_7]

/-- The forward loop's condition: the bound, and the counter compared with it. -/
abbrev cond0 : List (HloOp τ sig (Elt F)) :=
  [ StableHlo.nullary main_while0c_c_22 (constantI S_ 32 32#32),
    StableHlo.binary main_v48_2 main_while0c_c_22 main_while0c_v130 (cmpi .slt) ]
/-- The backward loop's condition. -/
abbrev cond1 : List (HloOp τ sig (Elt F)) :=
  [ StableHlo.nullary main_while1c_c_23 (constantI S_ 32 32#32),
    StableHlo.binary main_v66_3 main_while1c_c_23 main_while1c_v130 (cmpi .slt) ]

/-- A stretch of builder operations before a plain list. -/
theorem plain_cons {ops : List (HloOp τ sig (Elt F))} {rest : List (List (HloOp τ sig (Elt F)))}
    (hs : ops.Forall fun op => op.bufs ⊆ tcRefs τ sig)
    (hf : ops.map HloOp.fresh = ops.map fun _ => (∅ : Finset (DevRef τ sig))) (h : Plain rest) : Plain (ops :: rest) :=
  .cons hs h (hf := List.forall_iff_forall_mem.mp (forall_fresh_of_map hf))

theorem hpre : Plain (preI (F := F)) :=
  plain_cons main_part0_ops0_sub rfl <| plain_cons main_part0_ops1_sub rfl <| plain_cons main_part0_ops2_sub rfl <|
  plain_cons main_part0_ops3_sub rfl <| plain_cons main_part0_ops4_sub rfl <| plain_cons main_part0_ops5_sub rfl <|
  plain_cons main_part0_ops6_sub rfl <| plain_cons main_part0_ops7_sub rfl <| plain_cons main_part0_ops8_sub rfl <|
  plain_cons main_part1_ops0_sub rfl .nil
theorem hmid : Plain (midI (F := F)) := plain_cons main_part1_ops1_sub rfl .nil
theorem hpost : Plain (postI (F := F)) :=
  plain_cons main_part1_ops2_sub rfl <| plain_cons main_part1_ops3_sub rfl <| plain_cons main_part1_ops4_sub rfl <|
  plain_cons main_part2_ops0_sub rfl <| plain_cons main_part2_ops1_sub rfl <| plain_cons main_part2_ops2_sub rfl <|
  plain_cons main_part2_ops3_sub rfl <| plain_cons main_part2_ops4_sub rfl <| plain_cons main_part2_ops5_sub rfl <|
  plain_cons main_part2_ops6_sub rfl .nil
theorem hbody0 : Plain (body0I (F := F)) :=
  plain_cons while0Ops0_sub rfl <| plain_cons while0Ops0_1_sub rfl <| plain_cons while0Ops0_2_sub rfl <|
  plain_cons while0Ops0_3_sub rfl <| plain_cons while0Ops0_4_sub rfl <| plain_cons while0Ops0_5_sub rfl .nil
theorem hbody1 : Plain (body1I (F := F)) :=
  plain_cons while1Ops0_sub rfl <| plain_cons while1Ops0_1_sub rfl <| plain_cons while1Ops0_2_sub rfl <|
  plain_cons while1Ops0_3_sub rfl <| plain_cons while1Ops0_4_sub rfl <| plain_cons while1Ops0_5_sub rfl <|
  plain_cons while1Ops0_6_sub rfl <| plain_cons while1Ops0_7_sub rfl .nil

/-! ## The contents at each boundary -/

variable (m : (ℓ : Loc nD τ sig) → Buf (Elt F) ℓ) (ρ : Dev nD → PrngReg)

/-- At the forward loop's entry. -/
abbrev E0 : Dev nD → Valuation τ sig (Elt F) := fun c => afterL preI (launchContents m c)
/-- After the forward loop. -/
abbrev Z0 : Dev nD → Valuation τ sig (Elt F) := fun c => after cond0 (atTrip cond0 body0I (E0 m) 32 c)
/-- At the backward loop's entry. -/
abbrev E1 : Dev nD → Valuation τ sig (Elt F) := fun c => afterL midI (Z0 m c)
/-- After the backward loop. -/
abbrev Z1 : Dev nD → Valuation τ sig (Elt F) := fun c => after cond1 (atTrip cond1 body1I (E1 m) 32 c)
/-- At the end. -/
abbrev Y : Dev nD → Valuation τ sig (Elt F) := fun c => afterL postI (Z1 m c)

/-! ## What a list of stretches leaves alone -/

/-- A reference none of the stretches writes keeps its contents. -/
theorem afterL_unwritten {r : Ref sig .tc} : ∀ (I : List (List (HloOp τ sig (Elt F)))) (W : List (List (Ref sig .tc)))
    (_ : I.map (fun ops => ops.map HloOp.writes) = W.map fun ws => ws.map fun w => {Proc.devRef (τ := τ) .tc w})
    (_ : r ∉ W.flatten) (V : Valuation τ sig (Elt F)), afterL I V (Proc.devRef .tc r) = V (Proc.devRef .tc r)
  | [], _, _, _, _ => rfl
  | ops :: I, [], h, _, _ => by simp at h
  | ops :: I, ws :: W, h, hr, V => by
    rw [afterL_cons, afterL_unwritten I W (List.cons.inj h).2 (fun hm => hr (by simp only [List.flatten_cons, List.mem_append]; exact .inr hm)),
      after_unwritten ws (List.cons.inj h).1 (fun hm => hr (by simp only [List.flatten_cons, List.mem_append]; exact .inl hm))]

/-- A reference neither the condition nor the body writes keeps its contents over the trips. -/
theorem atTrip_unwritten {r : Ref sig .tc} {C : List (HloOp τ sig (Elt F))} {I : List (List (HloOp τ sig (Elt F)))}
    (WC : List (Ref sig .tc)) (W : List (List (Ref sig .tc)))
    (hC : C.map HloOp.writes = WC.map fun w => {Proc.devRef (τ := τ) .tc w}) (hrC : r ∉ WC)
    (hI : I.map (fun ops => ops.map HloOp.writes) = W.map fun ws => ws.map fun w => {Proc.devRef (τ := τ) .tc w})
    (hr : r ∉ W.flatten) (W₀ : Dev nD → Valuation τ sig (Elt F)) (c : Dev nD) :
    ∀ k, atTrip C I W₀ k c (Proc.devRef .tc r) = W₀ c (Proc.devRef .tc r)
  | 0 => rfl
  | k + 1 => by
    rw [atTrip_succ, afterL_unwritten I W hI hr, after_unwritten WC hC hrC, atTrip_unwritten WC W hC hrC hI hr W₀ c k]

abbrev preW : List (List (Ref sig .tc)) :=
  [main_part0_ops0_w, main_part0_ops1_w, main_part0_ops2_w, main_part0_ops3_w, main_part0_ops4_w, main_part0_ops5_w, main_part0_ops6_w,
    main_part0_ops7_w, main_part0_ops8_w, main_part1_ops0_w]
abbrev midW : List (List (Ref sig .tc)) := [main_part1_ops1_w]
abbrev postW : List (List (Ref sig .tc)) :=
  [main_part1_ops2_w, main_part1_ops3_w, main_part1_ops4_w, main_part2_ops0_w, main_part2_ops1_w, main_part2_ops2_w, main_part2_ops3_w,
    main_part2_ops4_w, main_part2_ops5_w, main_part2_ops6_w]
abbrev body0W : List (List (Ref sig .tc)) :=
  [while0Ops0_w, while0Ops0_1_w, while0Ops0_2_w, while0Ops0_3_w, while0Ops0_4_w, while0Ops0_5_w]
abbrev body1W : List (List (Ref sig .tc)) :=
  [while1Ops0_w, while1Ops0_1_w, while1Ops0_2_w, while1Ops0_3_w, while1Ops0_4_w, while1Ops0_5_w, while1Ops0_6_w, while1Ops0_7_w]
abbrev cond0W : List (Ref sig .tc) := [main_while0c_c_22, main_while0c_v130]
abbrev cond1W : List (Ref sig .tc) := [main_while1c_c_23, main_while1c_v130]

theorem pre_writes : (preI (F := F)).map (fun ops => ops.map HloOp.writes) = preW.map fun ws => ws.map fun w => {Proc.devRef (τ := τ) .tc w} := rfl
theorem mid_writes : (midI (F := F)).map (fun ops => ops.map HloOp.writes) = midW.map fun ws => ws.map fun w => {Proc.devRef (τ := τ) .tc w} := rfl
theorem post_writes : (postI (F := F)).map (fun ops => ops.map HloOp.writes) = postW.map fun ws => ws.map fun w => {Proc.devRef (τ := τ) .tc w} := rfl
theorem body0_writes : (body0I (F := F)).map (fun ops => ops.map HloOp.writes) = body0W.map fun ws => ws.map fun w => {Proc.devRef (τ := τ) .tc w} := rfl
theorem body1_writes : (body1I (F := F)).map (fun ops => ops.map HloOp.writes) = body1W.map fun ws => ws.map fun w => {Proc.devRef (τ := τ) .tc w} := rfl
theorem cond0_writes : (cond0 (F := F)).map HloOp.writes = cond0W.map fun w => {Proc.devRef (τ := τ) .tc w} := rfl
theorem cond1_writes : (cond1 (F := F)).map HloOp.writes = cond1W.map fun w => {Proc.devRef (τ := τ) .tc w} := rfl

theorem Z0_of (c : Dev nD) (r : Ref sig .tc) (h : r ∉ cond0W ∧ r ∉ body0W.flatten) : Z0 m c r = E0 m c r :=
  (after_unwritten cond0W cond0_writes h.1 _).trans (atTrip_unwritten cond0W body0W cond0_writes h.1 body0_writes h.2 _ c 32)
theorem Z1_of (c : Dev nD) (r : Ref sig .tc) (h : r ∉ cond1W ∧ r ∉ body1W.flatten) : Z1 m c r = E1 m c r :=
  (after_unwritten cond1W cond1_writes h.1 _).trans (atTrip_unwritten cond1W body1W cond1_writes h.1 body1_writes h.2 _ c 32)

abbrev argRefs : List (Ref sig .tc) := [main_arg0, main_arg1, main_arg2, main_arg3, main_arg4]

theorem args_free : ∀ a ∈ argRefs, a ∉ preW.flatten ∧ (a ∉ cond0W ∧ a ∉ body0W.flatten) ∧ a ∉ midW.flatten
    ∧ (a ∉ cond1W ∧ a ∉ body1W.flatten) ∧ a ∉ postW.flatten := by decide +kernel

/-- The arguments are as launched at the end. -/
theorem Y_args (c : Dev nD) (a : Ref sig .tc) (h : a ∈ argRefs) : Y m c a = m ((c : Thread nD τ).loc a) := by
  obtain ⟨h0, h1, h2, h3, h4⟩ := args_free a h
  exact (afterL_unwritten postI postW post_writes h4 _).trans <| (Z1_of m c a h3).trans <|
    (afterL_unwritten midI midW mid_writes h2 _).trans <| (Z0_of m c a h1).trans (afterL_unwritten preI preW pre_writes h0 _)

/-! ## The loops' counters -/

theorem ctr0_entry (c : Dev nD) : E0 m c (Proc.devRef .tc main_v48_2) = fun _ => (0#32 : BitVec 32) := by
  simp only [E0, afterL_cons, afterL_nil]
  after_reads_simp
  rfl

theorem ctr1_entry (c : Dev nD) : E1 m c (Proc.devRef .tc main_v66_3) = fun _ => (0#32 : BitVec 32) := by
  simp only [E1, afterL_cons, afterL_nil]
  generalize Z0 m c = V
  after_reads_simp
  rfl

theorem ctr0_step (V : Valuation τ sig (Elt F)) :
    afterL body0I V (Proc.devRef .tc main_v48_2) = fun i => @HAdd.hAdd (BitVec 32) (BitVec 32) (BitVec 32) _ (V (Proc.devRef .tc main_v48_2) i) 1#32 := by
  simp only [afterL_cons, afterL_nil]
  after_reads_simp
  rfl
theorem ctr1_step (V : Valuation τ sig (Elt F)) :
    afterL body1I V (Proc.devRef .tc main_v66_3) = fun i => @HAdd.hAdd (BitVec 32) (BitVec 32) (BitVec 32) _ (V (Proc.devRef .tc main_v66_3) i) 1#32 := by
  simp only [afterL_cons, afterL_nil]
  after_reads_simp
  rfl

/-- Before the `k`-th condition the counter is `k`. -/
theorem ctr0 (c : Dev nD) : ∀ k, atTrip cond0 body0I (E0 m) k c (Proc.devRef .tc main_v48_2) = fun _ => Scf.iv 0#32 1#32 k
  | 0 => by rw [Scf.iv_zero]; exact ctr0_entry m c
  | k + 1 => by
    rw [atTrip_succ, ctr0_step, after_unwritten cond0W cond0_writes (by decide), ctr0 c k, Scf.iv_succ]
theorem ctr1 (c : Dev nD) : ∀ k, atTrip cond1 body1I (E1 m) k c (Proc.devRef .tc main_v66_3) = fun _ => Scf.iv 0#32 1#32 k
  | 0 => by rw [Scf.iv_zero]; exact ctr1_entry m c
  | k + 1 => by
    rw [atTrip_succ, ctr1_step, after_unwritten cond1W cond1_writes (by decide), ctr1 c k, Scf.iv_succ]

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cellOf_inj : Function.Injective (Pipeline.cellOf (nD := nD) (τ := τ) (Pipeline.pin (pcfgs (F := F)) adm)) := fun k => k.1.elim0

/-- What rides beside the buffers. -/
abbrev Rw (c : Dev nD) : sProp 𝕄 := iprop(∃ W, owes (c : Thread nD τ) (0 : CellTallies nD τ sig Unit) W)

set_option backward.isDefEq.respectTransparency.types false in
theorem spec0 : LoopCond (Ix := Unit) (Name := ℕ) (U := Option PUnit) (Lvl := ℕ) (pcfgs (F := F)) defs₀ Variants.none loops Rw
    (main_while0_cond (F := F)) cond0 body0I (E0 m) 32 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0I (E0 m) k c) main_v48_2 HostLoop.idx0)
      (HloOp.result _ (atTrip cond0 body0I (E0 m) k c) main_while0c_c_22 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

set_option backward.isDefEq.respectTransparency.types false in
theorem spec1 : LoopCond (Ix := Unit) (Name := ℕ) (U := Option PUnit) (Lvl := ℕ) (pcfgs (F := F)) defs₀ Variants.none loops Rw
    (main_while1_cond (F := F)) cond1 body1I (E1 m) 32 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1I (E1 m) k c) main_v66_3 HostLoop.idx0)
      (HloOp.result _ (atTrip cond1 body1I (E1 m) k c) main_while1c_c_23 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

/-! ## The run -/

abbrev seg0 : CSeg (pcfgs (F := F)) adm defs₀ Variants.none L lv loops tk :=
  loopSeg _ _ _ _ _ _ _ _ 0 main_while0_cond main_while0_body rfl cond0 body0I hbody0 while0_body_chain 32 (E0 m) Rw (spec0 m)
abbrev seg1 : CSeg (pcfgs (F := F)) adm defs₀ Variants.none L lv loops tk :=
  loopSeg _ _ _ _ _ _ _ _ 1 main_while1_cond main_while1_body rfl cond1 body1I hbody1 while1_body_chain 32 (E1 m) Rw (spec1 m)

/-- @main's segments. -/
def segs : List (CSeg (pcfgs (F := F)) adm defs₀ Variants.none L lv loops tk) :=
  segsOf _ _ _ _ _ _ _ _ Rw preI hpre (launchContents m)
    ++ (seg0 m :: (segsOf _ _ _ _ _ _ _ _ Rw midI hmid (Z0 m) ++ (seg1 m :: segsOf _ _ _ _ _ _ _ _ Rw postI hpost (Z1 m))))

theorem segs_prog : (segs m).map CSeg.prog
    = (preI (F := F)).map (fun ops => (seq ops : Prog _ PUnit)) ++ (HostLoop.enter 0 :: ((midI (F := F)).map (fun ops => (seq ops : Prog _ PUnit))
      ++ (HostLoop.enter 1 :: (postI (F := F)).map fun ops => (seq ops : Prog _ PUnit)))) := by
  unfold segs
  rw [List.map_append, List.map_cons, List.map_append, List.map_cons, segsOf_prog, segsOf_prog, segsOf_prog]
  rfl

theorem main_segs (c : Dev nD) : main (F := F) c = Pipeline.chain ((segs m).map CSeg.prog) :=
  (main_chain_windows c).trans (by rw [segs_prog]; rfl)

theorem segs_chains : CSeg.Chains (fun c => iprop(held (c : Thread nD τ) (ucRefs τ sig) (launchContents m c) ∗ Rw c)) (segs m)
    (fun c => iprop(iprop(held (c : Thread nD τ) (ucRefs τ sig) (Y m c)) ∗ ∃ W, owes (c : Thread nD τ) (0 : CellTallies nD τ sig Unit) W)) := by
  unfold segs
  exact CSeg.Chains.append (segsOf_chains _ _ _ _ _ _ _ _ Rw preI hpre _) ⟨fun _ => .rfl,
    CSeg.Chains.append (segsOf_chains _ _ _ _ _ _ _ _ Rw midI hmid _) ⟨fun _ => .rfl, segsOf_chains _ _ _ _ _ _ _ _ Rw postI hpost _⟩⟩

theorem no_scoped_sem : ∀ s : SemLoc sig, s.isScoped .tc = true := by decide

theorem run_main : θ_run defs (onTc (τ := τ) (main (F := F))) ⟨m, fun _ => 0, ρ⟩
    (fun r => (∀ c : Dev nD, ∀ b ∈ ucRefs τ sig, r.2.mem ((c : Thread nD τ).1, b) = Y m c b) ∧ r.2.sem = fun _ => 0) :=
  Pipeline.θ_run_regions_loop_kit_sems (Ix := Unit) (Name := ℕ) (U := Option PUnit) (Lvl := ℕ) (J := Fin 0) (P := Fin 0) (Val := Elt F)
    pcfgs adm cellOf_inj defs₀ Variants.none L lv loops tk m ρ main (segs m)
    (fun c Q => by
      rw [main_segs m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Y m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = Y m c b)
    (hfin := fun c s' => by
      iintro ⟨Hh, HSI⟩
      unfold held
      imodintro
      iapply (pointsTo_read_all (ucRefs τ sig) (fun b => ((c : Thread nD τ).1, b)) (Y m c) s')
      isplitl [Hh] <;> iassumption)
    (hQ := fun s h hz => ⟨h, funext fun g => hz g (.inr (no_scoped_sem g.2))⟩)

theorem mem_uc (b : Ref sig .tc) (h : (Proc.devRef .tc b : DevRef τ sig).isScoped = false) : (Proc.devRef .tc b : DevRef τ sig) ∈ ucRefs τ sig :=
  devRef_mem_ucRefs b h

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h =>
    have k (c : Dev nD) (a : Ref sig .tc) (ha : a ∈ argRefs) (hs : (Proc.devRef .tc a : DevRef τ sig).isScoped = false) :
        r.2.mem ((c.tc : Thread nD τ).loc a) = m ((c.tc : Thread nD τ).loc a) := (h.1 c _ (mem_uc a hs)).trans (Y_args m c a ha)
    ⟨fun c => ⟨k c main_arg0 (by decide) rfl, k c main_arg1 (by decide) rfl, k c main_arg2 (by decide) rfl,
      k c main_arg3 (by decide) rfl, k c main_arg4 (by decide) rfl⟩, h.2⟩) (run_main m ρ)

end Cert.ReferenceIdeal.Gla

end
-- ==== Proof.Bridge.lean ====
module

public import Idealize.ShloMosaic.PureOps.BitExact
public import proofs.«01_k».proof.Proof.Gen.Kernel
public import proofs.«01_k».proof.Proof.Gen.KernelIdeal

@[expose] public section

set_option maxRecDepth 16384
set_option maxHeartbeats 4000000

noncomputable section

namespace Cert.Proof

open Idealize.ShloMosaic Idealize.SL.Sem

attribute [local instance] Cert.Kernel.Gen.facts Cert.KernelIdeal.Gen.facts

/-- Two sequences with equal heads and equal tails. -/
theorem bind_eq {E : Type → Type} {α β : Type} {x y : Prog E α} {f g : α → Prog E β} (h : x = y) (hf : ∀ a, f a = g a) :
    x >>= f = y >>= g := h ▸ congrArg (x >>= ·) (funext hf)

theorem fwd_eq : @Cert.Kernel.cc0_gla_fwd Bits _ _ = @Cert.KernelIdeal.cc0_gla_fwd Bits _ _ := by
  funext i arg1 harg1 arg2 harg2 arg3 harg3 arg4 harg4 arg5 harg5 arg6 harg6 arg7 harg7 arg8 harg8 arg9 harg9 arg10 harg10 arg11 harg11 arg12 harg12 arg13 harg13 arg14 harg14
  delta Cert.Kernel.cc0_gla_fwd Cert.KernelIdeal.cc0_gla_fwd
  refine bind_eq rfl (fun ⟨v38, v39, v40⟩ => ?_)
  refine bind_eq rfl (fun ⟨v48, v58, v72, v77⟩ => ?_)
  refine bind_eq rfl (fun ⟨v82, v93, v113⟩ => ?_)
  rfl

theorem bwd_eq : @Cert.Kernel.cc1_gla_bwd Bits _ _ = @Cert.KernelIdeal.cc1_gla_bwd Bits _ _ := by
  funext i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  delta Cert.Kernel.cc1_gla_bwd Cert.KernelIdeal.cc1_gla_bwd
  refine bind_eq rfl (fun ⟨v4, v8, v11, v18, v39, v40, v41, v42⟩ => ?_)
  refine bind_eq rfl (fun ⟨v47, v48, v51, v54, v63, v73, v74, v75, v76, v77⟩ => ?_)
  refine bind_eq rfl (fun ⟨v83, v95, v96, v97, v98, v99, v100, v106, v112, v114, v115, v116, cst_52⟩ => ?_)
  refine bind_eq rfl (fun ⟨v120, v150, v154, v158, v160⟩ => ?_)
  refine bind_eq rfl (fun v190 => ?_)
  refine bind_eq rfl (fun ⟨v221, v230, v231⟩ => ?_)
  rfl

end Cert.Proof

end
-- ==== Proof.Bridge2.lean ====
module

public import proofs.«01_k».proof.Proof.Bridge
public import proofs.«01_k».proof.Proof.Run
public import proofs.«01_k».proof.Defs

@[expose] public section

set_option maxRecDepth 16384
set_option maxHeartbeats 1000000

noncomputable section

namespace Cert.Proof

open Idealize.ShloMosaic Idealize.SL.Sem Idealize.ShloMosaic.TcCoe

attribute [local instance] Cert.Kernel.Gen.facts Cert.KernelIdeal.Gen.facts

/-- The bodies' tables agree. -/
theorem defs₀_eq : Cert.Kernel.defs₀ (F := Bits) = Cert.KernelIdeal.defs₀ (F := Bits) := by
  delta Cert.Kernel.defs₀ Cert.KernelIdeal.defs₀
  refine congrArg Defs.onTc ?_
  funext l a
  match l, a with
  | ⟨0, _⟩, ⟨t, s⟩ =>
    dsimp only
    rw [fwd_eq]
    rfl
  | ⟨1, _⟩, ⟨t, s⟩ =>
    dsimp only
    rw [bwd_eq]
    rfl

/-- The launches' configurations agree. -/
theorem cfgs_eq : Cert.Kernel.cfgs = Cert.KernelIdeal.cfgs := by
  funext p
  match p with
  | ⟨0, _⟩ => rfl
  | ⟨1, _⟩ => rfl

section

open Cert.KernelIdeal Cert.KernelIdeal.Facts₀ Cert.KernelIdeal.Facts

/-- @main over the launches' configurations. -/
def mainOf (cf : Fin 2 → Pipeline.Cfg sig Λ₀) :
    Dev nD → Prog (TpuEff nD τ sig (Elt Bits) (Pipeline.Sig Λ₀ (Fin 2) fun p => ((cf p).toPCfg (Val := Elt Bits)).Adm) .tc) PUnit := fun _ => do
  hlo rfl (StableHlo.nullary main_c (constantI S_ 32 0#32)) (fun _ => .ret ⟨⟩)
  hlo rfl (StableHlo.TRef.unary (.of main_c : StableHlo.TRef sig ⟨S_, .i32⟩) main_call0.v0 (fun x => sitofp (F := Bits) .f32 (x : IVec S_ 32))) (fun _ => .ret ⟨⟩)
  hlo rfl (StableHlo.TRef.binary (.of main_arg2 : StableHlo.TRef sig ⟨S16x1024, .f32⟩) main_call0.v0 main_call0.v1 (fun x v => pad S128x1024 ![0, 0] ![112, 0] ![0, 0] x v pads_S16x1024_S128x1024_01120_000 h_S_)) (fun _ => .ret ⟨⟩)
  Prog.lift (.customCall (Pipeline.entry 0) ())
  Prog.lift (.customCall (Pipeline.entry 1) ())
  hlo rfl (StableHlo.unary main_v2_3 main_v3 ((extractStridedSlice S16x1024 ![0, 0] · slices_S128x1024_S16x1024_0_0) : (⟨S128x1024, .f32⟩ : BufTy).Contents (Elt Bits) → (⟨S16x1024, .f32⟩ : BufTy).Contents (Elt Bits))) (fun _ => .ret ⟨⟩)
  pure ⟨⟩

theorem mainI_eq : Cert.KernelIdeal.main (F := Bits) = mainOf Cert.KernelIdeal.cfgs := rfl
theorem mainK_eq : Cert.Kernel.main (F := Bits) = mainOf Cert.Kernel.cfgs := rfl

end

/-- The run over the floats' bits, of the same text. -/
theorem frame_kernel : Cert.quiescent_Kernel (hKernel := Cert.Kernel.Gen.facts) := fun m ρ _ => by
  have h := Cert.KernelIdeal.Gla.frame (F := Bits) m ρ
  rw [mainI_eq] at h
  rw [mainK_eq]
  delta Cert.KernelIdeal.defs at h
  delta Cert.Kernel.defs
  rw [defs₀_eq]
  have e := cfgs_eq
  generalize Cert.Kernel.cfgs = a at e ⊢
  subst e
  exact h

end Cert.Proof

end
-- ==== Proof.Value2.lean ====
/- The weight gradient of a feed-forward product: the result array is the reference's composed term of the arguments. -/
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Kernel2Ideal.Value

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The gradient of `w` in `x @ w` at the cotangent `d`, as the reference computes it. -/
abbrev REF (x : FVec Ideal S2048x5632 .bf16) (d : FVec Ideal S2048x2048 .bf16) : FVec Ideal S5632x2048 .bf16 :=
  truncf .bf16 (transpose Cert.Reference2Ideal.S5632x2048 [1, 0]
    (Host.dotGeneral Cert.Reference2Ideal.dot_S2048x2048_S2048x5632_S2048x5632_0_0_1_1_n_n none
      (extf .f32 d Cert.Reference2Ideal.Gen.bitsLt_bf16_f32 : FVec Ideal Cert.Reference2Ideal.S2048x2048 .f32)
      (extf .f32 x Cert.Reference2Ideal.Gen.bitsLt_bf16_f32 : FVec Ideal Cert.Reference2Ideal.S2048x5632 .f32))
    Cert.Reference2Ideal.Gen.transposes_S2048x5632_S5632x2048_1_0) Cert.Reference2Ideal.Gen.bitsLt_bf16_f32

/-- Where the windows' blocks lie. -/
theorem idx : ∀ t : Fin cfg0.N, win0_0.index t = ![0, t.val] ∧ win0_1.index t = ![0, 0] ∧ win0_2.index t = ![t.val, 0] :=
  (by decide +kernel : ∀ t : Fin grid0.N, _)

/-- What a point stores is its block of the reference's term. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => (mul_comm _ _).trans ?_
  blk_point [iblk, V, idx t]

/-- The result array. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel2Ideal.Value

namespace Cert.Proof

open Idealize.ShloMosaic Idealize.SL.Sem

/-- The weight gradient's call and its reference compute the same array. -/
theorem algebraic2 : Cert.algebraic_Kernel2Ideal_Reference2Ideal (hKernel2Ideal := Cert.Kernel2Ideal.Gen.facts)
    (hReference2Ideal := Cert.Reference2Ideal.Gen.facts) := fun m ρ m' ρ' _ hag =>
  ⟨fun c => Cert.Kernel2Ideal.Value.REF (m ((c.tc : Thread _ _).loc Cert.Kernel2Ideal.main_arg0)) (m ((c.tc : Thread _ _).loc Cert.Kernel2Ideal.main_arg1)),
    (θ_run _ _ _).mono (fun _ h c => ⟨(h c).1.trans (Cert.Kernel2Ideal.Value.final m c), (h c).2⟩) (Cert.Kernel2Ideal.Value.run_blocks (F := Ideal) m ρ),
    (θ_run _ _ _).mono (fun _ h c => ⟨(h c).1.trans (by rw [(hag c).1, (hag c).2]), (h c).2⟩) (Cert.Reference2Ideal.Value.run (F := Ideal) m' ρ')⟩

end Cert.Proof

end
-- ==== Proof.Values.lean ====
/- The products contracted in one pass: each call's result array is its reference's composed term of the arguments. -/
module

public import proofs.«01_k».proof.Defs
public import proofs.«01_k».proof.Proof.Gen.Kernel3Ideal.Value
public import proofs.«01_k».proof.Proof.Gen.Reference3Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel13Ideal.Value
public import proofs.«01_k».proof.Proof.Gen.Reference13Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The gradient of the input projection's weight -/

namespace Cert.Reference3Ideal.Value
open Cert.Reference3Ideal Cert.Reference3Ideal.Gen

/-- The gradient of `w` in `u @ w.T` at the cotangent `d`. -/
abbrev REF (d : FVec Ideal S2048x12800 .bf16) (u : FVec Ideal S2048x2048 .bf16) : FVec Ideal S12800x2048 .bf16 :=
  truncf .bf16 (transpose S12800x2048 [1, 0] (transpose S2048x12800 [1, 0]
    (Host.dotGeneral dot_S2048x12800_S2048x2048_S12800x2048_0_0_1_1_n_n none (extf .f32 d bitsLt_bf16_f32) (extf .f32 u bitsLt_bf16_f32))
    transposes_S12800x2048_S2048x12800_1_0) transposes_S2048x12800_S12800x2048_1_0) bitsLt_bf16_f32

end Cert.Reference3Ideal.Value

namespace Cert.Kernel3Ideal.Value
open Cert.Kernel3Ideal Cert.Kernel3Ideal.Gen
open Cert.Reference3Ideal.Value (REF)

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.Kernel3Ideal.Value

/-! ## The gradient of the output projection's weight -/

namespace Cert.Reference8Ideal.Value
open Cert.Reference8Ideal Cert.Reference8Ideal.Gen

/-- The gradient of `w` in `x @ w` at the cotangent `d`. -/
abbrev REF (x : FVec Ideal S2048x2048 .bf16) (d : FVec Ideal S2048x2048 .bf16) : FVec Ideal S2048x2048 .bf16 :=
  truncf .bf16 (transpose S2048x2048 [1, 0]
    (Host.dotGeneral dot_S2048x2048_S2048x2048_S2048x2048_0_0_1_1_n_n none (extf .f32 d bitsLt_bf16_f32) (extf .f32 x bitsLt_bf16_f32))
    transposes_S2048x2048_S2048x2048_1_0) bitsLt_bf16_f32

end Cert.Reference8Ideal.Value

namespace Cert.Kernel8Ideal.Value
open Cert.Kernel8Ideal Cert.Kernel8Ideal.Gen
open Cert.Reference8Ideal.Value (REF)

variable (m : (ℓ : Loc nD τ sig) → Buf (Elt Ideal) ℓ)

theorem idx : ∀ t : Fin cfg0.N, win0_0.index t = ![0, t.val / 4] ∧ win0_1.index t = ![0, t.val % 4]
    ∧ win0_2.index t = ![t.val / 4, t.val % 4] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  refine Fin.sum_fin_congr fun k => (mul_comm (_ : EReal) _).trans ?_
  blk_point [iblk, V, idx t]

end Cert.Kernel8Ideal.Value

/-! ## The gradient of the output projection's input -/

namespace Cert.Reference9Ideal.Value
open Cert.Reference9Ideal Cert.Reference9Ideal.Gen

/-- The gradient of `x` in `x @ w` at the cotangent `d`. -/
abbrev REF (d : FVec Ideal S2048x2048 .bf16) (w : FVec Ideal S2048x2048 .bf16) : FVec Ideal S2048x2048 .f32 :=
  Host.dotGeneral dot_S2048x2048_S2048x2048_S2048x2048_1_1_0_0_n_n none (extf .f32 d bitsLt_bf16_f32) (extf .f32 w bitsLt_bf16_f32)

end Cert.Reference9Ideal.Value

namespace Cert.Kernel9Ideal.Value
open Cert.Kernel9Ideal Cert.Kernel9Ideal.Gen
open Cert.Reference9Ideal.Value (REF)

variable (m : (ℓ : Loc nD τ sig) → Buf (Elt Ideal) ℓ)

theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.Kernel9Ideal.Value

/-! ## The input projection -/

namespace Cert.Reference10Ideal.Value
open Cert.Reference10Ideal Cert.Reference10Ideal.Gen

/-- `u @ w.T`. -/
abbrev REF (u : FVec Ideal S2048x2048 .bf16) (w : FVec Ideal S12800x2048 .bf16) : FVec Ideal S2048x12800 .f32 :=
  Host.dotGeneral dot_S2048x2048_S2048x12800_S2048x12800_1_0_0_1_n_n none (extf .f32 u bitsLt_bf16_f32)
    (transpose S2048x12800 [1, 0] (extf .f32 w bitsLt_bf16_f32) transposes_S12800x2048_S2048x12800_1_0)

end Cert.Reference10Ideal.Value

namespace Cert.Kernel10Ideal.Value
open Cert.Kernel10Ideal Cert.Kernel10Ideal.Gen
open Cert.Reference10Ideal.Value (REF)

variable (m : (ℓ : Loc nD τ sig) → Buf (Elt Ideal) ℓ)

theorem idx : ∀ t : Fin cfg0.N, win0_0.index t = ![t.val / 10, 0] ∧ win0_1.index t = ![t.val % 10, 0]
    ∧ win0_2.index t = ![t.val / 10, t.val % 10] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.Kernel10Ideal.Value

/-! ## The output projection, onto the residual stream -/

namespace Cert.Reference13Ideal.Value
open Cert.Reference13Ideal Cert.Reference13Ideal.Gen

/-- `h + x @ w`. -/
abbrev REF (x : FVec Ideal S2048x2048 .bf16) (w : FVec Ideal S2048x2048 .bf16) (h : FVec Ideal S2048x2048 .f32) : FVec Ideal S2048x2048 .f32 :=
  addf h (Host.dotGeneral dot_S2048x2048_S2048x2048_S2048x2048_1_0_0_1_n_n none (extf .f32 x bitsLt_bf16_f32) (extf .f32 w bitsLt_bf16_f32))

end Cert.Reference13Ideal.Value

namespace Cert.Kernel13Ideal.Value
open Cert.Kernel13Ideal Cert.Kernel13Ideal.Gen
open Cert.Reference13Ideal.Value (REF)

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, REF]
  refine (add_comm (_ : EReal) _).trans ?_
  blk_point [iblk, V, idx t]

end Cert.Kernel13Ideal.Value

namespace Cert.Proof

theorem algebraic3 : Cert.algebraic_Kernel3Ideal_Reference3Ideal (hKernel3Ideal := Cert.Kernel3Ideal.Gen.facts)
    (hReference3Ideal := Cert.Reference3Ideal.Gen.facts) := fun m ρ m' ρ' _ hag =>
  ⟨_, (θ_run _ _ _).mono (fun _ h c => ⟨(h c).1.trans (Cert.Kernel3Ideal.Value.final m c), (h c).2⟩) (Cert.Kernel3Ideal.Value.run_blocks (F := Ideal) m ρ),
    (θ_run _ _ _).mono (fun _ h c => ⟨(h c).1.trans (by rw [(hag c).1, (hag c).2]), (h c).2⟩) (Cert.Reference3Ideal.Value.run (F := Ideal) m' ρ')⟩

theorem algebraic8 : Cert.algebraic_Kernel8Ideal_Reference8Ideal (hKernel8Ideal := Cert.Kernel8Ideal.Gen.facts)
    (hReference8Ideal := Cert.Reference8Ideal.Gen.facts) := fun m ρ m' ρ' _ hag =>
  ⟨_, (θ_run _ _ _).mono (fun _ h c => ⟨(h c).1.trans (Cert.Kernel8Ideal.Value.final m c), (h c).2⟩) (Cert.Kernel8Ideal.Value.run_blocks (F := Ideal) m ρ),
    (θ_run _ _ _).mono (fun _ h c => ⟨(h c).1.trans (by rw [(hag c).1, (hag c).2]), (h c).2⟩) (Cert.Reference8Ideal.Value.run (F := Ideal) m' ρ')⟩

theorem algebraic9 : Cert.algebraic_Kernel9Ideal_Reference9Ideal (hKernel9Ideal := Cert.Kernel9Ideal.Gen.facts)
    (hReference9Ideal := Cert.Reference9Ideal.Gen.facts) := fun m ρ m' ρ' _ hag =>
  ⟨_, (θ_run _ _ _).mono (fun _ h c => ⟨(h c).1.trans (Cert.Kernel9Ideal.Value.final m c), (h c).2⟩) (Cert.Kernel9Ideal.Value.run_blocks (F := Ideal) m ρ),
    (θ_run _ _ _).mono (fun _ h c => ⟨(h c).1.trans (by rw [(hag c).1, (hag c).2]), (h c).2⟩) (Cert.Reference9Ideal.Value.run (F := Ideal) m' ρ')⟩

theorem algebraic10 : Cert.algebraic_Kernel10Ideal_Reference10Ideal (hKernel10Ideal := Cert.Kernel10Ideal.Gen.facts)
    (hReference10Ideal := Cert.Reference10Ideal.Gen.facts) := fun m ρ m' ρ' _ hag =>
  ⟨_, (θ_run _ _ _).mono (fun _ h c => ⟨(h c).1.trans (Cert.Kernel10Ideal.Value.final m c), (h c).2⟩) (Cert.Kernel10Ideal.Value.run_blocks (F := Ideal) m ρ),
    (θ_run _ _ _).mono (fun _ h c => ⟨(h c).1.trans (by rw [(hag c).1, (hag c).2]), (h c).2⟩) (Cert.Reference10Ideal.Value.run (F := Ideal) m' ρ')⟩

theorem algebraic13 : Cert.algebraic_Kernel13Ideal_Reference13Ideal (hKernel13Ideal := Cert.Kernel13Ideal.Gen.facts)
    (hReference13Ideal := Cert.Reference13Ideal.Gen.facts) := fun m ρ m' ρ' _ hag =>
  ⟨_, (θ_run _ _ _).mono (fun _ h c => ⟨(h c).1.trans (Cert.Kernel13Ideal.Value.final m c), (h c).2⟩) (Cert.Kernel13Ideal.Value.run_blocks (F := Ideal) m ρ),
    (θ_run _ _ _).mono (fun _ h c => ⟨(h c).1.trans (by rw [(hag c).1, (hag c).2.1, (hag c).2.2]), (h c).2⟩) (Cert.Reference13Ideal.Value.run (F := Ideal) m' ρ')⟩

end Cert.Proof

end
-- ==== Proof.Ffn.lean ====
/- The feed-forward block's two calls with an activation: its widening products forward, and backward through the product
   that the activation scales. -/
module

public import proofs.«01_k».proof.Defs
public import proofs.«01_k».proof.Proof.Gen.Kernel7Ideal.Value
public import proofs.«01_k».proof.Proof.Gen.Reference7Ideal.Run
public import proofs.«01_k».proof.Proof.Gen.Kernel11Ideal.Value
public import proofs.«01_k».proof.Proof.Gen.Reference11Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference7Ideal.Value
open Cert.Reference7Ideal Cert.Reference7Ideal.Gen

/-- `silu a`, as the reference computes it. -/
abbrev act (a : FVec Ideal S2048x5632 .bf16) : FVec Ideal S2048x5632 .f32 :=
  mulf (extf .f32 a bitsLt_bf16_f32) (Host.divf (broadcastInDim S2048x5632 ![] bcast_S_S2048x5632 (constant S_ .f32 0x3F800000#32))
    (addf (broadcastInDim S2048x5632 ![] bcast_S_S2048x5632 (constant S_ .f32 0x3F800000#32)) (Host.exp (Host.negf (extf .f32 a bitsLt_bf16_f32)))))

/-- The gradient of `b` in `(silu a * b) @ w` at the cotangent `d`. -/
abbrev REF (d : FVec Ideal S2048x2048 .bf16) (w : FVec Ideal S5632x2048 .bf16) (a : FVec Ideal S2048x5632 .bf16) : FVec Ideal S2048x5632 .bf16 :=
  truncf .bf16 (mulf (act a) (Host.dotGeneral dot_S2048x2048_S5632x2048_S2048x5632_1_1_0_0_n_n none
    (extf .f32 d bitsLt_bf16_f32) (extf .f32 w bitsLt_bf16_f32))) bitsLt_bf16_f32

end Cert.Reference7Ideal.Value

namespace Cert.Kernel7Ideal.Value
open Cert.Kernel7Ideal Cert.Kernel7Ideal.Gen
open Cert.Reference7Ideal.Value (REF act)

variable (m : (ℓ : Loc nD τ sig) → Buf (Elt Ideal) ℓ)

theorem idx : ∀ t : Fin cfg0.N, win0_0.index t = ![t.val % 2, 0] ∧ win0_1.index t = ![t.val / 2, 0]
    ∧ win0_2.index t = ![t.val % 2, t.val / 2] ∧ win0_5.index t = ![t.val % 2, t.val / 2] :=
  (by decide +kernel : ∀ t : Fin grid0.N, _)

theorem final (c : Dev nD) : (dats m 0 c).arrAt 5 (cfgs 0).N
    = REF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay5, k0_pay3, k0_pay2, k0_pay1, REF, act]
  refine (mul_comm (_ : EReal) _).trans ?_
  rw [zero_sub]
  blk_point [iblk, V, idx t]

end Cert.Kernel7Ideal.Value

namespace Cert.Reference11Ideal.Value
open Cert.Reference11Ideal Cert.Reference11Ideal.Gen

/-- `v @ w.T`. -/
abbrev UP (v : FVec Ideal S2048x2048 .bf16) (w : FVec Ideal S5632x2048 .bf16) : FVec Ideal S2048x5632 .f32 :=
  Host.dotGeneral dot_S2048x2048_S2048x5632_S2048x5632_1_0_0_1_n_n none (extf .f32 v bitsLt_bf16_f32)
    (transpose S2048x5632 [1, 0] (extf .f32 w bitsLt_bf16_f32) transposes_S5632x2048_S2048x5632_1_0)

/-- `silu (v @ wg.T) * (v @ wu.T)`. -/
abbrev FF (v : FVec Ideal S2048x2048 .bf16) (wg wu : FVec Ideal S5632x2048 .bf16) : FVec Ideal S2048x5632 .bf16 :=
  truncf .bf16 (mulf (mulf (UP v wg) (Host.divf (broadcastInDim S2048x5632 ![] bcast_S_S2048x5632 (constant S_ .f32 0x3F800000#32))
    (addf (broadcastInDim S2048x5632 ![] bcast_S_S2048x5632 (constant S_ .f32 0x3F800000#32)) (Host.exp (Host.negf (UP v wg)))))) (UP v wu)) bitsLt_bf16_f32

end Cert.Reference11Ideal.Value

namespace Cert.Kernel11Ideal.Value
open Cert.Kernel11Ideal Cert.Kernel11Ideal.Gen
open Cert.Reference11Ideal.Value (UP FF)

variable (m : (ℓ : Loc nD τ sig) → Buf (Elt Ideal) ℓ)

theorem idx : ∀ t : Fin cfg0.N, win0_0.index t = ![t.val % 2, 0] ∧ win0_1.index t = ![t.val / 2, 0] ∧ win0_2.index t = ![t.val / 2, 0]
    ∧ win0_3.index t = ![t.val % 2, t.val / 2] ∧ win0_4.index t = ![t.val % 2, t.val / 2] ∧ win0_5.index t = ![t.val % 2, t.val / 2] :=
  (by decide +kernel : ∀ t : Fin grid0.N, _)

theorem final3 (c : Dev nD) : (dats m 0 c).arrAt 3 (cfgs 0).N
    = truncf .bf16 (UP (m ((c : Thread nD τ).loc main_arg0)) (m ((c : Thread nD τ).loc main_arg1))) bitsLt_bf16_f32 := by
  refine (dats m 0 c).arrAt_eq_of_covers 3 _ (by decide +kernel) fun t _ y => ?_
  blk_simp
  rw [after0_3]; frame_out
  pointwise [k0_pay3, k0_pay1, UP]
  blk_point [iblk, V, idx t]

theorem final4 (c : Dev nD) : (dats m 0 c).arrAt 4 (cfgs 0).N
    = truncf .bf16 (UP (m ((c : Thread nD τ).loc main_arg0)) (m ((c : Thread nD τ).loc main_arg2))) bitsLt_bf16_f32 := by
  refine (dats m 0 c).arrAt_eq_of_covers 4 _ (by decide +kernel) fun t _ y => ?_
  blk_simp
  rw [after0_4]; frame_out
  pointwise [k0_pay4, k0_pay2, UP]
  blk_point [iblk, V, idx t]

theorem final5 (c : Dev nD) : (dats m 0 c).arrAt 5 (cfgs 0).N
    = FF (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay5, k0_pay2, k0_pay1, UP, FF]
  rw [zero_sub]
  blk_point [iblk, V, idx t]

end Cert.Kernel11Ideal.Value

namespace Cert.Proof

theorem algebraic7 : Cert.algebraic_Kernel7Ideal_Reference7Ideal (hKernel7Ideal := Cert.Kernel7Ideal.Gen.facts)
    (hReference7Ideal := Cert.Reference7Ideal.Gen.facts) := fun m ρ m' ρ' _ hag =>
  ⟨_, (θ_run _ _ _).mono (fun _ h c => ⟨(h c).2.1.trans (Cert.Kernel7Ideal.Value.final m c), (h c).2.2⟩) (Cert.Kernel7Ideal.Value.run_blocks (F := Ideal) m ρ),
    (θ_run _ _ _).mono (fun _ h c => ⟨(h c).1.trans (by rw [(hag c).1, (hag c).2.1, (hag c).2.2.1]), (h c).2⟩) (Cert.Reference7Ideal.Value.run (F := Ideal) m' ρ')⟩

theorem algebraic11 : Cert.algebraic_Kernel11Ideal_Reference11Ideal (hKernel11Ideal := Cert.Kernel11Ideal.Gen.facts)
    (hReference11Ideal := Cert.Reference11Ideal.Gen.facts) := fun m ρ m' ρ' _ hag =>
  ⟨_, _, _, (θ_run _ _ _).mono (fun _ h c => ⟨(h c).1.trans (Cert.Kernel11Ideal.Value.final3 m c), (h c).2.1.trans (Cert.Kernel11Ideal.Value.final4 m c),
      (h c).2.2.1.trans (Cert.Kernel11Ideal.Value.final5 m c), (h c).2.2.2⟩) (Cert.Kernel11Ideal.Value.run_blocks (F := Ideal) m ρ),
    (θ_run _ _ _).mono (fun _ h c => ⟨(h c).1.trans (by rw [(hag c).1, (hag c).2.1]), (h c).2.1.trans (by rw [(hag c).1, (hag c).2.2]),
      (h c).2.2.1.trans (by rw [(hag c).1, (hag c).2.1, (hag c).2.2]), (h c).2.2.2⟩) (Cert.Reference11Ideal.Value.run (F := Ideal) m' ρ')⟩

end Cert.Proof

end
-- ==== Proof.Acc.lean ====
/- The products contracted in several passes: an accumulator set at a run's first point (with the residual's block, if there
   is one), added into at the others and written out at the last. -/
module

public import proofs.«01_k».proof.Defs
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Reference12Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Acc

/-- A run's accumulator at the point that writes it back: the run's parts, and what its first point added. -/
theorem run_sum {N : ℕ} {ι : Type*} (f : (n : ℕ) → n < N → ι → EReal) (J : ℕ) [NeZero J] (part r : Fin N → ι → EReal)
    (h0 : ∀ t : Fin N, t.val % J = 0 → ∀ i, f t.val t.isLt i = part t i + r t i)
    (hs : ∀ t : Fin N, ¬t.val % J = 0 → ∀ i,
      f t.val t.isLt i = f (t.val - 1) (Nat.lt_of_le_of_lt (Nat.sub_le _ _) t.isLt) i + part t i)
    (t : Fin N) (ht : t.val % J = J - 1) (i : ι) :
    f t.val t.isLt i = r ⟨J * (t.val / J) + (0 : Fin J).val, Pipeline.run_point_lt_of_flush t ht 0⟩ i
      + ∑ s : Fin J, part ⟨J * (t.val / J) + s.val, Pipeline.run_point_lt_of_flush t ht s⟩ i := by
  rw [Pipeline.eq_sum_fin_of_reset_step_apply_of_flush f J (fun _ => 0)
    (fun t i => (if t.val % J = 0 then r t i else 0) + part t i)
    (fun t h i => by rw [h0 t h, zero_add, if_pos h, add_comm])
    (fun t h i => by rw [hs t h, if_neg h, zero_add]) t ht i, zero_add, Finset.sum_add_distrib]
  congr 1
  rw [Finset.sum_eq_single (0 : Fin J)]
  · rw [if_pos (by simp)]
  · intro s _ hs0
    rw [if_neg]
    rw [Nat.mul_add_mod, Nat.mod_eq_of_lt s.isLt]
    exact fun h => hs0 (Fin.ext (h.trans (by simp)))
  · exact fun h => absurd (Finset.mem_univ _) h

end Cert.Acc

/-! ## The gradient of the input projection's input -/

namespace Cert.Reference4Ideal.Value
open Cert.Reference4Ideal Cert.Reference4Ideal.Gen

/-- `r` plus the gradient of `u` in `u @ w.T` at the cotangent `d`. -/
abbrev REF (d : FVec Ideal S2048x12800 .bf16) (w : FVec Ideal S12800x2048 .bf16) (r : FVec Ideal S2048x2048 .f32) : FVec Ideal S2048x2048 .f32 :=
  addf r (Host.dotGeneral dot_S2048x12800_S2048x12800_S2048x2048_1_1_0_0_n_n none (extf .f32 d bitsLt_bf16_f32)
    (transpose S2048x12800 [1, 0] (extf .f32 w bitsLt_bf16_f32) transposes_S12800x2048_S2048x12800_1_0))

end Cert.Reference4Ideal.Value

namespace Cert.Kernel4Ideal.Value
open Cert.Kernel4Ideal Cert.Kernel4Ideal.Gen
open Cert.Reference4Ideal.Value (REF)

variable (m : (ℓ : Loc nD τ sig) → Buf (Elt Ideal) ℓ)

theorem idx : ∀ t : Fin cfg0.N, win0_0.index t = ![t.val / 10, t.val % 5] ∧ win0_1.index t = ![t.val % 5, t.val / 5 % 2]
    ∧ win0_2.index t = ![t.val / 10, t.val / 5 % 2] ∧ win0_3.index t = ![t.val / 10, t.val / 5 % 2] :=
  (by decide +kernel : ∀ t : Fin grid0.N, _)

theorem first (x0 x1 r j) : k0_pay2 (F := Ideal) x0 x1 r j = k0_pay1 x0 x1 j + r j := by pointwise [k0_pay2]

theorem next (x0 x1 acc j) : k0_pay3 (F := Ideal) x0 x1 acc j = acc j + k0_pay1 x0 x1 j := by pointwise [k0_pay3]

theorem step (c : Dev nD) (t : Fin cfg0.N) (h : ¬t.val % 5 = 0) (y) : (outsAt0 m c t.val t.isLt).2 y
    = (outsAt0 m c (t.val - 1) (Nat.lt_of_le_of_lt (Nat.sub_le _ _) t.isLt)).2 y + k0_pay1 (iblk m c 0 t) (iblk m c 1 t) y := by
  by_cases h4 : t.val % 5 = 4
  · rw [outsAt0_C m c t h (by omega) h4]; frame_out; rw [next, read_unread_whole]
  · rw [outsAt0_B m c t h (by omega) h4]; frame_out; rw [next, read_unread_whole]

theorem out_eq (c : Dev nD) (t : Fin cfg0.N) (h : t.val % 5 = 4) (y) :
    (outsAt0 m c t.val t.isLt).1 y = (outsAt0 m c t.val t.isLt).2 y := by
  rw [step m c t (by omega), outsAt0_C m c t (by omega) (by omega) h]; frame_out; rw [next, read_unread_whole]

theorem sum_eq (c : Dev nD) (t : Fin cfg0.N) (h : t.val % 5 = 4) (y) : (outsAt0 m c t.val t.isLt).1 y
    = HAdd.hAdd (α := EReal) (β := EReal) (γ := EReal) (iblk m c 2 ⟨5 * (t.val / 5) + (0 : Fin 5).val, Pipeline.run_point_lt_of_flush t h 0⟩ y)
        (∑ s : Fin 5, k0_pay1 (iblk m c 0 ⟨5 * (t.val / 5) + s.val, Pipeline.run_point_lt_of_flush t h s⟩)
          (iblk m c 1 ⟨5 * (t.val / 5) + s.val, Pipeline.run_point_lt_of_flush t h s⟩) y) := by
  rw [out_eq m c t h]
  exact Cert.Acc.run_sum (fun n h => (outsAt0 m c n h).2) 5
    (fun t y => k0_pay1 (F := Ideal) (iblk m c 0 t) (iblk m c 1 t) y) (fun t y => iblk m c 2 t y)
    (fun t h y => by rw [outsAt0_A m c t h (by omega) (by omega)]; frame_out; rw [first])
    (fun t h y => step m c t h y) t h y

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hf' := (flush0_3 t).mp hf
  have hp := fun s => idx ⟨_, Pipeline.run_point_lt_of_flush t hf' s⟩
  rw [after0_3, sum_eq m c t hf']
  pointwise [k0_pay1, REF]
  refine congrArg₂ (fun a b : EReal => a + b) ?_ (Fin.sum_mul_add_congr fun s k hl => ?_)
  · have h0 := hp 0
    simp only [Fin.val_zero, add_zero] at h0
    blk_point [iblk, V, idx t, h0]
  · blk_point [iblk, V, idx t, hp s]

end Cert.Kernel4Ideal.Value

/-! ## The gradients of the feed-forward block's input: of one of its two widening products, and of the other onto it -/

namespace Cert.Reference5Ideal.Value
open Cert.Reference5Ideal Cert.Reference5Ideal.Gen

/-- The gradient of `v` in `v @ w.T` at the cotangent `d`. -/
abbrev REF (d : FVec Ideal S2048x5632 .bf16) (w : FVec Ideal S5632x2048 .bf16) : FVec Ideal S2048x2048 .f32 :=
  Host.dotGeneral dot_S2048x5632_S2048x5632_S2048x2048_1_1_0_0_n_n none (extf .f32 d bitsLt_bf16_f32)
    (transpose S2048x5632 [1, 0] (extf .f32 w bitsLt_bf16_f32) transposes_S5632x2048_S2048x5632_1_0)

end Cert.Reference5Ideal.Value

namespace Cert.Kernel5Ideal.Value
open Cert.Kernel5Ideal Cert.Kernel5Ideal.Gen
open Cert.Reference5Ideal.Value (REF)

variable (m : (ℓ : Loc nD τ sig) → Buf (Elt Ideal) ℓ)

theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

theorem first (x0 x1 j) : k0_pay2 (F := Ideal) x0 x1 j = k0_pay1 x0 x1 j := by pointwise [k0_pay2]

theorem next (x0 x1 acc j) : k0_pay3 (F := Ideal) x0 x1 acc j = acc j + k0_pay1 x0 x1 j := by pointwise [k0_pay3]

theorem step (c : Dev nD) (t : Fin cfg0.N) (h : ¬t.val % 2 = 0) (y) : (outsAt0 m c t.val t.isLt).2 y
    = (outsAt0 m c (t.val - 1) (Nat.lt_of_le_of_lt (Nat.sub_le _ _) t.isLt)).2 y + k0_pay1 (iblk m c 0 t) (iblk m c 1 t) y := by
  rw [outsAt0_B m c t h (by omega) (by omega)]; frame_out; rw [next, read_unread_whole]

theorem out_eq (c : Dev nD) (t : Fin cfg0.N) (h : t.val % 2 = 1) (y) :
    (outsAt0 m c t.val t.isLt).1 y = (outsAt0 m c t.val t.isLt).2 y := by
  rw [step m c t (by omega), outsAt0_B m c t (by omega) h h]; frame_out; rw [next, read_unread_whole]

theorem sum_eq (c : Dev nD) (t : Fin cfg0.N) (h : t.val % 2 = 1) (y) : (outsAt0 m c t.val t.isLt).1 y
    = ∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) y := by
  rw [out_eq m c t h]
  exact (Cert.Acc.run_sum (fun n h => (outsAt0 m c n h).2) 2
    (fun t y => k0_pay1 (F := Ideal) (iblk m c 0 t) (iblk m c 1 t) y) (fun _ _ => 0)
    (fun t h y => by rw [outsAt0_A m c t h (by omega) (by omega)]; frame_out; rw [first, add_zero])
    (fun t h y => step m c t h y) t h y).trans (zero_add _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hf' := (flush0_2 t).mp hf
  have hp := fun s => idx ⟨_, Pipeline.run_point_lt_of_flush t hf' s⟩
  rw [after0_2, sum_eq m c t hf']
  pointwise [k0_pay1, REF]
  refine Fin.sum_mul_add_congr fun s k hl => ?_
  blk_point [iblk, V, idx t, hp s]

end Cert.Kernel5Ideal.Value

namespace Cert.Reference6Ideal.Value
open Cert.Reference6Ideal Cert.Reference6Ideal.Gen

/-- `r` plus the gradient of `v` in `v @ w.T` at the cotangent `d`. -/
abbrev REF (d : FVec Ideal S2048x5632 .bf16) (w : FVec Ideal S5632x2048 .bf16) (r : FVec Ideal S2048x2048 .f32) : FVec Ideal S2048x2048 .f32 :=
  addf r (Host.dotGeneral dot_S2048x5632_S2048x5632_S2048x2048_1_1_0_0_n_n none (extf .f32 d bitsLt_bf16_f32)
    (transpose S2048x5632 [1, 0] (extf .f32 w bitsLt_bf16_f32) transposes_S5632x2048_S2048x5632_1_0))

end Cert.Reference6Ideal.Value

namespace Cert.Kernel6Ideal.Value
open Cert.Kernel6Ideal Cert.Kernel6Ideal.Gen
open Cert.Reference6Ideal.Value (REF)

variable (m : (ℓ : Loc nD τ sig) → Buf (Elt Ideal) ℓ)

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

theorem first (x0 x1 r j) : k0_pay2 (F := Ideal) x0 x1 r j = k0_pay1 x0 x1 j + r j := by pointwise [k0_pay2]

theorem next (x0 x1 acc j) : k0_pay3 (F := Ideal) x0 x1 acc j = acc j + k0_pay1 x0 x1 j := by pointwise [k0_pay3]

theorem step (c : Dev nD) (t : Fin cfg0.N) (h : ¬t.val % 2 = 0) (y) : (outsAt0 m c t.val t.isLt).2 y
    = (outsAt0 m c (t.val - 1) (Nat.lt_of_le_of_lt (Nat.sub_le _ _) t.isLt)).2 y + k0_pay1 (iblk m c 0 t) (iblk m c 1 t) y := by
  rw [outsAt0_B m c t h (by omega) (by omega)]; frame_out; rw [next, read_unread_whole]

theorem out_eq (c : Dev nD) (t : Fin cfg0.N) (h : t.val % 2 = 1) (y) :
    (outsAt0 m c t.val t.isLt).1 y = (outsAt0 m c t.val t.isLt).2 y := by
  rw [step m c t (by omega), outsAt0_B m c t (by omega) h h]; frame_out; rw [next, read_unread_whole]

theorem sum_eq (c : Dev nD) (t : Fin cfg0.N) (h : t.val % 2 = 1) (y) : (outsAt0 m c t.val t.isLt).1 y
    = HAdd.hAdd (α := EReal) (β := EReal) (γ := EReal) (iblk m c 2 ⟨2 * (t.val / 2) + (0 : Fin 2).val, Pipeline.run_point_lt_of_flush t h 0⟩ y)
        (∑ s : Fin 2, k0_pay1 (iblk m c 0 ⟨2 * (t.val / 2) + s.val, Pipeline.run_point_lt_of_flush t h s⟩)
          (iblk m c 1 ⟨2 * (t.val / 2) + s.val, Pipeline.run_point_lt_of_flush t h s⟩) y) := by
  rw [out_eq m c t h]
  exact Cert.Acc.run_sum (fun n h => (outsAt0 m c n h).2) 2
    (fun t y => k0_pay1 (F := Ideal) (iblk m c 0 t) (iblk m c 1 t) y) (fun t y => iblk m c 2 t y)
    (fun t h y => by rw [outsAt0_A m c t h (by omega) (by omega)]; frame_out; rw [first])
    (fun t h y => step m c t h y) t h y

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hf' := (flush0_3 t).mp hf
  have hp := fun s => idx ⟨_, Pipeline.run_point_lt_of_flush t hf' s⟩
  rw [after0_3, sum_eq m c t hf']
  pointwise [k0_pay1, REF]
  refine congrArg₂ (fun a b : EReal => a + b) ?_ (Fin.sum_mul_add_congr fun s k hl => ?_)
  · have h0 := hp 0
    simp only [Fin.val_zero, add_zero] at h0
    blk_point [iblk, V, idx t, h0]
  · blk_point [iblk, V, idx t, hp s]

end Cert.Kernel6Ideal.Value

/-! ## The feed-forward block's narrowing product, onto the residual stream -/

namespace Cert.Reference12Ideal.Value
open Cert.Reference12Ideal Cert.Reference12Ideal.Gen

/-- `h + x @ w`. -/
abbrev REF (x : FVec Ideal S2048x5632 .bf16) (w : FVec Ideal S5632x2048 .bf16) (h : FVec Ideal S2048x2048 .f32) : FVec Ideal S2048x2048 .f32 :=
  addf h (Host.dotGeneral dot_S2048x5632_S5632x2048_S2048x2048_1_0_0_1_n_n none (extf .f32 x bitsLt_bf16_f32) (extf .f32 w bitsLt_bf16_f32))

end Cert.Reference12Ideal.Value

/-- The same call serves both: a transposed weight's gradient is the plain product. -/
theorem Cert.Kernel6Ideal.Value.plain (x : FVec Ideal Cert.Kernel6Ideal.S2048x5632 .bf16) (w : FVec Ideal Cert.Kernel6Ideal.S5632x2048 .bf16)
    (h : FVec Ideal Cert.Kernel6Ideal.S2048x2048 .f32) : Cert.Reference6Ideal.Value.REF x w h = Cert.Reference12Ideal.Value.REF x w h := by
  funext j
  pointwise [Cert.Reference6Ideal.Value.REF, Cert.Reference12Ideal.Value.REF]

namespace Cert.Proof

theorem algebraic4 : Cert.algebraic_Kernel4Ideal_Reference4Ideal (hKernel4Ideal := Cert.Kernel4Ideal.Gen.facts)
    (hReference4Ideal := Cert.Reference4Ideal.Gen.facts) := fun m ρ m' ρ' _ hag =>
  ⟨_, (θ_run _ _ _).mono (fun _ h c => ⟨(h c).1.trans (Cert.Kernel4Ideal.Value.final m c), (h c).2⟩) (Cert.Kernel4Ideal.Value.run_blocks (F := Ideal) m ρ),
    (θ_run _ _ _).mono (fun _ h c => ⟨(h c).1.trans (by rw [(hag c).1, (hag c).2.1, (hag c).2.2]), (h c).2⟩) (Cert.Reference4Ideal.Value.run (F := Ideal) m' ρ')⟩

theorem algebraic5 : Cert.algebraic_Kernel5Ideal_Reference5Ideal (hKernel5Ideal := Cert.Kernel5Ideal.Gen.facts)
    (hReference5Ideal := Cert.Reference5Ideal.Gen.facts) := fun m ρ m' ρ' _ hag =>
  ⟨_, (θ_run _ _ _).mono (fun _ h c => ⟨(h c).1.trans (Cert.Kernel5Ideal.Value.final m c), (h c).2⟩) (Cert.Kernel5Ideal.Value.run_blocks (F := Ideal) m ρ),
    (θ_run _ _ _).mono (fun _ h c => ⟨(h c).1.trans (by rw [(hag c).1, (hag c).2]), (h c).2⟩) (Cert.Reference5Ideal.Value.run (F := Ideal) m' ρ')⟩

theorem algebraic6 : Cert.algebraic_Kernel6Ideal_Reference6Ideal (hKernel6Ideal := Cert.Kernel6Ideal.Gen.facts)
    (hReference6Ideal := Cert.Reference6Ideal.Gen.facts) := fun m ρ m' ρ' _ hag =>
  ⟨_, (θ_run _ _ _).mono (fun _ h c => ⟨(h c).1.trans (Cert.Kernel6Ideal.Value.final m c), (h c).2⟩) (Cert.Kernel6Ideal.Value.run_blocks (F := Ideal) m ρ),
    (θ_run _ _ _).mono (fun _ h c => ⟨(h c).1.trans (by rw [(hag c).1, (hag c).2.1, (hag c).2.2]), (h c).2⟩) (Cert.Reference6Ideal.Value.run (F := Ideal) m' ρ')⟩

theorem algebraic12 : Cert.algebraic_Kernel6Ideal_Reference12Ideal (hKernel6Ideal := Cert.Kernel6Ideal.Gen.facts)
    (hReference12Ideal := Cert.Reference12Ideal.Gen.facts) := fun m ρ m' ρ' _ hag =>
  ⟨_, (θ_run _ _ _).mono (fun _ h c => ⟨(h c).1.trans ((Cert.Kernel6Ideal.Value.final m c).trans (Cert.Kernel6Ideal.Value.plain _ _ _)), (h c).2⟩)
      (Cert.Kernel6Ideal.Value.run_blocks (F := Ideal) m ρ),
    (θ_run _ _ _).mono (fun _ h c => ⟨(h c).1.trans (by rw [(hag c).1, (hag c).2.1, (hag c).2.2]), (h c).2⟩) (Cert.Reference12Ideal.Value.run (F := Ideal) m' ρ')⟩

end Cert.Proof

end
-- ==== Proof.Small.lean ====
/- The low-rank products of the gate's projection, and the norm before the feed-forward block. -/
module

public import proofs.«01_k».proof.Defs
public import proofs.«01_k».proof.Proof.Gen.Kernel15Ideal.Value
public import proofs.«01_k».proof.Proof.Gen.Reference15Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The norm -/

namespace Cert.Reference15Ideal.Value
open Cert.Reference15Ideal Cert.Reference15Ideal.Gen

/-- `x * rsqrt(mean(x²) + 1e-6) * w`, row by row. -/
abbrev REF (x : FVec Ideal S2048x2048 .f32) (w : FVec Ideal S1x2048 .f32) : FVec Ideal S2048x2048 .bf16 :=
  truncf .bf16 (mulf (mulf x (broadcastInDim S2048x2048 ![0, 1] bcast_S2048x1_S2048x2048_0_1 (Host.rsqrt (addf
    (Host.divf (broadcastInDim S2048x1 ![0] bcast_S2048_S2048x1_0 (Host.reduceAdd (mulf x x) (constant S_ .f32 0x00000000#32)
      reducesTo_S2048x2048_S2048_d1 h_S_)) (broadcastInDim S2048x1 ![] bcast_S_S2048x1 (constant S_ .f32 0x45000000#32)))
    (broadcastInDim S2048x1 ![] bcast_S_S2048x1 (constant S_ .f32 0x358637BD#32))))))
    (broadcastInDim S2048x2048 ![0, 1] bcast_S1x2048_S2048x2048_0_1 w)) bitsLt_bf16_f32

end Cert.Reference15Ideal.Value

namespace Cert.Kernel15Ideal.Value
open Cert.Kernel15Ideal Cert.Kernel15Ideal.Gen
open Cert.Reference15Ideal.Value (REF)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.Kernel15Ideal.Value

/-! ## The projection -/

namespace Cert.Reference17Ideal.Value
open Cert.Reference17Ideal Cert.Reference17Ideal.Gen

/-- `u @ w.T`. -/
abbrev REF (u : FVec Ideal S2048x2048 .bf16) (w : FVec Ideal S128x2048 .bf16) : FVec Ideal S2048x128 .f32 :=
  Host.dotGeneral dot_S2048x2048_S2048x128_S2048x128_1_0_0_1_n_n none (extf .f32 u bitsLt_bf16_f32)
    (transpose S2048x128 [1, 0] (extf .f32 w bitsLt_bf16_f32) transposes_S128x2048_S2048x128_1_0)

end Cert.Reference17Ideal.Value

namespace Cert.Kernel17Ideal.Value
open Cert.Kernel17Ideal Cert.Kernel17Ideal.Gen
open Cert.Reference17Ideal.Value (REF)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.Kernel17Ideal.Value

/-! ## The gradient of its weight -/

namespace Cert.Reference18Ideal.Value
open Cert.Reference18Ideal Cert.Reference18Ideal.Gen

/-- The gradient of `w` in `u @ w.T` at the cotangent `d`. -/
abbrev REF (d : FVec Ideal S2048x128 .bf16) (u : FVec Ideal S2048x2048 .bf16) : FVec Ideal S128x2048 .bf16 :=
  truncf .bf16 (transpose S128x2048 [1, 0] (transpose S2048x128 [1, 0]
    (Host.dotGeneral dot_S2048x128_S2048x2048_S128x2048_0_0_1_1_n_n none (extf .f32 d bitsLt_bf16_f32) (extf .f32 u bitsLt_bf16_f32))
    transposes_S128x2048_S2048x128_1_0) transposes_S2048x128_S128x2048_1_0) bitsLt_bf16_f32

end Cert.Reference18Ideal.Value

namespace Cert.Kernel18Ideal.Value
open Cert.Kernel18Ideal Cert.Kernel18Ideal.Gen
open Cert.Reference18Ideal.Value (REF)

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.Kernel18Ideal.Value

/-! ## The gradient of its input -/

namespace Cert.Reference19Ideal.Value
open Cert.Reference19Ideal Cert.Reference19Ideal.Gen

/-- The gradient of `u` in `u @ w.T` at the cotangent `d`. -/
abbrev REF (d : FVec Ideal S2048x128 .bf16) (w : FVec Ideal S128x2048 .bf16) : FVec Ideal S2048x2048 .f32 :=
  Host.dotGeneral dot_S2048x128_S2048x128_S2048x2048_1_1_0_0_n_n none (extf .f32 d bitsLt_bf16_f32)
    (transpose S2048x128 [1, 0] (extf .f32 w bitsLt_bf16_f32) transposes_S128x2048_S2048x128_1_0)

end Cert.Reference19Ideal.Value

namespace Cert.Kernel19Ideal.Value
open Cert.Kernel19Ideal Cert.Kernel19Ideal.Gen
open Cert.Reference19Ideal.Value (REF)

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.Kernel19Ideal.Value

namespace Cert.Proof

theorem algebraic15 : Cert.algebraic_Kernel15Ideal_Reference15Ideal (hKernel15Ideal := Cert.Kernel15Ideal.Gen.facts)
    (hReference15Ideal := Cert.Reference15Ideal.Gen.facts) := fun m ρ m' ρ' _ hag =>
  ⟨_, (θ_run _ _ _).mono (fun _ h c => ⟨(h c).1.trans (Cert.Kernel15Ideal.Value.final m c), (h c).2⟩) (Cert.Kernel15Ideal.Value.run_blocks (F := Ideal) m ρ),
    (θ_run _ _ _).mono (fun _ h c => ⟨(h c).1.trans (by rw [(hag c).1, (hag c).2]), (h c).2⟩) (Cert.Reference15Ideal.Value.run (F := Ideal) m' ρ')⟩

theorem algebraic17 : Cert.algebraic_Kernel17Ideal_Reference17Ideal (hKernel17Ideal := Cert.Kernel17Ideal.Gen.facts)
    (hReference17Ideal := Cert.Reference17Ideal.Gen.facts) := fun m ρ m' ρ' _ hag =>
  ⟨_, (θ_run _ _ _).mono (fun _ h c => ⟨(h c).1.trans (Cert.Kernel17Ideal.Value.final m c), (h c).2⟩) (Cert.Kernel17Ideal.Value.run_blocks (F := Ideal) m ρ),
    (θ_run _ _ _).mono (fun _ h c => ⟨(h c).1.trans (by rw [(hag c).1, (hag c).2]), (h c).2⟩) (Cert.Reference17Ideal.Value.run (F := Ideal) m' ρ')⟩

theorem algebraic18 : Cert.algebraic_Kernel18Ideal_Reference18Ideal (hKernel18Ideal := Cert.Kernel18Ideal.Gen.facts)
    (hReference18Ideal := Cert.Reference18Ideal.Gen.facts) := fun m ρ m' ρ' _ hag =>
  ⟨_, (θ_run _ _ _).mono (fun _ h c => ⟨(h c).1.trans (Cert.Kernel18Ideal.Value.final m c), (h c).2⟩) (Cert.Kernel18Ideal.Value.run_blocks (F := Ideal) m ρ),
    (θ_run _ _ _).mono (fun _ h c => ⟨(h c).1.trans (by rw [(hag c).1, (hag c).2]), (h c).2⟩) (Cert.Reference18Ideal.Value.run (F := Ideal) m' ρ')⟩

theorem algebraic19 : Cert.algebraic_Kernel19Ideal_Reference19Ideal (hKernel19Ideal := Cert.Kernel19Ideal.Gen.facts)
    (hReference19Ideal := Cert.Reference19Ideal.Gen.facts) := fun m ρ m' ρ' _ hag =>
  ⟨_, (θ_run _ _ _).mono (fun _ h c => ⟨(h c).1.trans (Cert.Kernel19Ideal.Value.final m c), (h c).2⟩) (Cert.Kernel19Ideal.Value.run_blocks (F := Ideal) m ρ),
    (θ_run _ _ _).mono (fun _ h c => ⟨(h c).1.trans (by rw [(hag c).1, (hag c).2]), (h c).2⟩) (Cert.Reference19Ideal.Value.run (F := Ideal) m' ρ')⟩

end Cert.Proof

end
-- ==== Proof.Norm.lean ====
/- The norm's backward call: the input's gradient, added to the residual's, and the scale's, accumulated over the row blocks. -/
module

public import proofs.«01_k».proof.Defs
public import proofs.«01_k».proof.Proof.Gen.Kernel16Ideal.Value
public import proofs.«01_k».proof.Proof.Gen.Reference16Ideal.Run
public import proofs.«01_k».proof.Proof.Acc
public import Idealize.ShloMosaic.Lib.IdealHost
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormEntry

/-- The three constants, as reals. -/
theorem c2048 : Ideal.ofBits .f32 0x45000000#32 = ((2048 : ℝ) : EReal) := by
  simp [Ideal.ofBits, Ideal.ieee, -EReal.coe_mul]; norm_num

theorem chalf : Ideal.ofBits .f32 0xBF000000#32 = ((-(1 / 2) : ℝ) : EReal) := by
  simp [Ideal.ofBits, Ideal.ieee, -EReal.coe_mul, -EReal.coe_neg]; norm_num

theorem ceps : ∃ e : ℝ, 0 < e ∧ Ideal.ofBits .f32 0x358637BD#32 = (e : EReal) :=
  ⟨8796093 / 8796093022208, by norm_num, by simp [Ideal.ofBits, Ideal.ieee, -EReal.coe_mul]; norm_num⟩

/-- Twice a half, at an entry that need not be finite. -/
theorem double (u : EReal) (p : ℝ) : u * ((-(p / 2) : ℝ) : EReal) + u * ((-(p / 2) : ℝ) : EReal) = -(u * (p : EReal)) := by
  induction u with
  | coe s => norm_cast; ring
  | top =>
    rcases lt_trichotomy p 0 with h | rfl | h
    · rw [EReal.top_mul_coe_of_pos (by linarith), EReal.top_mul_coe_of_neg h]; rfl
    · simp
    · rw [EReal.top_mul_coe_of_neg (by linarith), EReal.top_mul_coe_of_pos h]; rfl
  | bot =>
    rcases lt_trichotomy p 0 with h | rfl | h
    · rw [EReal.bot_mul_coe_of_pos (by linarith), EReal.bot_mul_coe_of_neg h]; rfl
    · simp
    · rw [EReal.bot_mul_coe_of_neg (by linarith), EReal.bot_mul_coe_of_pos h]; rfl

/-- The two forms of a norm's backward, at an entry: the mean of squares' `rsqrt` cubed, and its derivative's quotient. -/
theorem entry {n : ℕ} {N : EReal} {d : ℝ} (hd : 0 < d) (hN : N = (d : EReal)) (h gs : Fin n → EReal) (x g res : EReal) :
    let a := Ideal.div (∑ k, h k * h k) N + Ideal.ofBits .f32 0x358637BD#32
    let X := Ideal.div ((∑ k, h k * gs k) * (Ideal.ofBits .f32 0xBF000000#32 * Ideal.div (Ideal.rsqrt a) a)) N
    res + Ideal.rsqrt a * g - x * (Ideal.rsqrt a * Ideal.rsqrt a * Ideal.rsqrt a * Ideal.div (∑ k, gs k * h k) N)
      = res + (g * Ideal.rsqrt a + x * X + X * x) := by
  intro a X
  have ha : a = ⊤ ∨ ∃ r : ℝ, 0 < r ∧ a = (r : EReal) := by
    obtain ⟨e, he, hb⟩ := ceps
    have hs : (0 : EReal) ≤ ∑ k, h k * h k := Finset.sum_nonneg fun k _ => by
      rcases le_total 0 (h k) with h0 | h0
      · exact mul_nonneg h0 h0
      · rw [← neg_mul_neg]; exact mul_nonneg (EReal.neg_nonneg.mpr h0) (EReal.neg_nonneg.mpr h0)
    show Ideal.div (∑ k, h k * h k) N + Ideal.ofBits .f32 0x358637BD#32 = ⊤ ∨ ∃ r : ℝ, 0 < r ∧ Ideal.div (∑ k, h k * h k) N + Ideal.ofBits .f32 0x358637BD#32 = (r : EReal)
    rw [hN, hb, Ideal.div_coe hd.ne']
    generalize ∑ k, h k * h k = s at hs
    induction s with
    | bot => simp at hs
    | coe s => exact .inr ⟨s * (1 / d) + e, by have := EReal.coe_nonneg.mp hs; positivity, by norm_cast⟩
    | top => exact .inl (by rw [EReal.top_mul_coe_of_pos (by positivity)]; rfl)
  obtain ⟨p, hr, hq⟩ : ∃ p : ℝ, Ideal.rsqrt a * Ideal.rsqrt a * Ideal.rsqrt a = (p : EReal) ∧ Ideal.div (Ideal.rsqrt a) a = (p : EReal) := by
    rcases ha with ha | ⟨r, hr, ha⟩
    · exact ⟨0, by simp [ha], by simp [ha, Ideal.div]⟩
    · refine ⟨(Real.sqrt r)⁻¹ * (Real.sqrt r)⁻¹ * (Real.sqrt r)⁻¹, ?_, ?_⟩
      · rw [ha, Ideal.rsqrt_coe, if_neg hr.not_gt, if_neg hr.ne']; norm_cast
      · rw [ha, Ideal.rsqrt_coe, if_neg hr.not_gt, if_neg hr.ne', Ideal.div_coe hr.ne']
        norm_cast
        rw [mul_assoc, ← mul_inv, Real.mul_self_sqrt hr.le, one_div]
  have hX : X = (∑ k, gs k * h k) * ((-(p / d / 2) : ℝ) : EReal) := by
    show Ideal.div ((∑ k, h k * gs k) * (Ideal.ofBits .f32 0xBF000000#32 * Ideal.div (Ideal.rsqrt a) a)) N = _
    rw [hq, hN, chalf, Ideal.div_coe hd.ne', mul_assoc]
    simp only [mul_comm (h _)]
    norm_cast
    congr 2
    ring
  rw [hr, hX, hN, Ideal.div_coe hd.ne']
  generalize ∑ k, gs k * h k = S
  have e := double (x * S) (p / d)
  have e' : (p : EReal) * (S * ((1 / d : ℝ) : EReal)) = S * ((p / d : ℝ) : EReal) := by
    rw [mul_left_comm]; norm_cast; rw [mul_one_div]
  rw [mul_assoc x, mul_assoc x] at e
  rw [add_assoc (g * _), mul_comm _ x, e, e', sub_eq_add_neg, add_assoc, mul_comm g]

end Cert.NormEntry

namespace Cert.Reference16Ideal.Value
open Cert.Reference16Ideal Cert.Reference16Ideal.Gen

/-- The mean of a row's squares, plus `1e-6`. -/
abbrev MS (h : FVec Ideal S2048x2048 .f32) : FVec Ideal S2048x1 .f32 :=
  addf (Host.divf (broadcastInDim S2048x1 ![0] bcast_S2048_S2048x1_0 (Host.reduceAdd (mulf h h) (constant S_ .f32 0x00000000#32)
    reducesTo_S2048x2048_S2048_d1 h_S_)) (broadcastInDim S2048x1 ![] bcast_S_S2048x1 (constant S_ .f32 0x45000000#32)))
    (broadcastInDim S2048x1 ![] bcast_S_S2048x1 (constant S_ .f32 0x358637BD#32))

/-- The cotangent times the scale. -/
abbrev G (dy : FVec Ideal S2048x2048 .f32) (w : FVec Ideal S1x2048 .f32) : FVec Ideal S2048x2048 .f32 :=
  mulf dy (broadcastInDim S2048x2048 ![0, 1] bcast_S1x2048_S2048x2048_0_1 w)

/-- Half the mean of squares' cotangent, per entry of the row. -/
abbrev X (dy h : FVec Ideal S2048x2048 .f32) (w : FVec Ideal S1x2048 .f32) : FVec Ideal S2048 .f32 :=
  Host.reduceAdd (Host.divf (mulf (shapeCast _ (Host.reduceAdd (mulf h (G dy w)) (constant S_ .f32 0x00000000#32)
    reducesTo_S2048x2048_S2048_d1 h_S_) shapeCasts_S2048_S2048x1) (mulf (broadcastInDim S2048x1 ![] bcast_S_S2048x1
    (constant S_ .f32 0xBF000000#32)) (Host.divf (Host.rsqrt (MS h)) (MS h)))) (broadcastInDim S2048x1 ![] bcast_S_S2048x1
    (constant S_ .f32 0x45000000#32))) (constant S_ .f32 0x00000000#32) reducesTo_S2048x1_S2048_d1 h_S_

/-- The residual's cotangent plus the input's. -/
abbrev DH (dy h : FVec Ideal S2048x2048 .f32) (w : FVec Ideal S1x2048 .f32) (res : FVec Ideal S2048x2048 .f32) : FVec Ideal S2048x2048 .f32 :=
  addf res (addf (addf (mulf (G dy w) (broadcastInDim S2048x2048 ![0, 1] bcast_S2048x1_S2048x2048_0_1 (Host.rsqrt (MS h))))
    (mulf h (broadcastInDim S2048x2048 ![0] bcast_S2048_S2048x2048_0 (X dy h w))))
    (mulf (broadcastInDim S2048x2048 ![0] bcast_S2048_S2048x2048_0 (X dy h w)) h))

/-- The scale's cotangent. -/
abbrev DW (dy h : FVec Ideal S2048x2048 .f32) : FVec Ideal S1x2048 .f32 :=
  shapeCast _ (Host.reduceAdd (mulf (mulf h (broadcastInDim S2048x2048 ![0, 1] bcast_S2048x1_S2048x2048_0_1 (Host.rsqrt (MS h)))) dy)
    (constant S_ .f32 0x00000000#32) reducesTo_S2048x2048_S2048_d0 h_S_) shapeCasts_S2048_S1x2048

end Cert.Reference16Ideal.Value

namespace Cert.Kernel16Ideal.Value
open Cert.Kernel16Ideal Cert.Kernel16Ideal.Gen
open Cert.Reference16Ideal.Value (MS G X DH DW)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

theorem outs (c : Dev nD) (t : Fin cfg0.N) :
    (outsAt0 m c t.val t.isLt).1 = k0_pay3 (iblk m c 1 t) (iblk m c 0 t) (iblk m c 2 t) (iblk m c 3 t)
      ∧ (outsAt0 m c t.val t.isLt).2.1 = k0_pay4 (iblk m c 1 t) (iblk m c 0 t) (iblk m c 2 t) (iblk m c 3 t) := by
  have := lt_of_lt_of_eq t.isLt (show cfg0.N = 8 from N_0)
  by_cases h : t.val % 8 = 0
  · rw [outsAt0_A m c t h (by omega)]; constructor <;> frame_out
  · rw [outsAt0_B m c t h (by omega)]; constructor <;> frame_out

theorem narrow (x0 x1 x2 x3 j) : k0_pay4 (F := Ideal) x0 x1 x2 x3 j = k0_pay3 x0 x1 x2 x3 j := by pointwise [k0_pay4]

theorem next (part acc j) : k0_pay1 (F := Ideal) part acc j = acc j + part j := by pointwise [k0_pay1]

/-- A written block, at an entry. -/
theorem value (c : Dev nD) (t : Fin cfg0.N) (y : (win0_4.xblock (grid0.coords t)).Idx) :
    k0_pay3 (iblk m c 1 t) (iblk m c 0 t) (iblk m c 2 t) (iblk m c 3 t) y = DH (m ((c : Thread nD τ).loc main_arg0))
      (m ((c : Thread nD τ).loc main_arg1)) (m ((c : Thread nD τ).loc main_arg2)) (m ((c : Thread nD τ).loc main_arg3))
      ((win0_4.blk t).view.emb y) := by
  pointwise [k0_pay3, k0_pay2, MS, G, X, DH]
  refine (Cert.NormEntry.entry (by norm_num) Cert.NormEntry.c2048 (fun x => iblk m c 1 t (ix2 (y 0) x))
    (fun x => HMul.hMul (α := EReal) (β := EReal) (γ := EReal) (iblk m c 0 t (ix2 (y 0) x)) (iblk m c 2 t (ix2 0 x)))
    (iblk m c 1 t y) (HMul.hMul (α := EReal) (β := EReal) (γ := EReal) (iblk m c 0 t y) (iblk m c 2 t (ix2 0 (y 1))))
    (iblk m c 3 t y)).trans ?_
  simp only [Finset.univ_unique, Finset.sum_singleton]
  blk_point [iblk, V, idx t]

theorem final4 (c : Dev nD) : (dats m 0 c).arrAt 4 (cfgs 0).N = DH (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, (outs m c t).1]
  exact value m c t y

theorem final5 (c : Dev nD) : (dats m 0 c).arrAt 5 (cfgs 0).N = truncf .bf16 (DH (m ((c : Thread nD τ).loc main_arg0))
    (m ((c : Thread nD τ).loc main_arg1)) (m ((c : Thread nD τ).loc main_arg2)) (m ((c : Thread nD τ).loc main_arg3))) bitsLt_bf16_f32 := by
  refine (dats m 0 c).arrAt_eq_of_covers 5 _ (by decide +kernel) fun t _ y => ?_
  blk_simp
  rw [after0_5, (outs m c t).2, narrow]
  exact value m c t y

theorem sum_eq (c : Dev nD) (t : Fin cfg0.N) (h : t.val % 8 = 7) (y) : (outsAt0 m c t.val t.isLt).2.2 y
    = ∑ s : Fin 8, k0_pay5 (iblk m c 1 ⟨8 * (t.val / 8) + s.val, Pipeline.run_point_lt_of_flush t h s⟩)
          (iblk m c 0 ⟨8 * (t.val / 8) + s.val, Pipeline.run_point_lt_of_flush t h s⟩) y :=
  (Cert.Acc.run_sum (fun n h => (outsAt0 m c n h).2.2) 8
    (fun t y => k0_pay5 (F := Ideal) (iblk m c 1 t) (iblk m c 0 t) y) (fun _ _ => 0)
    (fun t h y => by
      have := lt_of_lt_of_eq t.isLt (show cfg0.N = 8 from N_0)
      rw [outsAt0_A m c t h (by omega)]; frame_out; rw [add_zero])
    (fun t h y => by rw [outsAt0_B m c t h (by omega)]; frame_out; rw [next]) t h y).trans (zero_add _)

theorem final6 (c : Dev nD) : (dats m 0 c).arrAt 6 (cfgs 0).N = DW (m ((c : Thread nD τ).loc main_arg0))
    (m ((c : Thread nD τ).loc main_arg1)) := by
  refine (dats m 0 c).arrAt_eq_of_covers 6 _ (by decide +kernel) fun t hf y => ?_
  blk_simp
  have hf' := (flush0_6 t).mp hf
  have hp := fun s => idx ⟨_, Pipeline.run_point_lt_of_flush t hf' s⟩
  rw [after0_6, sum_eq m c t hf']
  pointwise [k0_pay5, k0_pay2, MS, DW]
  refine Fin.sum_mul_add_congr fun s k hl => ?_
  rw [mul_assoc, mul_comm]
  blk_point [iblk, V, idx t, hp s]

end Cert.Kernel16Ideal.Value

namespace Cert.Proof

theorem algebraic16 : Cert.algebraic_Kernel16Ideal_Reference16Ideal (hKernel16Ideal := Cert.Kernel16Ideal.Gen.facts)
    (hReference16Ideal := Cert.Reference16Ideal.Gen.facts) := fun m ρ m' ρ' _ hag =>
  ⟨_, _, _, (θ_run _ _ _).mono (fun _ h c => ⟨(h c).1.trans (Cert.Kernel16Ideal.Value.final4 m c),
      (h c).2.1.trans (Cert.Kernel16Ideal.Value.final5 m c), (h c).2.2.1.trans (Cert.Kernel16Ideal.Value.final6 m c), (h c).2.2.2⟩)
      (Cert.Kernel16Ideal.Value.run_blocks (F := Ideal) m ρ),
    (θ_run _ _ _).mono (fun _ h c => ⟨(h c).1.trans (by rw [(hag c).1, (hag c).2.1, (hag c).2.2.1, (hag c).2.2.2]),
      (h c).2.1.trans (by rw [(hag c).1, (hag c).2.1, (hag c).2.2.1, (hag c).2.2.2]),
      (h c).2.2.1.trans (by rw [(hag c).1, (hag c).2.1]), (h c).2.2.2⟩) (Cert.Reference16Ideal.Value.run (F := Ideal) m' ρ')⟩

end Cert.Proof

end
-- ==== Proof.Gate.lean ====
/- The gradient of the feed-forward block's gate, through `silu`. -/
module

public import proofs.«01_k».proof.Defs
public import proofs.«01_k».proof.Proof.Gen.Kernel14Ideal.Value
public import proofs.«01_k».proof.Proof.Gen.Reference14Ideal.Run
public import proofs.«01_k».proof.Proof.Gen.Pre_finite14
public import Idealize.ShloMosaic.Lib.IdealHost
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Gate

/-- The two forms of `silu`'s derivative, at a finite cotangent. -/
theorem entry (ct a : EReal) (h : ∃ c : ℝ, ct = (c : EReal)) :
    ct * (Ideal.div 1 (1 + Ideal.exp (0 - a)) * (1 + a * (1 - Ideal.div 1 (1 + Ideal.exp (0 - a)))))
      = ct * Ideal.div 1 (1 + Ideal.exp (-a)) + a * ct * (Ideal.div 1 (1 + Ideal.exp (-a)) * (1 - Ideal.div 1 (1 + Ideal.exp (-a)))) := by
  obtain ⟨c, rfl⟩ := h
  rw [zero_sub]
  have e1 : Ideal.div 1 1 = 1 := by simp [Ideal.div]
  have e0 : Ideal.div 1 ⊤ = 0 := by simp [Ideal.div]
  have e : (1 : EReal) - 1 = 0 := by rw [← EReal.coe_one, ← EReal.coe_sub, sub_self, EReal.coe_zero]
  induction a with
  | bot =>
    have et : (1 : EReal) + ⊤ = ⊤ := rfl
    simp [et, e0]
  | top => simp [e1, e]
  | coe a =>
    have hp : (1 : ℝ) + Real.exp (-a) ≠ 0 := by positivity
    have hs : Ideal.div 1 (1 + Ideal.exp (-(a : EReal))) = ((1 / (1 + Real.exp (-a)) : ℝ) : EReal) := by
      rw [← EReal.coe_neg, Ideal.exp_coe, ← EReal.coe_one, ← EReal.coe_add, Ideal.div_coe hp, EReal.coe_one, one_mul]
    rw [hs]
    generalize 1 / (1 + Real.exp (-a)) = s
    norm_cast
    ring

/-- An entry whose magnitude is below infinity is a real. -/
theorem real_of_lt {φ : FTy} (x : Ideal φ) (h : FloatOps.cmpf .olt (FloatOps.absf x) (Ideal.ofBits .bf16 0x7F80#16 : Ideal φ) = 1#1) :
    ∃ r : ℝ, (x : EReal) = (r : EReal) := by
  have ht : Ideal.ofBits .bf16 0x7F80#16 = ⊤ := by simp [Ideal.ofBits, Ideal.ieee]
  rw [ht] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

theorem real_sum {n : ℕ} (f : Fin n → EReal) (h : ∀ k, ∃ r : ℝ, f k = (r : EReal)) : ∃ r : ℝ, ∑ k, f k = (r : EReal) := by
  choose g hg using h
  exact ⟨∑ k, g k, by simp only [hg]; exact (map_sum (⟨⟨Real.toEReal, rfl⟩, EReal.coe_add⟩ : ℝ →+ EReal) g Finset.univ).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

end Cert.Gate

namespace Cert.Reference14Ideal.Value
open Cert.Reference14Ideal Cert.Reference14Ideal.Gen

/-- The product's cotangent: of `silu a * b` at `d`, over `b`. -/
abbrev CT (d : FVec Ideal S2048x2048 .bf16) (w : FVec Ideal S5632x2048 .bf16) (b : FVec Ideal S2048x5632 .bf16) : FVec Ideal S2048x5632 .f32 :=
  mulf (Host.dotGeneral dot_S2048x2048_S5632x2048_S2048x5632_1_1_0_0_n_n none (extf .f32 d bitsLt_bf16_f32) (extf .f32 w bitsLt_bf16_f32))
    (extf .f32 b bitsLt_bf16_f32)

abbrev ONE : FVec Ideal S2048x5632 .f32 := broadcastInDim S2048x5632 ![] bcast_S_S2048x5632 (constant S_ .f32 0x3F800000#32)

/-- The sigmoid. -/
abbrev SG (a : FVec Ideal S2048x5632 .bf16) : FVec Ideal S2048x5632 .f32 :=
  Host.divf ONE (addf ONE (Host.exp (Host.negf (extf .f32 a bitsLt_bf16_f32))))

abbrev REF (d : FVec Ideal S2048x2048 .bf16) (w : FVec Ideal S5632x2048 .bf16) (a b : FVec Ideal S2048x5632 .bf16) : FVec Ideal S2048x5632 .bf16 :=
  truncf .bf16 (addf (mulf (CT d w b) (SG a)) (mulf (mulf (extf .f32 a bitsLt_bf16_f32) (CT d w b)) (mulf (SG a) (subf ONE (SG a))))) bitsLt_bf16_f32

/-- The same with the derivative over the sigmoid. -/
abbrev KER (d : FVec Ideal S2048x2048 .bf16) (w : FVec Ideal S5632x2048 .bf16) (a b : FVec Ideal S2048x5632 .bf16) : FVec Ideal S2048x5632 .bf16 :=
  let s : FVec Ideal S2048x5632 .f32 := Host.divf ONE (addf ONE (Host.exp (subf (constant S2048x5632 .f32 0x00000000#32) (extf .f32 a bitsLt_bf16_f32))))
  truncf .bf16 (mulf (CT d w b) (mulf s (addf ONE (mulf (extf .f32 a bitsLt_bf16_f32) (subf ONE s))))) bitsLt_bf16_f32

end Cert.Reference14Ideal.Value

namespace Cert.Kernel14Ideal.Value
open Cert.Kernel14Ideal Cert.Kernel14Ideal.Gen
open Cert.Reference14Ideal.Value (CT ONE SG REF KER)

variable (m : (ℓ : Loc nD τ sig) → Buf (Elt Ideal) ℓ)

theorem idx : ∀ t : Fin cfg0.N, win0_0.index t = ![t.val % 2, 0] ∧ win0_1.index t = ![t.val / 2, 0]
    ∧ win0_2.index t = ![t.val % 2, t.val / 2] ∧ win0_3.index t = ![t.val % 2, t.val / 2] ∧ win0_4.index t = ![t.val % 2, t.val / 2] :=
  (by decide +kernel : ∀ t : Fin grid0.N, _)

theorem finite (h : Cert.Pre_Kernel14Ideal_finite14 (hPre_finite14 := Cert.Pre_finite14.Gen.facts) m) (c : Dev nD) :
    (∀ i, ∃ r : ℝ, m ((c : Thread nD τ).loc main_arg0) i = (r : EReal)) ∧ (∀ i, ∃ r : ℝ, m ((c : Thread nD τ).loc main_arg1) i = (r : EReal))
      ∧ ∀ i, ∃ r : ℝ, m ((c : Thread nD τ).loc main_arg3) i = (r : EReal) := by
  have h := h c
  simp only [Cert.Pre_finite14.fn] at h
  have h := congrFun h (fun k => k.elim0)
  simp only [andi] at h
  obtain ⟨h, h3⟩ := IntOp.andi_eq_one.mp h
  obtain ⟨h0, h1⟩ := IntOp.andi_eq_one.mp h
  exact ⟨fun i => Cert.Gate.real_of_lt _ (Host.reduce_andi_all _ _ _ _ _ h0 i), fun i => Cert.Gate.real_of_lt _ (Host.reduce_andi_all _ _ _ _ _ h1 i),
    fun i => Cert.Gate.real_of_lt _ (Host.reduce_andi_all _ _ _ _ _ h3 i)⟩

/-- The cotangent of the product, at an entry, is a real. -/
theorem real (h : Cert.Pre_Kernel14Ideal_finite14 (hPre_finite14 := Cert.Pre_finite14.Gen.facts) m) (c : Dev nD) (i) :
    ∃ r : ℝ, (CT (m ((c : Thread nD τ).loc main_arg0)) (m ((c : Thread nD τ).loc main_arg1)) (m ((c : Thread nD τ).loc main_arg3)) i : EReal) = (r : EReal) := by
  obtain ⟨h0, h1, h3⟩ := finite m h c
  pointwise [CT]
  exact Cert.Gate.real_mul (Cert.Gate.real_sum _ fun k => Cert.Gate.real_mul (h0 _) (h1 _)) (h3 _)

/-- The reference's arithmetic is the kernel's. -/
theorem forms (h : Cert.Pre_Kernel14Ideal_finite14 (hPre_finite14 := Cert.Pre_finite14.Gen.facts) m) (c : Dev nD) (i) :
    REF (m ((c : Thread nD τ).loc main_arg0)) (m ((c : Thread nD τ).loc main_arg1)) (m ((c : Thread nD τ).loc main_arg2))
        (m ((c : Thread nD τ).loc main_arg3)) i
      = KER (m ((c : Thread nD τ).loc main_arg0)) (m ((c : Thread nD τ).loc main_arg1)) (m ((c : Thread nD τ).loc main_arg2))
        (m ((c : Thread nD τ).loc main_arg3)) i := by
  have e := Cert.Gate.entry _ (m ((c : Thread nD τ).loc main_arg2) i) (real m h c i)
  pointwise [REF, KER, CT, SG, ONE] at e ⊢
  exact e.symm

theorem final (h : Cert.Pre_Kernel14Ideal_finite14 (hPre_finite14 := Cert.Pre_finite14.Gen.facts) m) (c : Dev nD) : (dats m 0 c).arrAt 4 (cfgs 0).N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4, forms m h c]; frame_out
  pointwise [k0_pay4, k0_pay3, k0_pay2, k0_pay1, CT, KER, ONE]
  blk_point [iblk, V, idx t]

end Cert.Kernel14Ideal.Value

namespace Cert.Proof

theorem algebraic14 : Cert.algebraic_Kernel14Ideal_Reference14Ideal_pre_finite14 (hKernel14Ideal := Cert.Kernel14Ideal.Gen.facts)
    (hReference14Ideal := Cert.Reference14Ideal.Gen.facts) (hPre_finite14 := Cert.Pre_finite14.Gen.facts) := fun m ρ m' ρ' hp hag =>
  ⟨_, (θ_run _ _ _).mono (fun _ h c => ⟨(h c).1.trans (Cert.Kernel14Ideal.Value.final m hp c), (h c).2.2⟩)
      (Cert.Kernel14Ideal.Value.run_blocks (F := Ideal) m ρ),
    (θ_run _ _ _).mono (fun _ h c => ⟨(h c).1.trans (by rw [(hag c).1, (hag c).2.1, (hag c).2.2.1, (hag c).2.2.2]), (h c).2⟩)
      (Cert.Reference14Ideal.Value.run (F := Ideal) m' ρ')⟩

end Cert.Proof

end
-- ==== Proof.Loss.lean ====
/- The loss's call: the loss, accumulated over the row blocks, the input's gradient, and the final norm's scale's. -/
module

public import proofs.«01_k».proof.Defs
public import proofs.«01_k».proof.Proof.Gen.Kernel20Ideal.Value
public import proofs.«01_k».proof.Proof.Gen.Reference20Ideal.Run
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.LossEntry

theorem chalf : Ideal.ofBits .f32 0x3F000000#32 = ((1 / 2 : ℝ) : EReal) := by
  simp [Ideal.ofBits, Ideal.ieee, -EReal.coe_mul]; norm_num

theorem ctwo : Ideal.ofBits .f32 0x40000000#32 = ((2 : ℝ) : EReal) := by
  simp [Ideal.ofBits, Ideal.ieee, -EReal.coe_mul]; norm_num

theorem cinv : Ideal.ofBits .f32 0x3A000000#32 = ((1 / 2048 : ℝ) : EReal) := by
  simp [Ideal.ofBits, Ideal.ieee, -EReal.coe_mul]; norm_num

theorem cscale : Ideal.ofBits .f32 0x39800000#32 = ((1 / 4096 : ℝ) : EReal) := by
  simp [Ideal.ofBits, Ideal.ieee, -EReal.coe_mul]; norm_num

/-- The error's cotangent: half the square's derivative, over the row's length. -/
theorem cot (e : EReal) : Ideal.div (Ideal.ofBits .f32 0x3F000000#32) (Ideal.ofBits .f32 0x45000000#32)
    * (Ideal.ofBits .f32 0x40000000#32 * e) = e * Ideal.ofBits .f32 0x3A000000#32 := by
  rw [chalf, ctwo, cinv, NormEntry.c2048, Ideal.div_coe (by norm_num), ← mul_assoc, mul_comm]
  congr 1
  norm_cast
  norm_num

/-- Half a row's mean. -/
theorem mean (s : EReal) : Ideal.ofBits .f32 0x39800000#32 * s
    = Ideal.ofBits .f32 0x3F000000#32 * Ideal.div s (Ideal.ofBits .f32 0x45000000#32) := by
  rw [chalf, cscale, NormEntry.c2048, Ideal.div_coe (by norm_num), mul_left_comm, mul_comm]
  congr 1
  norm_cast
  norm_num

/-- A nonnegative real factor enters a sum. -/
theorem scale {n : ℕ} {p : ℝ} (hp : 0 ≤ p) (f : Fin n → EReal) : (p : EReal) * ∑ k, f k = ∑ k, (p : EReal) * f k := by
  induction n with
  | zero => simp
  | succ n ih =>
    rw [Fin.sum_univ_succ, Fin.sum_univ_succ, ← ih, EReal.left_distrib_of_nonneg_of_ne_top (EReal.coe_nonneg.mpr hp) (EReal.coe_ne_top p)]

theorem half {n : ℕ} (f : Fin n → EReal) : Ideal.ofBits .f32 0x3F000000#32 * ∑ k, f k = ∑ k, Ideal.ofBits .f32 0x3F000000#32 * f k := by
  rw [chalf]; exact scale (by norm_num) f

theorem part {n : ℕ} (f : Fin n → EReal) : Ideal.ofBits .f32 0x39800000#32 * ∑ k, f k
    = ∑ k, Ideal.ofBits .f32 0x3F000000#32 * Ideal.div (f k) (Ideal.ofBits .f32 0x45000000#32) := by
  rw [cscale, scale (by norm_num) f, ← cscale]; exact Finset.sum_congr rfl fun k _ => mean _

/-- The norm's backward at an entry, without a residual. -/
theorem entry {n : ℕ} (h gs : Fin n → EReal) (x g : EReal) :
    Ideal.rsqrt (Ideal.div (∑ k, h k * h k) (Ideal.ofBits .f32 0x45000000#32) + Ideal.ofBits .f32 0x358637BD#32) * g
        - x * (Ideal.rsqrt (Ideal.div (∑ k, h k * h k) (Ideal.ofBits .f32 0x45000000#32) + Ideal.ofBits .f32 0x358637BD#32)
          * Ideal.rsqrt (Ideal.div (∑ k, h k * h k) (Ideal.ofBits .f32 0x45000000#32) + Ideal.ofBits .f32 0x358637BD#32)
          * Ideal.rsqrt (Ideal.div (∑ k, h k * h k) (Ideal.ofBits .f32 0x45000000#32) + Ideal.ofBits .f32 0x358637BD#32)
          * Ideal.div (∑ k, gs k * h k) (Ideal.ofBits .f32 0x45000000#32))
      = g * Ideal.rsqrt (Ideal.div (∑ k, h k * h k) (Ideal.ofBits .f32 0x45000000#32) + Ideal.ofBits .f32 0x358637BD#32)
        + x * Ideal.div ((∑ k, h k * gs k) * (Ideal.ofBits .f32 0xBF000000#32 * Ideal.div (Ideal.rsqrt
          (Ideal.div (∑ k, h k * h k) (Ideal.ofBits .f32 0x45000000#32) + Ideal.ofBits .f32 0x358637BD#32))
          (Ideal.div (∑ k, h k * h k) (Ideal.ofBits .f32 0x45000000#32) + Ideal.ofBits .f32 0x358637BD#32)))
          (Ideal.ofBits .f32 0x45000000#32)
        + Ideal.div ((∑ k, h k * gs k) * (Ideal.ofBits .f32 0xBF000000#32 * Ideal.div (Ideal.rsqrt
          (Ideal.div (∑ k, h k * h k) (Ideal.ofBits .f32 0x45000000#32) + Ideal.ofBits .f32 0x358637BD#32))
          (Ideal.div (∑ k, h k * h k) (Ideal.ofBits .f32 0x45000000#32) + Ideal.ofBits .f32 0x358637BD#32)))
          (Ideal.ofBits .f32 0x45000000#32) * x :=
  (congrArg (· - _) (zero_add _).symm).trans ((NormEntry.entry (by norm_num) NormEntry.c2048 h gs x g 0).trans (zero_add _))

end Cert.LossEntry

namespace Cert.Reference20Ideal.Value
open Cert.Reference20Ideal Cert.Reference20Ideal.Gen
open Cert.Reference16Ideal.Value (MS G X)

/-- The normed input. -/
abbrev HN (h : FVec Ideal S2048x2048 .f32) : FVec Ideal S2048x2048 .f32 :=
  mulf h (broadcastInDim S2048x2048 ![0, 1] bcast_S2048x1_S2048x2048_0_1 (Host.rsqrt (MS h)))

/-- The error. -/
abbrev ERR (h : FVec Ideal S2048x2048 .f32) (w : FVec Ideal S1x2048 .f32) (t : FVec Ideal S2048x2048 .f32) : FVec Ideal S2048x2048 .f32 :=
  subf (mulf (HN h) (broadcastInDim S2048x2048 ![0, 1] bcast_S1x2048_S2048x2048_0_1 w)) t

/-- The normed and scaled input's cotangent. -/
abbrev DY (h : FVec Ideal S2048x2048 .f32) (w : FVec Ideal S1x2048 .f32) (t : FVec Ideal S2048x2048 .f32) : FVec Ideal S2048x2048 .f32 :=
  mulf (broadcastInDim S2048x2048 ![0] bcast_S2048_S2048x2048_0 (Host.divf (broadcastInDim S2048 ![] bcast_S_S2048
    (mulf (constant S_ .f32 0x3F000000#32) (constant S_ .f32 0x3F800000#32))) (broadcastInDim S2048 ![] bcast_S_S2048
    (constant S_ .f32 0x45000000#32)))) (mulf (broadcastInDim S2048x2048 ![] bcast_S_S2048x2048 (constant S_ .f32 0x40000000#32)) (ERR h w t))

/-- The input's gradient. -/
abbrev DH (h : FVec Ideal S2048x2048 .f32) (w : FVec Ideal S1x2048 .f32) (t : FVec Ideal S2048x2048 .f32) : FVec Ideal S2048x2048 .f32 :=
  addf (addf (mulf (G (DY h w t) w) (broadcastInDim S2048x2048 ![0, 1] bcast_S2048x1_S2048x2048_0_1 (Host.rsqrt (MS h))))
    (mulf h (broadcastInDim S2048x2048 ![0] bcast_S2048_S2048x2048_0 (X (DY h w t) h w))))
    (mulf (broadcastInDim S2048x2048 ![0] bcast_S2048_S2048x2048_0 (X (DY h w t) h w)) h)

/-- The scale's gradient. -/
abbrev DW (h : FVec Ideal S2048x2048 .f32) (w : FVec Ideal S1x2048 .f32) (t : FVec Ideal S2048x2048 .f32) : FVec Ideal S1x2048 .f32 :=
  shapeCast _ (Host.reduceAdd (mulf (HN h) (DY h w t)) (constant S_ .f32 0x00000000#32) reducesTo_S2048x2048_S2048_d0 h_S_)
    shapeCasts_S2048_S1x2048

/-- The loss. -/
abbrev LOSS (h : FVec Ideal S2048x2048 .f32) (w : FVec Ideal S1x2048 .f32) (t : FVec Ideal S2048x2048 .f32) : FVec Ideal S1x1 .f32 :=
  shapeCast _ (mulf (constant S_ .f32 0x3F000000#32) (Host.reduceAdd (Host.divf (Host.reduceAdd (mulf (ERR h w t) (ERR h w t))
    (constant S_ .f32 0x00000000#32) reducesTo_S2048x2048_S2048_d1 h_S_) (broadcastInDim S2048 ![] bcast_S_S2048
    (constant S_ .f32 0x45000000#32))) (constant S_ .f32 0x00000000#32) reducesTo_S2048_S_d0 h_S_)) shapeCasts_S_S1x1

end Cert.Reference20Ideal.Value

namespace Cert.Kernel20Ideal.Value
open Cert.Kernel20Ideal Cert.Kernel20Ideal.Gen
open Cert.Reference16Ideal.Value (MS G X)
open Cert.Reference20Ideal.Value (HN ERR DY DH DW LOSS)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

theorem outs (c : Dev nD) (t : Fin cfg0.N) :
    (outsAt0 m c t.val t.isLt).1 = k0_pay8 (iblk m c 0 t) (iblk m c 1 t) (iblk m c 2 t)
      ∧ (outsAt0 m c t.val t.isLt).2.1 = k0_pay9 (iblk m c 0 t) (iblk m c 1 t) (iblk m c 2 t) := by
  have := lt_of_lt_of_eq t.isLt (show cfg0.N = 8 from N_0)
  by_cases h : t.val % 8 = 0
  · rw [outsAt0_A m c t h (by omega)]; constructor <;> frame_out
  · rw [outsAt0_B m c t h (by omega)]; constructor <;> frame_out

theorem narrow (x0 x1 x2 j) : k0_pay9 (F := Ideal) x0 x1 x2 j = k0_pay8 x0 x1 x2 j := by pointwise [k0_pay9]

theorem next (part acc j) : k0_pay2 (F := Ideal) part acc j = acc j + part j := by pointwise [k0_pay2]

theorem nextLoss (sq acc j) : k0_pay3 (F := Ideal) sq acc j = acc j + k0_pay1 sq j := by pointwise [k0_pay3]

/-- A written block, at an entry. -/
theorem value (c : Dev nD) (t : Fin cfg0.N) (y : (win0_3.xblock (grid0.coords t)).Idx) :
    k0_pay8 (iblk m c 0 t) (iblk m c 1 t) (iblk m c 2 t) y = DH (m ((c : Thread nD τ).loc main_arg0))
      (m ((c : Thread nD τ).loc main_arg1)) (m ((c : Thread nD τ).loc main_arg2)) ((win0_3.blk t).view.emb y) := by
  pointwise [k0_pay8, k0_pay7, k0_pay6, k0_pay5, k0_pay4, MS, G, X, HN, ERR, DY, DH]
  refine (Cert.LossEntry.entry _ _ _ _).trans ?_
  simp only [Finset.univ_unique, Finset.sum_singleton, Cert.LossEntry.cot]
  blk_point [iblk, V, idx t]

theorem final3 (c : Dev nD) : (dats m 0 c).arrAt 3 (cfgs 0).N = DH (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3, (outs m c t).1]
  exact value m c t y

theorem final4 (c : Dev nD) : (dats m 0 c).arrAt 4 (cfgs 0).N = truncf .bf16 (DH (m ((c : Thread nD τ).loc main_arg0))
    (m ((c : Thread nD τ).loc main_arg1)) (m ((c : Thread nD τ).loc main_arg2))) bitsLt_bf16_f32 := by
  refine (dats m 0 c).arrAt_eq_of_covers 4 _ (by decide +kernel) fun t _ y => ?_
  blk_simp
  rw [after0_4, (outs m c t).2, narrow]
  exact value m c t y

theorem sum_scale (c : Dev nD) (t : Fin cfg0.N) (h : t.val % 8 = 7) (y) : (outsAt0 m c t.val t.isLt).2.2.1 y
    = ∑ s : Fin 8, k0_pay10 (iblk m c 0 ⟨8 * (t.val / 8) + s.val, Pipeline.run_point_lt_of_flush t h s⟩)
          (iblk m c 1 ⟨8 * (t.val / 8) + s.val, Pipeline.run_point_lt_of_flush t h s⟩)
          (iblk m c 2 ⟨8 * (t.val / 8) + s.val, Pipeline.run_point_lt_of_flush t h s⟩) y :=
  (Cert.Acc.run_sum (fun n h => (outsAt0 m c n h).2.2.1) 8
    (fun t y => k0_pay10 (F := Ideal) (iblk m c 0 t) (iblk m c 1 t) (iblk m c 2 t) y) (fun _ _ => 0)
    (fun t h y => by
      have := lt_of_lt_of_eq t.isLt (show cfg0.N = 8 from N_0)
      rw [outsAt0_A m c t h (by omega)]; frame_out; rw [add_zero])
    (fun t h y => by rw [outsAt0_B m c t h (by omega)]; frame_out; rw [next]) t h y).trans (zero_add _)

theorem sum_loss (c : Dev nD) (t : Fin cfg0.N) (h : t.val % 8 = 7) (y) : (outsAt0 m c t.val t.isLt).2.2.2 y
    = ∑ s : Fin 8, k0_pay1 (k0_pay11 (iblk m c 0 ⟨8 * (t.val / 8) + s.val, Pipeline.run_point_lt_of_flush t h s⟩)
          (iblk m c 1 ⟨8 * (t.val / 8) + s.val, Pipeline.run_point_lt_of_flush t h s⟩)
          (iblk m c 2 ⟨8 * (t.val / 8) + s.val, Pipeline.run_point_lt_of_flush t h s⟩)) y :=
  (Cert.Acc.run_sum (fun n h => (outsAt0 m c n h).2.2.2) 8
    (fun t y => k0_pay1 (F := Ideal) (k0_pay11 (iblk m c 0 t) (iblk m c 1 t) (iblk m c 2 t)) y) (fun _ _ => 0)
    (fun t h y => by
      have := lt_of_lt_of_eq t.isLt (show cfg0.N = 8 from N_0)
      rw [outsAt0_A m c t h (by omega)]; frame_out; rw [add_zero])
    (fun t h y => by rw [outsAt0_B m c t h (by omega)]; frame_out; rw [nextLoss]) t h y).trans (zero_add _)

theorem final5 (c : Dev nD) : (dats m 0 c).arrAt 5 (cfgs 0).N = DW (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp
  have hf' := (flush0_5 t).mp hf
  have hp := fun s => idx ⟨_, Pipeline.run_point_lt_of_flush t hf' s⟩
  rw [after0_5, sum_scale m c t hf']
  pointwise [k0_pay10, k0_pay7, k0_pay6, k0_pay5, k0_pay4, MS, HN, ERR, DY, DW]
  refine Fin.sum_mul_add_congr fun s k hl => ?_
  rw [mul_comm]
  refine Eq.trans ?_ (congrArg _ (Cert.LossEntry.cot _).symm)
  blk_point [iblk, V, idx t, hp s]

theorem final6 (c : Dev nD) : (dats m 0 c).arrAt 6 (cfgs 0).N = LOSS (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp
  have hf' := (flush0_6 t).mp hf
  have hp := fun s => idx ⟨_, Pipeline.run_point_lt_of_flush t hf' s⟩
  rw [after0_6, sum_loss m c t hf']
  pointwise [k0_pay11, k0_pay1, k0_pay6, k0_pay5, k0_pay4, MS, HN, ERR, LOSS]
  rw [Cert.LossEntry.half]
  simp only [Cert.LossEntry.part]
  refine Fin.sum_mul_add_congr fun s k hl => ?_
  blk_point [iblk, V, idx t, hp s]

end Cert.Kernel20Ideal.Value

namespace Cert.Proof

theorem algebraic20 : Cert.algebraic_Kernel20Ideal_Reference20Ideal (hKernel20Ideal := Cert.Kernel20Ideal.Gen.facts)
    (hReference20Ideal := Cert.Reference20Ideal.Gen.facts) := fun m ρ m' ρ' _ hag =>
  ⟨_, _, _, _, (θ_run _ _ _).mono (fun _ h c => ⟨(h c).1.trans (Cert.Kernel20Ideal.Value.final3 m c),
      (h c).2.1.trans (Cert.Kernel20Ideal.Value.final4 m c), (h c).2.2.1.trans (Cert.Kernel20Ideal.Value.final5 m c),
      (h c).2.2.2.1.trans (Cert.Kernel20Ideal.Value.final6 m c), (h c).2.2.2.2⟩)
      (Cert.Kernel20Ideal.Value.run_blocks (F := Ideal) m ρ),
    (θ_run _ _ _).mono (fun _ h c => ⟨(h c).1.trans (by
        unfold Cert.Reference20Ideal.Value.res_main_v48; rw [(hag c).1, (hag c).2.1, (hag c).2.2]),
      (h c).2.1.trans (by unfold Cert.Reference20Ideal.Value.res_main_v49; rw [(hag c).1, (hag c).2.1, (hag c).2.2]),
      (h c).2.2.1.trans (by rw [(hag c).1, (hag c).2.1, (hag c).2.2]),
      (h c).2.2.2.1.trans (by rw [(hag c).1, (hag c).2.1, (hag c).2.2]), (h c).2.2.2.2⟩) (Cert.Reference20Ideal.Value.run (F := Ideal) m' ρ')⟩

end Cert.Proof

end
-- ==== Proof.Merge.lean ====
/- The merge's backward call: the gradients of the attention's and of the recurrence's output. -/
module

public import proofs.«01_k».proof.Defs
public import proofs.«01_k».proof.Proof.Gen.Kernel21Ideal.Value
public import proofs.«01_k».proof.Proof.Gen.Reference21Ideal.Run
public import proofs.«01_k».proof.Proof.Norm
public import Idealize.ShloMosaic.Lib.IdealHost
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference21Ideal.Value
open Cert.Reference21Ideal Cert.Reference21Ideal.Gen

/-- The logistic function. -/
abbrev SG (z : FVec Ideal S2048x2048 .f32) : FVec Ideal S2048x2048 .f32 :=
  Host.divf (broadcastInDim S2048x2048 ![] bcast_S_S2048x2048 (constant S_ .f32 0x3F800000#32))
    (addf (broadcastInDim S2048x2048 ![] bcast_S_S2048x2048 (constant S_ .f32 0x3F800000#32)) (Host.exp (Host.negf z)))

/-- The attention's gradient. -/
abbrev DA (dm : FVec Ideal S2048x2048 .f32) (p : FVec Ideal S2048x12800 .f32) : FVec Ideal S2048x2048 .f32 :=
  mulf (SG (extractStridedSlice S2048x2048 ![0, 8704] p slices_S2048x12800_S2048x2048_0_8704)) (shapeCast _ dm shapeCasts_S2048x2048_S2048x2048)

/-- The mean of a head's squares, plus `1e-6`. -/
abbrev MS (g : FVec Ideal S2048x4x512 .f32) : FVec Ideal S2048x4x1 .f32 :=
  addf (Host.divf (broadcastInDim S2048x4x1 ![0, 1] bcast_S2048x4_S2048x4x1_0_1 (Host.reduceAdd (mulf g g)
    (constant S_ .f32 0x00000000#32) reducesTo_S2048x4x512_S2048x4_d2 h_S_)) (broadcastInDim S2048x4x1 ![] bcast_S_S2048x4x1
    (constant S_ .f32 0x44000000#32))) (broadcastInDim S2048x4x1 ![] bcast_S_S2048x4x1 (constant S_ .f32 0x358637BD#32))

/-- The cotangent of the norm's output, times the scale. -/
abbrev G (dm : FVec Ideal S2048x2048 .f32) (p : FVec Ideal S2048x12800 .f32) (w : FVec Ideal S1x512 .f32) : FVec Ideal S2048x4x512 .f32 :=
  mulf (shapeCast _ (mulf (mulf (SG (extractStridedSlice S2048x2048 ![0, 10752] p slices_S2048x12800_S2048x2048_0_10752))
    (shapeCast _ dm shapeCasts_S2048x2048_S2048x2048)) (mulf (extractStridedSlice S2048x2048 ![0, 6656] p slices_S2048x12800_S2048x2048_0_6656)
    (SG (extractStridedSlice S2048x2048 ![0, 6656] p slices_S2048x12800_S2048x2048_0_6656)))) shapeCasts_S2048x2048_S2048x4x512)
    (broadcastInDim S2048x4x512 ![0, 1, 2] bcast_S1x1x512_S2048x4x512_0_1_2 (broadcastInDim S1x1x512 ![2] bcast_S512_S1x1x512_2
      (shapeCast _ w shapeCasts_S1x512_S512)))

/-- Half the mean of squares' cotangent, per entry of the head. -/
abbrev X (gg g : FVec Ideal S2048x4x512 .f32) : FVec Ideal S2048x4 .f32 :=
  Host.reduceAdd (Host.divf (mulf (shapeCast _ (Host.reduceAdd (mulf g gg) (constant S_ .f32 0x00000000#32)
    reducesTo_S2048x4x512_S2048x4_d2 h_S_) shapeCasts_S2048x4_S2048x4x1) (mulf (broadcastInDim S2048x4x1 ![] bcast_S_S2048x4x1
    (constant S_ .f32 0xBF000000#32)) (Host.divf (Host.rsqrt (MS g)) (MS g)))) (broadcastInDim S2048x4x1 ![] bcast_S_S2048x4x1
    (constant S_ .f32 0x44000000#32))) (constant S_ .f32 0x00000000#32) reducesTo_S2048x4x1_S2048x4_d2 h_S_

/-- The norm's input's cotangent, per head. -/
abbrev DH (gg g : FVec Ideal S2048x4x512 .f32) : FVec Ideal S2048x4x512 .f32 :=
  addf (addf (mulf gg (broadcastInDim S2048x4x512 ![0, 1, 2] bcast_S2048x4x1_S2048x4x512_0_1_2 (Host.rsqrt (MS g))))
    (mulf g (broadcastInDim S2048x4x512 ![0, 1] bcast_S2048x4_S2048x4x512_0_1 (X gg g))))
    (mulf (broadcastInDim S2048x4x512 ![0, 1] bcast_S2048x4_S2048x4x512_0_1 (X gg g)) g)

/-- The recurrence's gradient. -/
abbrev DG (dm go : FVec Ideal S2048x2048 .f32) (p : FVec Ideal S2048x12800 .f32) (w : FVec Ideal S1x512 .f32) : FVec Ideal S2048x2048 .f32 :=
  shapeCast _ (DH (G dm p w) (shapeCast _ go shapeCasts_S2048x2048_S2048x4x512)) shapeCasts_S2048x4x512_S2048x2048

theorem res_eq (m : (ℓ : Loc nD τ sig) → Buf (Elt Ideal) ℓ) (c : Dev nD) : res_main_v61 m c = DG (m ((c : Thread nD τ).loc main_arg0))
    (m ((c : Thread nD τ).loc main_arg2)) (m ((c : Thread nD τ).loc main_arg3)) (m ((c : Thread nD τ).loc main_arg4)) := rfl

end Cert.Reference21Ideal.Value

namespace Cert.Kernel21Ideal.Value
open Cert.Kernel21Ideal Cert.Kernel21Ideal.Gen
open Cert.Reference21Ideal.Value (DA DG)

variable (m : (ℓ : Loc nD τ sig) → Buf (Elt Ideal) ℓ)

theorem idx : ∀ t : Fin cfg0.N, win0_0.index t = ![t.val, 0] ∧ win0_2.index t = ![t.val, 0]
    ∧ win0_3.index t = ![t.val, 13] ∧ win0_4.index t = ![t.val, 14] ∧ win0_5.index t = ![t.val, 15] ∧ win0_6.index t = ![t.val, 16]
    ∧ win0_7.index t = ![t.val, 17] ∧ win0_8.index t = ![t.val, 18] ∧ win0_9.index t = ![t.val, 19] ∧ win0_10.index t = ![t.val, 20]
    ∧ win0_11.index t = ![t.val, 21] ∧ win0_12.index t = ![t.val, 22] ∧ win0_13.index t = ![t.val, 23] ∧ win0_14.index t = ![t.val, 24]
    ∧ win0_15.index t = ![0, 0] ∧ win0_16.index t = ![t.val, 0] ∧ win0_17.index t = ![t.val, 0] :=
  (by decide +kernel : ∀ t : Fin grid0.N, _)

/-- The attention's gradient on one head's columns, at an entry. -/
theorem headA (dm : FVec Ideal S2048x2048 .f32) (p : FVec Ideal S2048x12800 .f32) (v2 v6 : Vec Ideal S256x512 .f32) (x : S256x512.Idx)
    (Y : S2048x2048.Idx) (h2 : v2 x = dm Y) (h6 : v6 x = p (ix2 (Y 0) ⟨8704 + (Y 1).val, by have : (Y 1).val < 2048 := (Y 1).isLt; omega⟩)) :
    k0_pay13 v2 (k0_pay3 v6) x = DA dm p Y := by
  pointwise [k0_pay13, k0_pay3, DA]
  rw [h2, h6, mul_comm, zero_sub]

theorem c512 : Ideal.ofBits .f32 0x44000000#32 = ((512 : ℝ) : EReal) := by
  simp [Ideal.ofBits, Ideal.ieee, -EReal.coe_mul]; norm_num

/-- Column `k` of the head of `Y`, in an array whose heads start at column `o`. -/
abbrev col {n : ℕ} (o : ℕ) (ho : o + 2048 ≤ n) (Y : S2048x2048.Idx) (k : Fin 512) : (⟨2, ![2048, n]⟩ : Shape).Idx :=
  ix2 (Y 0) ⟨o + ((Y 1).val / 512 * 512 + k.val), by have : (Y 1).val < 2048 := (Y 1).isLt; omega⟩

/-- The same with `o = 0`. -/
abbrev col0 (Y : S2048x2048.Idx) (k : Fin 512) : S2048x2048.Idx :=
  ix2 (Y 0) ⟨(Y 1).val / 512 * 512 + k.val, by have : (Y 1).val < 2048 := (Y 1).isLt; omega⟩

/-- The recurrence's gradient on one head's columns, at an entry. -/
theorem headG (dm go : FVec Ideal S2048x2048 .f32) (p : FVec Ideal S2048x12800 .f32) (w : FVec Ideal S1x512 .f32)
    (v0 : Vec Ideal S1x512 .f32) (v2 v4 v5 v14 : Vec Ideal S256x512 .f32) (x : S256x512.Idx)
    (Y : S2048x2048.Idx) (hY : (Y 1).val % 512 = (x 1).val) (h0 : v0 = w)
    (h2 : ∀ k, v2 (ix2 (x 0) k) = dm (col0 Y k)) (h4 : ∀ k, v4 (ix2 (x 0) k) = go (col0 Y k))
    (h5 : ∀ k, v5 (ix2 (x 0) k) = p (col 6656 (by decide) Y k)) (h14 : ∀ k, v14 (ix2 (x 0) k) = p (col 10752 (by decide) Y k)) :
    k0_pay20 v4 (k0_pay8 (k0_pay6 v4) k0_pay7) (k0_pay17 v2 v5 (k0_pay4 v14) (k0_pay5 v5)) (k0_pay19 v0) x = DG dm go p w Y := by
  pointwise [k0_pay20, k0_pay8, k0_pay6, k0_pay7, k0_pay17, k0_pay12, k0_pay11, k0_pay4, k0_pay5, k0_pay19, DG, Cert.Reference21Ideal.Value.DH,
    Cert.Reference21Ideal.Value.G, Cert.Reference21Ideal.Value.X, Cert.Reference21Ideal.Value.MS]
  have hx : x = ix2 (x 0) (x 1) := by funext a; match a with | 0 => rfl | 1 => rfl
  have hv : (Y 1).val / 512 * 512 + (x 1).val = (Y 1).val := by omega
  have hc : col0 Y (x 1) = Y := by funext a; match a with | 0 => rfl | 1 => exact Fin.ext hv
  have hw : (⟨(Y 1).val % 512, Nat.mod_lt _ (by decide)⟩ : Fin 512) = x 1 := Fin.ext hY
  have g2 : v2 x = dm Y := (congrArg v2 hx).trans ((h2 (x 1)).trans (congrArg dm hc))
  have g4 : v4 x = go Y := (congrArg v4 hx).trans ((h4 (x 1)).trans (congrArg go hc))
  have g5 := (congrArg v5 hx).trans (h5 (x 1))
  have g14 := (congrArg v14 hx).trans (h14 (x 1))
  simp only [col, hv] at g5 g14
  have e := fun hh gs a g => Cert.NormEntry.entry (n := 512) (by norm_num) c512 hh gs a g 0
  simp only [zero_add] at e
  simp only [zero_sub, g2, g4, g5, g14, h0, h2, h4, h5, h14, hw, Finset.univ_unique, Finset.sum_singleton, mul_comm (Ideal.div 1 _) (dm _)]
  exact e _ _ _ _

theorem final16 (c : Dev nD) : (dats m 0 c).arrAt 16 (cfgs 0).N = DA (m ((c : Thread nD τ).loc main_arg0))
    (m ((c : Thread nD τ).loc main_arg3)) := by
  refine (dats m 0 c).arrAt_eq_of_covers 16 _ (by decide +kernel) fun t _ y => ?_
  blk_simp
  rw [after0_16]
  have := lt_of_lt_of_eq t.isLt (show cfg0.N = 8 from N_0)
  by_cases h : t.val % 8 = 0
  all_goals
    first | rw [outsAt0_A m c t h (by omega)] | rw [outsAt0_B m c t h (by omega)]
    frame_out
    canon_tiles x hx
    all_goals
      refine headA _ _ _ _ _ _ ?_ ?_ <;> (pointwise; blk_point [iblk, V, idx t])

set_option maxHeartbeats 2000000 in
theorem final17 (c : Dev nD) : (dats m 0 c).arrAt 17 (cfgs 0).N = DG (m ((c : Thread nD τ).loc main_arg0))
    (m ((c : Thread nD τ).loc main_arg2)) (m ((c : Thread nD τ).loc main_arg3)) (m ((c : Thread nD τ).loc main_arg4)) := by
  refine (dats m 0 c).arrAt_eq_of_covers 17 _ (by decide +kernel) fun t _ y => ?_
  blk_simp
  rw [after0_17]
  have := lt_of_lt_of_eq t.isLt (show cfg0.N = 8 from N_0)
  have hy : ((((View.whole main_v0_1).slice (win0_17.rect t)).emb y) 1).val = (y 1).val := by
    show win0_17.index t 1 * 2048 + 1 * (y 1).val = _
    simp [idx t]
  by_cases h : t.val % 8 = 0
  all_goals
    first | rw [outsAt0_A m c t h (by omega)] | rw [outsAt0_B m c t h (by omega)]
    frame_out
    canon_tiles x hx
    all_goals
      refine headG _ _ _ _ _ _ _ _ _ _ _ (by omega) (funext fun j => ?_) (fun k => ?_) (fun k => ?_) (fun k => ?_) (fun k => ?_) <;>
        (simp only [col, col0]; pointwise; blk_point [iblk, V, idx t])

end Cert.Kernel21Ideal.Value

namespace Cert.Proof

theorem algebraic21 : Cert.algebraic_Kernel21Ideal_Reference21Ideal (hKernel21Ideal := Cert.Kernel21Ideal.Gen.facts)
    (hReference21Ideal := Cert.Reference21Ideal.Gen.facts) := fun m ρ m' ρ' _ hag =>
  ⟨_, _, (θ_run _ _ _).mono (fun _ h c => ⟨(h c).1.trans (Cert.Kernel21Ideal.Value.final16 m c),
      (h c).2.1.trans (Cert.Kernel21Ideal.Value.final17 m c), (h c).2.2.2.2⟩) (Cert.Kernel21Ideal.Value.run_blocks (F := Ideal) m ρ),
    (θ_run _ _ _).mono (fun _ h c => ⟨(h c).1.trans (by rw [(hag c).1, (hag c).2.2.2.1]), (h c).2.1.trans (by
        rw [Cert.Reference21Ideal.Value.res_eq, (hag c).1, (hag c).2.2.1, (hag c).2.2.2.1, (hag c).2.2.2.2]), (h c).2.2⟩)
      (Cert.Reference21Ideal.Value.run (F := Ideal) m' ρ')⟩

end Cert.Proof

end
-- ==== Proof.lean ====
module

public import proofs.«01_k».proof.Defs
public import proofs.«01_k».proof.Proof.Run
public import proofs.«01_k».proof.Proof.RefRun
public import proofs.«01_k».proof.Proof.Bridge2
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Pre_finite14
public import proofs.«01_k».proof.Proof.Value2
public import proofs.«01_k».proof.Proof.Values
public import proofs.«01_k».proof.Proof.Ffn
public import proofs.«01_k».proof.Proof.Acc
public import proofs.«01_k».proof.Proof.Small
public import proofs.«01_k».proof.Proof.Norm
public import proofs.«01_k».proof.Proof.Gate
public import proofs.«01_k».proof.Proof.Loss
public import proofs.«01_k».proof.Proof.Merge

@[expose] public section

noncomputable section

namespace Cert.Proof

open Idealize.ShloMosaic Idealize.SL.Sem

theorem frame_kernelIdeal : Cert.quiescent_KernelIdeal (hKernelIdeal := Cert.KernelIdeal.Gen.facts) := fun m ρ _ =>
  Cert.KernelIdeal.Gla.frame (F := Ideal) m ρ

theorem frame_reference : Cert.quiescent_ReferenceIdeal (hReferenceIdeal := Cert.ReferenceIdeal.Gen.facts) := fun m ρ _ =>
  Cert.ReferenceIdeal.Gla.frame (F := Ideal) m ρ

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Pre_finite14.Gen.facts,
    frame_kernel, frame_kernelIdeal, frame_reference,
    fun m ρ _ => Cert.Kernel2.Gen.frame m ρ, fun m ρ _ => Cert.Kernel2Ideal.Gen.frame m ρ,
    fun m ρ _ => (θ_run Cert.Reference2Ideal.defs _ _).mono (fun r h => ⟨fun c => (h c).2, sem_eq_zero_of_no_sems (by decide) r.2⟩)
      (Cert.Reference2Ideal.Value.run (F := Ideal) m ρ),
    fun m ρ _ => Cert.Kernel3.Gen.frame m ρ, fun m ρ _ => Cert.Kernel3Ideal.Gen.frame m ρ,
    fun m ρ _ => (θ_run Cert.Reference3Ideal.defs _ _).mono (fun r h => ⟨fun c => (h c).2, sem_eq_zero_of_no_sems (by decide) r.2⟩)
      (Cert.Reference3Ideal.Value.run (F := Ideal) m ρ),
    fun m ρ _ => Cert.Kernel4.Gen.frame m ρ, fun m ρ _ => Cert.Kernel4Ideal.Gen.frame m ρ,
    fun m ρ _ => (θ_run Cert.Reference4Ideal.defs _ _).mono (fun r h => ⟨fun c => (h c).2, sem_eq_zero_of_no_sems (by decide) r.2⟩)
      (Cert.Reference4Ideal.Value.run (F := Ideal) m ρ),
    fun m ρ _ => Cert.Kernel5.Gen.frame m ρ, fun m ρ _ => Cert.Kernel5Ideal.Gen.frame m ρ,
    fun m ρ _ => (θ_run Cert.Reference5Ideal.defs _ _).mono (fun r h => ⟨fun c => (h c).2, sem_eq_zero_of_no_sems (by decide) r.2⟩)
      (Cert.Reference5Ideal.Value.run (F := Ideal) m ρ),
    fun m ρ _ => Cert.Kernel6.Gen.frame m ρ, fun m ρ _ => Cert.Kernel6Ideal.Gen.frame m ρ,
    fun m ρ _ => (θ_run Cert.Reference6Ideal.defs _ _).mono (fun r h => ⟨fun c => (h c).2, sem_eq_zero_of_no_sems (by decide) r.2⟩)
      (Cert.Reference6Ideal.Value.run (F := Ideal) m ρ),
    fun m ρ _ => Cert.Kernel7.Gen.frame m ρ, fun m ρ _ => Cert.Kernel7Ideal.Gen.frame m ρ,
    fun m ρ _ => (θ_run Cert.Reference7Ideal.defs _ _).mono (fun r h => ⟨fun c => (h c).2, sem_eq_zero_of_no_sems (by decide) r.2⟩)
      (Cert.Reference7Ideal.Value.run (F := Ideal) m ρ),
    fun m ρ _ => Cert.Kernel8.Gen.frame m ρ, fun m ρ _ => Cert.Kernel8Ideal.Gen.frame m ρ,
    fun m ρ _ => (θ_run Cert.Reference8Ideal.defs _ _).mono (fun r h => ⟨fun c => (h c).2, sem_eq_zero_of_no_sems (by decide) r.2⟩)
      (Cert.Reference8Ideal.Value.run (F := Ideal) m ρ),
    fun m ρ _ => Cert.Kernel9.Gen.frame m ρ, fun m ρ _ => Cert.Kernel9Ideal.Gen.frame m ρ,
    fun m ρ _ => (θ_run Cert.Reference9Ideal.defs _ _).mono (fun r h => ⟨fun c => (h c).2, sem_eq_zero_of_no_sems (by decide) r.2⟩)
      (Cert.Reference9Ideal.Value.run (F := Ideal) m ρ),
    fun m ρ _ => Cert.Kernel10.Gen.frame m ρ, fun m ρ _ => Cert.Kernel10Ideal.Gen.frame m ρ,
    fun m ρ _ => (θ_run Cert.Reference10Ideal.defs _ _).mono (fun r h => ⟨fun c => (h c).2, sem_eq_zero_of_no_sems (by decide) r.2⟩)
      (Cert.Reference10Ideal.Value.run (F := Ideal) m ρ),
    fun m ρ _ => Cert.Kernel11.Gen.frame m ρ, fun m ρ _ => Cert.Kernel11Ideal.Gen.frame m ρ,
    fun m ρ _ => (θ_run Cert.Reference11Ideal.defs _ _).mono (fun r h => ⟨fun c => (h c).2.2.2, sem_eq_zero_of_no_sems (by decide) r.2⟩)
      (Cert.Reference11Ideal.Value.run (F := Ideal) m ρ),
    fun m ρ _ => (θ_run Cert.Reference12Ideal.defs _ _).mono (fun r h => ⟨fun c => (h c).2, sem_eq_zero_of_no_sems (by decide) r.2⟩)
      (Cert.Reference12Ideal.Value.run (F := Ideal) m ρ),
    fun m ρ _ => Cert.Kernel13.Gen.frame m ρ, fun m ρ _ => Cert.Kernel13Ideal.Gen.frame m ρ,
    fun m ρ _ => (θ_run Cert.Reference13Ideal.defs _ _).mono (fun r h => ⟨fun c => (h c).2, sem_eq_zero_of_no_sems (by decide) r.2⟩)
      (Cert.Reference13Ideal.Value.run (F := Ideal) m ρ),
    fun m ρ _ => Cert.Kernel14.Gen.frame m ρ, fun m ρ _ => Cert.Kernel14Ideal.Gen.frame m ρ, fun m ρ _ => Cert.Kernel14Ideal.Gen.frame m ρ,
    fun m ρ _ => (θ_run Cert.Reference14Ideal.defs _ _).mono (fun r h => ⟨fun c => (h c).2, sem_eq_zero_of_no_sems (by decide) r.2⟩)
      (Cert.Reference14Ideal.Value.run (F := Ideal) m ρ),
    fun m ρ _ => (θ_run Cert.Reference14Ideal.defs _ _).mono (fun r h => ⟨fun c => (h c).2, sem_eq_zero_of_no_sems (by decide) r.2⟩)
      (Cert.Reference14Ideal.Value.run (F := Ideal) m ρ),
    fun m ρ _ => Cert.Kernel15.Gen.frame m ρ, fun m ρ _ => Cert.Kernel15Ideal.Gen.frame m ρ,
    fun m ρ _ => (θ_run Cert.Reference15Ideal.defs _ _).mono (fun r h => ⟨fun c => (h c).2, sem_eq_zero_of_no_sems (by decide) r.2⟩)
      (Cert.Reference15Ideal.Value.run (F := Ideal) m ρ),
    fun m ρ _ => Cert.Kernel16.Gen.frame m ρ, fun m ρ _ => Cert.Kernel16Ideal.Gen.frame m ρ,
    fun m ρ _ => (θ_run Cert.Reference16Ideal.defs _ _).mono (fun r h => ⟨fun c => (h c).2.2.2, sem_eq_zero_of_no_sems (by decide) r.2⟩)
      (Cert.Reference16Ideal.Value.run (F := Ideal) m ρ),
    fun m ρ _ => Cert.Kernel17.Gen.frame m ρ, fun m ρ _ => Cert.Kernel17Ideal.Gen.frame m ρ,
    fun m ρ _ => (θ_run Cert.Reference17Ideal.defs _ _).mono (fun r h => ⟨fun c => (h c).2, sem_eq_zero_of_no_sems (by decide) r.2⟩)
      (Cert.Reference17Ideal.Value.run (F := Ideal) m ρ),
    fun m ρ _ => Cert.Kernel18.Gen.frame m ρ, fun m ρ _ => Cert.Kernel18Ideal.Gen.frame m ρ,
    fun m ρ _ => (θ_run Cert.Reference18Ideal.defs _ _).mono (fun r h => ⟨fun c => (h c).2, sem_eq_zero_of_no_sems (by decide) r.2⟩)
      (Cert.Reference18Ideal.Value.run (F := Ideal) m ρ),
    fun m ρ _ => Cert.Kernel19.Gen.frame m ρ, fun m ρ _ => Cert.Kernel19Ideal.Gen.frame m ρ,
    fun m ρ _ => (θ_run Cert.Reference19Ideal.defs _ _).mono (fun r h => ⟨fun c => (h c).2, sem_eq_zero_of_no_sems (by decide) r.2⟩)
      (Cert.Reference19Ideal.Value.run (F := Ideal) m ρ),
    fun m ρ _ => Cert.Kernel20.Gen.frame m ρ, fun m ρ _ => Cert.Kernel20Ideal.Gen.frame m ρ,
    fun m ρ _ => (θ_run Cert.Reference20Ideal.defs _ _).mono (fun r h => ⟨fun c => (h c).2.2.2.2, sem_eq_zero_of_no_sems (by decide) r.2⟩)
      (Cert.Reference20Ideal.Value.run (F := Ideal) m ρ),
    fun m ρ _ => Cert.Kernel21.Gen.frame m ρ, fun m ρ _ => Cert.Kernel21Ideal.Gen.frame m ρ,
    fun m ρ _ => (θ_run Cert.Reference21Ideal.defs _ _).mono (fun r h => ⟨fun c => (h c).2.2, sem_eq_zero_of_no_sems (by decide) r.2⟩)
      (Cert.Reference21Ideal.Value.run (F := Ideal) m ρ),
    trivial,
    trivial, algebraic2,
    trivial, algebraic3,
    trivial, algebraic4,
    trivial, algebraic5,
    trivial, algebraic6,
    trivial, algebraic7,
    trivial, algebraic8,
    trivial, algebraic9,
    trivial, algebraic10,
    trivial, algebraic11,
    algebraic12,
    trivial, algebraic13,
    trivial, algebraic14,
    trivial, algebraic15,
    trivial, algebraic16,
    trivial, algebraic17,
    trivial, algebraic18,
    trivial, algebraic19,
    trivial, algebraic20,
    trivial, algebraic21⟩

end Cert.Proof

end
